-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v30)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v51)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v51) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v30)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)) (v2 : (c : Dev Cert.Kernel8Ideal.nD) → Buf (Elt Ideal) ((c.tc : Thread Cert.Kernel8Ideal.nD Cert.Kernel8Ideal.τ).loc Cert.Kernel8Ideal.main_v30_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_1) = v1 c
          ∧ r.2.mem ((c.tc : Thread Cert.Kernel8Ideal.nD Cert.Kernel8Ideal.τ).loc Cert.Kernel8Ideal.main_v30_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v34)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v35)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v35) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_qk.lean ====
abbrev S16384x2816 : Shape := ⟨2, ![16384, 2816]⟩
abbrev S2x512x256 : Shape := ⟨3, ![2, 512, 256]⟩
abbrev S16384x1024 : Shape := ⟨2, ![16384, 1024]⟩
abbrev S_ : Shape := ⟨0, ![]⟩

class Facts : Prop where
  slices_S16384x2816_S16384x1024_0_0 : S16384x2816.Slices ![0, 0] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x512x256 : S_.BroadcastsInDim S2x512x256 (![] : Fin 0 → Fin S2x512x256.rank)
  reducesTo_S2x512x256_S_d0_1_2 : S2x512x256.ReducesTo [0, 1, 2] S_

variable [Facts]

def fn {F : FTy → Type} [FloatOps F] (main_arg0 : FVec F S16384x2816 .bf16) (main_arg1 : FVec F S2x512x256 .bf16) (main_arg2 : FVec F S2x512x256 .bf16) : IVec S_ 1 :=
  let main_v0 : FVec F S16384x1024 .bf16 := (extractStridedSlice S16384x1024 ![0, 0] · slices_S16384x2816_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S2x512x256 .f32 := (extf .f32 · bitsLt_bf16_f32) main_arg1
  let main_v7 : FVec F S2x512x256 .f32 := Host.absf main_v6
  let main_cst_0 : FVec F S_ .f32 := constant S_ .f32 0x7F800000#32
  let main_v8 : FVec F S2x512x256 .f32 := broadcastInDim S2x512x256 ![] bcast_S_S2x512x256 main_cst_0
  let main_v9 : IVec S2x512x256 1 := cmpf .olt main_v7 main_v8
  let main_c_1 : IVec S_ 1 := constantI S_ 1 1#1
  let main_v10 : IVec S_ 1 := (fun x v => Host.reduce IntOp.andi x v reducesTo_S2x512x256_S_d0_1_2 h_S_) main_v9 main_c_1
  let main_v11 : IVec S_ 1 := andi main_v5 main_v10
  main_v11
-- ==== Kernel.lean ====
abbrev S16384x2816 : Shape := ⟨2, ![16384, 2816]⟩
abbrev S2x512x256 : Shape := ⟨3, ![2, 512, 256]⟩
abbrev S16x128 : Shape := ⟨2, ![16, 128]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S128x512 : Shape := ⟨2, ![128, 512]⟩
abbrev S512x512 : Shape := ⟨2, ![512, 512]⟩
abbrev S16384x1024 : Shape := ⟨2, ![16384, 1024]⟩
abbrev S16384x256 : Shape := ⟨2, ![16384, 256]⟩
abbrev S64x16x128 : Shape := ⟨3, ![64, 16, 128]⟩
abbrev S1x512x128 : Shape := ⟨3, ![1, 512, 128]⟩
abbrev S1x16x128 : Shape := ⟨3, ![1, 16, 128]⟩
abbrev S1x512 : Shape := ⟨2, ![1, 512]⟩
abbrev S1x384 : Shape := ⟨2, ![1, 384]⟩
abbrev S512x384 : Shape := ⟨2, ![512, 384]⟩
abbrev S1x384x128 : Shape := ⟨3, ![1, 384, 128]⟩
abbrev S384x128 : Shape := ⟨2, ![384, 128]⟩
abbrev S128x384 : Shape := ⟨2, ![128, 384]⟩
abbrev S1x256 : Shape := ⟨2, ![1, 256]⟩
abbrev S512x256 : Shape := ⟨2, ![512, 256]⟩
abbrev S1x256x128 : Shape := ⟨3, ![1, 256, 128]⟩
abbrev S256x128 : Shape := ⟨2, ![256, 128]⟩
abbrev S128x256 : Shape := ⟨2, ![128, 256]⟩
abbrev S1x128x128 : Shape := ⟨3, ![1, 128, 128]⟩
abbrev S128x128 : Shape := ⟨2, ![128, 128]⟩
abbrev S128x1 : Shape := ⟨2, ![128, 1]⟩
abbrev S16x512 : Shape := ⟨2, ![16, 512]⟩
abbrev S16x256 : Shape := ⟨2, ![16, 256]⟩
abbrev S16 : Shape := ⟨1, ![16]⟩
abbrev S16x1 : Shape := ⟨2, ![16, 1]⟩

abbrev nBuf : Space → Nat
  | .hbm => 57
  | .vmem => 15
  | .smem => 0
  | _ => 0

abbrev bufTy : (tb : Table) → Fin (tcTables nBuf tb) → BufTy
  | .hbm, ⟨0, _⟩ => ⟨S16384x2816, .bf16⟩
  | .hbm, ⟨1, _⟩ => ⟨S2x512x256, .bf16⟩
  | .hbm, ⟨2, _⟩ => ⟨S2x512x256, .bf16⟩
  | .hbm, ⟨3, _⟩ => ⟨S16x128, .bf16⟩
  | .hbm, ⟨4, _⟩ => ⟨S512, .i32⟩
  | .hbm, ⟨5, _⟩ => ⟨S512x1, .i32⟩
  | .hbm, ⟨6, _⟩ => ⟨S_, .i32⟩
  | .hbm, ⟨7, _⟩ => ⟨S512x1, .i32⟩
  | .hbm, ⟨8, _⟩ => ⟨S512x1, .i32⟩
  | .hbm, ⟨9, _⟩ => ⟨S128, .i32⟩
  | .hbm, ⟨10, _⟩ => ⟨S1x128, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S512x1, .i32⟩
  | .hbm, ⟨16, _⟩ => ⟨S512x1, .i32⟩
  | .hbm, ⟨17, _⟩ => ⟨S_, .i32⟩
  | .hbm, ⟨18, _⟩ => ⟨S1x128, .i32⟩
  | .hbm, ⟨19, _⟩ => ⟨S1x128, .i32⟩
  | .hbm, ⟨20, _⟩ => ⟨S512x128, .i32⟩
  | .hbm, ⟨21, _⟩ => ⟨S512x128, .i32⟩
  | .hbm, ⟨22, _⟩ => ⟨S512x128, .i32⟩
  | .hbm, ⟨23, _⟩ => ⟨S512x128, .i32⟩
  | .hbm, ⟨24, _⟩ => ⟨S512x128, .i32⟩
  | .hbm, ⟨25, _⟩ => ⟨S512x128, .i32⟩
  | .hbm, ⟨26, _⟩ => ⟨S512x128, .i32⟩
  | .hbm, ⟨27, _⟩ => ⟨S_, .i32⟩
  | .hbm, ⟨28, _⟩ => ⟨S_, .i32⟩
  | .hbm, ⟨29, _⟩ => ⟨S512x128, .i32⟩
  | .hbm, ⟨30, _⟩ => ⟨S512x128, .i32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512, .i32⟩
  | .hbm, ⟨36, _⟩ => ⟨S512x1, .i32⟩
  | .hbm, ⟨37, _⟩ => ⟨S_, .i32⟩
  | .hbm, ⟨38, _⟩ => ⟨S512x1, .i32⟩
  | .hbm, ⟨39, _⟩ => ⟨S512x1, .i1⟩
  | .hbm, ⟨40, _⟩ => ⟨S_, .f32⟩
  | .hbm, ⟨41, _⟩ => ⟨S_, .f32⟩
  | .hbm, ⟨42, _⟩ => ⟨S512x128, .i1⟩
  | .hbm, ⟨43, _⟩ => ⟨S512x128, .f32⟩
  | .hbm, ⟨44, _⟩ => ⟨S512x128, .f32⟩
  | .hbm, ⟨45, _⟩ => ⟨S128x512, .f32⟩
  | .hbm, ⟨46, _⟩ => ⟨S128x512, .bf16⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .bf16⟩
  | .hbm, ⟨54, _⟩ => ⟨S16384x1024, .f32⟩
  | .hbm, ⟨55, _⟩ => ⟨S16384x256, .bf16⟩
  | .hbm, ⟨56, _⟩ => ⟨S64x16x128, .i32⟩
  | .local _ .vmem, ⟨0, _⟩ => ⟨S512x512, .bf16⟩
  | .local _ .vmem, ⟨1, _⟩ => ⟨S512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S128x512, .bf16⟩
  | .local _ .vmem, ⟨7, _⟩ => ⟨S512x512, .bf16⟩
  | .local _ .vmem, ⟨8, _⟩ => ⟨S16x128, .bf16⟩
  | .local _ .vmem, ⟨9, _⟩ => ⟨S512x512, .f32⟩
  | .local _ .vmem, ⟨10, _⟩ => ⟨S512x512, .f32⟩
  | .local _ .vmem, ⟨11, _⟩ => ⟨S512x128, .bf16⟩
  | .local _ .vmem, ⟨12, _⟩ => ⟨S512x128, .bf16⟩
  | .local _ .vmem, ⟨13, _⟩ => ⟨S1x16x128, .i32⟩
  | .local _ .vmem, ⟨14, _⟩ => ⟨S1x16x128, .i32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c1_i32 : BitVec 32 := 1#32
  let v10 : BitVec 32 := Scalar.addi arg2 c1_i32
  let c512_i32_1 : BitVec 32 := 512#32
  let v11 : BitVec 32 := Scalar.muli v10 c512_i32_1
  let c32_i32 : BitVec 32 := 32#32
  let v12 : BitVec 32 := Scalar.subi v11 c32_i32
  let c0_i32_2 : BitVec 32 := 0#32
  let v14 : BitVec 1 := Scalar.cmpi .sgt v12 c0_i32_2
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c16_i32 : BitVec 32 := 16#32
  let c0_i32_4 : BitVec 32 := 0#32
  let v19 : BitVec 1 := Scalar.cmpi .sgt c16_i32 c0_i32_4
  let v20 : BitVec 32 := Scalar.extui v19
  let c0_i32_5 : BitVec 32 := 0#32
  let v21 : BitVec 1 := Scalar.cmpi .slt c16_i32 c0_i32_5
  let v22 : BitVec 32 := Scalar.extui v21
  let v23 : BitVec 32 := Scalar.subi v20 v22
  let v24 : BitVec 1 := Scalar.cmpi .ne v18 v23
  let v25 : BitVec 32 := Scalar.remsi v12 c16_i32
  let c0_i32_6 : BitVec 32 := 0#32
  let v26 : BitVec 1 := Scalar.cmpi .ne v25 c0_i32_6
  let v27 : BitVec 1 := Scalar.andi v24 v26
  let v13 : BitVec 32 := Scalar.divsi v12 c16_i32
  let c1_i32_7 : BitVec 32 := 1#32
  let v28 : BitVec 32 := Scalar.subi v13 c1_i32_7
  let v29 : BitVec 32 := Scalar.select v27 v28 v13
  let c1_i32_8 : BitVec 32 := 1#32
  let v30 : BitVec 32 := Scalar.addi v29 c1_i32_8
  let c1_i32_9 : BitVec 32 := 1#32
  let v31 : BitVec 32 := Scalar.subi v30 c1_i32_9
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c3_i32 : BitVec 32 := 3#32
  let v49 : BitVec 32 := Scalar.minsi v48 c3_i32
  let c0_i32_16 : BitVec 32 := 0#32
  let v50 : BitVec 32 := Scalar.maxsi v49 c0_i32_16
  let c3_i32_17 : BitVec 32 := 3#32
  let v51 : BitVec 32 := Scalar.minsi v50 c3_i32_17
  let c0_i32_18 : BitVec 32 := 0#32
  let v52 : BitVec 1 := Scalar.cmpi .ne v51 c0_i32_18
  v52

def k0_cond2 (i : grid0.Coords) : BitVec 1 :=
  let arg2 : BitVec 32 := BitVec.ofNat 32 (i 2).val
  let c1_i32 : BitVec 32 := 1#32
  let v10 : BitVec 32 := Scalar.addi arg2 c1_i32
  let c512_i32_1 : BitVec 32 := 512#32
  let v11 : BitVec 32 := Scalar.muli v10 c512_i32_1
  let c32_i32 : BitVec 32 := 32#32
  let v12 : BitVec 32 := Scalar.subi v11 c32_i32
  let c0_i32_2 : BitVec 32 := 0#32
  let v14 : BitVec 1 := Scalar.cmpi .sgt v12 c0_i32_2
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c16_i32 : BitVec 32 := 16#32
  let c0_i32_4 : BitVec 32 := 0#32
  let v19 : BitVec 1 := Scalar.cmpi .sgt c16_i32 c0_i32_4
  let v20 : BitVec 32 := Scalar.extui v19
  let c0_i32_5 : BitVec 32 := 0#32
  let v21 : BitVec 1 := Scalar.cmpi .slt c16_i32 c0_i32_5
  let v22 : BitVec 32 := Scalar.extui v21
  let v23 : BitVec 32 := Scalar.subi v20 v22
  let v24 : BitVec 1 := Scalar.cmpi .ne v18 v23
  let v25 : BitVec 32 := Scalar.remsi v12 c16_i32
  let c0_i32_6 : BitVec 32 := 0#32
  let v26 : BitVec 1 := Scalar.cmpi .ne v25 c0_i32_6
  let v27 : BitVec 1 := Scalar.andi v24 v26
  let v13 : BitVec 32 := Scalar.divsi v12 c16_i32
  let c1_i32_7 : BitVec 32 := 1#32
  let v28 : BitVec 32 := Scalar.subi v13 c1_i32_7
  let v29 : BitVec 32 := Scalar.select v27 v28 v13
  let c1_i32_8 : BitVec 32 := 1#32
  let v30 : BitVec 32 := Scalar.addi v29 c1_i32_8
  let c1_i32_9 : BitVec 32 := 1#32
  let v31 : BitVec 32 := Scalar.subi v30 c1_i32_9
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c3_i32 : BitVec 32 := 3#32
  let v49 : BitVec 32 := Scalar.minsi v48 c3_i32
  let c0_i32_16 : BitVec 32 := 0#32
  let v50 : BitVec 32 := Scalar.maxsi v49 c0_i32_16
  let c3_i32_17 : BitVec 32 := 3#32
  let v51 : BitVec 32 := Scalar.minsi v50 c3_i32_17
  let c1_i32_100 : BitVec 32 := 1#32
  let v347 : BitVec 32 := Scalar.subi v51 c1_i32_100
  let c0_i32_101 : BitVec 32 := 0#32
  let v348 : BitVec 1 := Scalar.cmpi .ne v347 c0_i32_101
  v348

def k0_cond3 (i : grid0.Coords) : BitVec 1 :=
  let arg2 : BitVec 32 := BitVec.ofNat 32 (i 2).val
  let c1_i32 : BitVec 32 := 1#32
  let v10 : BitVec 32 := Scalar.addi arg2 c1_i32
  let c512_i32_1 : BitVec 32 := 512#32
  let v11 : BitVec 32 := Scalar.muli v10 c512_i32_1
  let c32_i32 : BitVec 32 := 32#32
  let v12 : BitVec 32 := Scalar.subi v11 c32_i32
  let c0_i32_2 : BitVec 32 := 0#32
  let v14 : BitVec 1 := Scalar.cmpi .sgt v12 c0_i32_2
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c16_i32 : BitVec 32 := 16#32
  let c0_i32_4 : BitVec 32 := 0#32
  let v19 : BitVec 1 := Scalar.cmpi .sgt c16_i32 c0_i32_4
  let v20 : BitVec 32 := Scalar.extui v19
  let c0_i32_5 : BitVec 32 := 0#32
  let v21 : BitVec 1 := Scalar.cmpi .slt c16_i32 c0_i32_5
  let v22 : BitVec 32 := Scalar.extui v21
  let v23 : BitVec 32 := Scalar.subi v20 v22
  let v24 : BitVec 1 := Scalar.cmpi .ne v18 v23
  let v25 : BitVec 32 := Scalar.remsi v12 c16_i32
  let c0_i32_6 : BitVec 32 := 0#32
  let v26 : BitVec 1 := Scalar.cmpi .ne v25 c0_i32_6
  let v27 : BitVec 1 := Scalar.andi v24 v26
  let v13 : BitVec 32 := Scalar.divsi v12 c16_i32
  let c1_i32_7 : BitVec 32 := 1#32
  let v28 : BitVec 32 := Scalar.subi v13 c1_i32_7
  let v29 : BitVec 32 := Scalar.select v27 v28 v13
  let c1_i32_8 : BitVec 32 := 1#32
  let v30 : BitVec 32 := Scalar.addi v29 c1_i32_8
  let c1_i32_9 : BitVec 32 := 1#32
  let v31 : BitVec 32 := Scalar.subi v30 c1_i32_9
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c3_i32 : BitVec 32 := 3#32
  let v49 : BitVec 32 := Scalar.minsi v48 c3_i32
  let c0_i32_16 : BitVec 32 := 0#32
  let v50 : BitVec 32 := Scalar.maxsi v49 c0_i32_16
  let c3_i32_17 : BitVec 32 := 3#32
  let v51 : BitVec 32 := Scalar.minsi v50 c3_i32_17
  let c1_i32_100 : BitVec 32 := 1#32
  let v347 : BitVec 32 := Scalar.subi v51 c1_i32_100
  let c1_i32_102 : BitVec 32 := 1#32
  let v350 : BitVec 32 := Scalar.subi v347 c1_i32_102
  let c0_i32_103 : BitVec 32 := 0#32
  let v351 : BitVec 1 := Scalar.cmpi .ne v350 c0_i32_103
  v351

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2816 : Shape := ⟨2, ![16384, 2816]⟩
abbrev S2x512x256 : Shape := ⟨3, ![2, 512, 256]⟩
abbrev S8 : Shape := ⟨1, ![8]⟩
abbrev S16384x1024 : Shape := ⟨2, ![16384, 1024]⟩
abbrev S2x8192x2x4x128 : Shape := ⟨5, ![2, 8192, 2, 4, 128]⟩
abbrev S2x511x256 : Shape := ⟨3, ![2, 511, 256]⟩
abbrev S2x511x2x128 : Shape := ⟨4, ![2, 511, 2, 128]⟩
abbrev S2x4 : Shape := ⟨2, ![2, 4]⟩
abbrev S8192 : Shape := ⟨1, ![8192]⟩
abbrev S511 : Shape := ⟨1, ![511]⟩
abbrev S_ : Shape := ⟨0, ![]⟩
abbrev S1x511 : Shape := ⟨2, ![1, 511]⟩
abbrev S8192x1 : Shape := ⟨2, ![8192, 1]⟩
abbrev S8192x511 : Shape := ⟨2, ![8192, 511]⟩
abbrev S2x2x511x8192x4 : Shape := ⟨5, ![2, 2, 511, 8192, 4]⟩
abbrev S2x2x4x8192x511 : Shape := ⟨5, ![2, 2, 4, 8192, 511]⟩
abbrev S2x4x1x1 : Shape := ⟨4, ![2, 4, 1, 1]⟩
abbrev S1x1x8192x511 : Shape := ⟨4, ![1, 1, 8192, 511]⟩
abbrev S2x4x8192x511 : Shape := ⟨4, ![2, 4, 8192, 511]⟩
abbrev S1x2x4x8192x511 : Shape := ⟨5, ![1, 2, 4, 8192, 511]⟩
abbrev S2x2x4x8192 : Shape := ⟨4, ![2, 2, 4, 8192]⟩
abbrev S2x2x4x8192x1 : Shape := ⟨5, ![2, 2, 4, 8192, 1]⟩
abbrev S1x1x1x8192x1 : Shape := ⟨5, ![1, 1, 1, 8192, 1]⟩
abbrev S2x2x128x4x8192 : Shape := ⟨5, ![2, 2, 128, 4, 8192]⟩

abbrev nBuf : Space → Nat
  | .hbm => 80
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2x512x256, .bf16⟩
  | .hbm, ⟨2, _⟩ => ⟨S2x512x256, .bf16⟩
  | .hbm, ⟨3, _⟩ => ⟨S8, .f32⟩
  | .hbm, ⟨4, _⟩ => ⟨S16384x2816, .f32⟩
  | .hbm, ⟨5, _⟩ => ⟨S16384x1024, .f32⟩
  | .hbm, ⟨6, _⟩ => ⟨S2x8192x2x4x128, .f32⟩
  | .hbm, ⟨7, _⟩ => ⟨S2x512x256, .f32⟩
  | .hbm, ⟨8, _⟩ => ⟨S2x511x256, .f32⟩
  | .hbm, ⟨9, _⟩ => ⟨S2x511x2x128, .f32⟩
  | .hbm, ⟨10, _⟩ => ⟨S2x512x256, .f32⟩
  | .hbm, ⟨11, _⟩ => ⟨S2x511x256, .f32⟩
  | .hbm, ⟨12, _⟩ => ⟨S2x511x2x128, .f32⟩
  | .hbm, ⟨13, _⟩ => ⟨S2x4, .f32⟩
  | .hbm, ⟨14, _⟩ => ⟨S8192, .i32⟩
  | .hbm, ⟨15, _⟩ => ⟨S511, .i32⟩
  | .hbm, ⟨16, _⟩ => ⟨S_, .i32⟩
  | .hbm, ⟨17, _⟩ => ⟨S511, .i32⟩
  | .hbm, ⟨18, _⟩ => ⟨S511, .i32⟩
  | .hbm, ⟨19, _⟩ => ⟨S_, .i32⟩
  | .hbm, ⟨20, _⟩ => ⟨S511, .i32⟩
  | .hbm, ⟨21, _⟩ => ⟨S511, .i32⟩
  | .hbm, ⟨22, _⟩ => ⟨S_, .i32⟩
  | .hbm, ⟨23, _⟩ => ⟨S511, .i32⟩
  | .hbm, ⟨24, _⟩ => ⟨S511, .i32⟩
  | .hbm, ⟨25, _⟩ => ⟨S511, .f32⟩
  | .hbm, ⟨26, _⟩ => ⟨S_, .f32⟩
  | .hbm, ⟨27, _⟩ => ⟨S511, .f32⟩
  | .hbm, ⟨28, _⟩ => ⟨S511, .f32⟩
  | .hbm, ⟨29, _⟩ => ⟨S1x511, .i32⟩
  | .hbm, ⟨30, _⟩ => ⟨S8192x1, .i32⟩
  | .hbm, ⟨31, _⟩ => ⟨S8192x511, .i32⟩
  | .hbm, ⟨32, _⟩ => ⟨S8192x511, .i32⟩
  | .hbm, ⟨33, _⟩ => ⟨S8192x511, .i1⟩
  | .hbm, ⟨34, _⟩ => ⟨S2x2x511x8192x4, .f32⟩
  | .hbm, ⟨35, _⟩ => ⟨S2x2x4x8192x511, .f32⟩
  | .hbm, ⟨36, _⟩ => ⟨S2x4x1x1, .f32⟩
  | .hbm, ⟨37, _⟩ => ⟨S8192x1, .i32⟩
  | .hbm, ⟨38, _⟩ => ⟨S8192x1, .f32⟩
  | .hbm, ⟨39, _⟩ => ⟨S1x511, .f32⟩
  | .hbm, ⟨40, _⟩ => ⟨S8192x511, .f32⟩
  | .hbm, ⟨41, _⟩ => ⟨S8192x511, .f32⟩
  | .hbm, ⟨42, _⟩ => ⟨S8192x511, .f32⟩
  | .hbm, ⟨43, _⟩ => ⟨S1x1x8192x511, .f32⟩
  | .hbm, ⟨44, _⟩ => ⟨S2x4x8192x511, .f32⟩
  | .hbm, ⟨45, _⟩ => ⟨S2x4x8192x511, .f32⟩
  | .hbm, ⟨46, _⟩ => ⟨S2x4x8192x511, .f32⟩
  | .hbm, ⟨47, _⟩ => ⟨S1x2x4x8192x511, .f32⟩
  | .hbm, ⟨48, _⟩ => ⟨S2x2x4x8192x511, .f32⟩
  | .hbm, ⟨49, _⟩ => ⟨S2x2x4x8192x511, .f32⟩
  | .hbm, ⟨50, _⟩ => ⟨S_, .f32⟩
  | .hbm, ⟨51, _⟩ => ⟨S_, .f32⟩
  | .hbm, ⟨52, _⟩ => ⟨S2x2x4x8192x511, .i1⟩
  | .hbm, ⟨53, _⟩ => ⟨S2x2x4x8192x511, .f32⟩
  | .hbm, ⟨54, _⟩ => ⟨S2x2x4x8192x511, .f32⟩
  | .hbm, ⟨55, _⟩ => ⟨S_, .f32⟩
  | .hbm, ⟨56, _⟩ => ⟨S2x2x4x8192, .f32⟩
  | .hbm, ⟨57, _⟩ => ⟨S_, .f32⟩
  | .hbm, ⟨58, _⟩ => ⟨S2x2x4x8192, .f32⟩
  | .hbm, ⟨59, _⟩ => ⟨S2x2x4x8192, .f32⟩
  | .hbm, ⟨60, _⟩ => ⟨S2x2x4x8192x1, .f32⟩
  | .hbm, ⟨61, _⟩ => ⟨S2x2x4x8192x511, .f32⟩
  | .hbm, ⟨62, _⟩ => ⟨S2x2x4x8192x511, .f32⟩
  | .hbm, ⟨63, _⟩ => ⟨S2x2x4x8192x511, .f32⟩
  | .hbm, ⟨64, _⟩ => ⟨S_, .f32⟩
  | .hbm, ⟨65, _⟩ => ⟨S2x2x4x8192, .f32⟩
  | .hbm, ⟨66, _⟩ => ⟨S2x2x4x8192x1, .f32⟩
  | .hbm, ⟨67, _⟩ => ⟨S2x2x4x8192x511, .f32⟩
  | .hbm, ⟨68, _⟩ => ⟨S2x2x4x8192x511, .f32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S8192x1, .i1⟩
  | .hbm, ⟨73, _⟩ => ⟨S8192x1, .f32⟩
  | .hbm, ⟨74, _⟩ => ⟨S1x1x1x8192x1, .f32⟩
  | .hbm, ⟨75, _⟩ => ⟨S2x2x4x8192x511, .f32⟩
  | .hbm, ⟨76, _⟩ => ⟨S2x2x4x8192x511, .f32⟩
  | .hbm, ⟨77, _⟩ => ⟨S2x2x128x4x8192, .f32⟩
  | .hbm, ⟨78, _⟩ => ⟨S2x8192x2x4x128, .f32⟩
  | .hbm, ⟨79, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S16384x1024 : Shape := ⟨2, ![16384, 1024]⟩
abbrev S16384x4096 : Shape := ⟨2, ![16384, 4096]⟩
abbrev S2x8192x2048 : Shape := ⟨3, ![2, 8192, 2048]⟩
abbrev S2x8192x256 : Shape := ⟨3, ![2, 8192, 256]⟩
abbrev S2048 : Shape := ⟨1, ![2048]⟩
abbrev S1024x2048 : Shape := ⟨2, ![1024, 2048]⟩
abbrev S2048x2048 : Shape := ⟨2, ![2048, 2048]⟩
abbrev S256x2048 : Shape := ⟨2, ![256, 2048]⟩
abbrev S16384x2048 : Shape := ⟨2, ![16384, 2048]⟩
abbrev S16384x256 : Shape := ⟨2, ![16384, 256]⟩
abbrev S1x2048 : Shape := ⟨2, ![1, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .f32⟩
  | .hbm, ⟨3, _⟩ => ⟨S2x8192x2048, .f32⟩
  | .hbm, ⟨4, _⟩ => ⟨S2x8192x256, .f32⟩
  | .hbm, ⟨5, _⟩ => ⟨S2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S256x2048, .f32⟩
  | .hbm, ⟨11, _⟩ => ⟨S16384x2048, .f32⟩
  | .hbm, ⟨12, _⟩ => ⟨S16384x256, .f32⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S2048x2048, .bf16⟩
  | .hbm, ⟨17, _⟩ => ⟨S256x2048, .bf16⟩
  | .hbm, ⟨18, _⟩ => ⟨S1x2048, .f32⟩
  | .hbm, ⟨19, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S2048x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x1024 : Shape := ⟨2, ![16384, 1024]⟩
abbrev S16384x4096 : Shape := ⟨2, ![16384, 4096]⟩
abbrev S2x8192x2048 : Shape := ⟨3, ![2, 8192, 2048]⟩
abbrev S2x8192x256 : Shape := ⟨3, ![2, 8192, 256]⟩
abbrev S2048 : Shape := ⟨1, ![2048]⟩
abbrev S1024x2048 : Shape := ⟨2, ![1024, 2048]⟩
abbrev S2048x2048 : Shape := ⟨2, ![2048, 2048]⟩
abbrev S256x2048 : Shape := ⟨2, ![256, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x256 : Shape := ⟨2, ![16384, 256]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .f32⟩
  | .hbm, ⟨3, _⟩ => ⟨S2x8192x2048, .f32⟩
  | .hbm, ⟨4, _⟩ => ⟨S2x8192x256, .f32⟩
  | .hbm, ⟨5, _⟩ => ⟨S2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S256x2048, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x256, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel3.lean ====
abbrev S16384x2048 : Shape := ⟨2, ![16384, 2048]⟩
abbrev S2048x11368 : Shape := ⟨2, ![2048, 11368]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 34
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x24, .f32⟩
  | .hbm, ⟨22, _⟩ => ⟨S2048x2816, .f32⟩
  | .hbm, ⟨23, _⟩ => ⟨S2048x2816, .bf16⟩
  | .hbm, ⟨24, _⟩ => ⟨S2048x768, .f32⟩
  | .hbm, ⟨25, _⟩ => ⟨S2048x768, .bf16⟩
  | .hbm, ⟨26, _⟩ => ⟨S2048x1024, .bf16⟩
  | .hbm, ⟨27, _⟩ => ⟨S2048x640, .f32⟩
  | .hbm, ⟨28, _⟩ => ⟨S2048x640, .bf16⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .bf16⟩
  | .hbm, ⟨33, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x11368 : Shape := ⟨2, ![2048, 11368]⟩
abbrev S2048x4096 : Shape := ⟨2, ![2048, 4096]⟩
abbrev S16384x4096 : Shape := ⟨2, ![16384, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S16384x2048, .f32⟩
  | .hbm, ⟨3, _⟩ => ⟨S2048x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S16384x2048 : Shape := ⟨2, ![16384, 2048]⟩
abbrev S2048x11368 : Shape := ⟨2, ![2048, 11368]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 34
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x24, .f32⟩
  | .hbm, ⟨22, _⟩ => ⟨S2048x2816, .f32⟩
  | .hbm, ⟨23, _⟩ => ⟨S2048x2816, .bf16⟩
  | .hbm, ⟨24, _⟩ => ⟨S2048x768, .f32⟩
  | .hbm, ⟨25, _⟩ => ⟨S2048x768, .bf16⟩
  | .hbm, ⟨26, _⟩ => ⟨S2048x1024, .bf16⟩
  | .hbm, ⟨27, _⟩ => ⟨S2048x640, .f32⟩
  | .hbm, ⟨28, _⟩ => ⟨S2048x640, .bf16⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .bf16⟩
  | .hbm, ⟨33, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x11368 : Shape := ⟨2, ![2048, 11368]⟩
abbrev S16384x11368 : Shape := ⟨2, ![16384, 11368]⟩
abbrev S16384x1024 : Shape := ⟨2, ![16384, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S16384x2048, .f32⟩
  | .hbm, ⟨3, _⟩ => ⟨S16384x11368, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel5.lean ====
abbrev S16384x2048 : Shape := ⟨2, ![16384, 2048]⟩
abbrev S2048x11368 : Shape := ⟨2, ![2048, 11368]⟩
abbrev S128 : Shape := ⟨1, ![128]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S2816 : Shape := ⟨1, ![2816]⟩
abbrev S1x2816 : Shape := ⟨2, ![1, 2816]⟩
abbrev S16384x2816 : Shape := ⟨2, ![16384, 2816]⟩
abbrev S1024x2048 : Shape := ⟨2, ![1024, 2048]⟩
abbrev S2048x1408 : Shape := ⟨2, ![2048, 1408]⟩
abbrev S1x1408 : Shape := ⟨2, ![1, 1408]⟩
abbrev S1024x1408 : Shape := ⟨2, ![1024, 1408]⟩
abbrev S1024x128 : Shape := ⟨2, ![1024, 128]⟩
abbrev S1024x1 : Shape := ⟨2, ![1024, 1]⟩

abbrev nBuf : Space → Nat
  | .hbm => 62
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x24, .f32⟩
  | .hbm, ⟨15, _⟩ => ⟨S2048x1024, .f32⟩
  | .hbm, ⟨16, _⟩ => ⟨S2048x1024, .f32⟩
  | .hbm, ⟨17, _⟩ => ⟨S2048x256, .f32⟩
  | .hbm, ⟨18, _⟩ => ⟨S2048x256, .f32⟩
  | .hbm, ⟨19, _⟩ => ⟨S2048x1024, .f32⟩
  | .hbm, ⟨20, _⟩ => ⟨S2048x64, .f32⟩
  | .hbm, ⟨21, _⟩ => ⟨S2048x16, .f32⟩
  | .hbm, ⟨22, _⟩ => ⟨S2048x1024, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x24, .f32⟩
  | .hbm, ⟨27, _⟩ => ⟨S2048x2816, .f32⟩
  | .hbm, ⟨28, _⟩ => ⟨S2048x2816, .bf16⟩
  | .hbm, ⟨29, _⟩ => ⟨S2048x768, .f32⟩
  | .hbm, ⟨30, _⟩ => ⟨S2048x768, .bf16⟩
  | .hbm, ⟨31, _⟩ => ⟨S2048x1024, .bf16⟩
  | .hbm, ⟨32, _⟩ => ⟨S2048x640, .f32⟩
  | .hbm, ⟨33, _⟩ => ⟨S2048x640, .bf16⟩
  | .hbm, ⟨34, _⟩ => ⟨S2048x2048, .f32⟩
  | .hbm, ⟨35, _⟩ => ⟨S2048x2048, .bf16⟩
  | .hbm, ⟨36, _⟩ => ⟨S2048x4096, .f32⟩
  | .hbm, ⟨37, _⟩ => ⟨S2048x4096, .bf16⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S8x128, .f32⟩
  | .hbm, ⟨43, _⟩ => ⟨S1024, .f32⟩
  | .hbm, ⟨44, _⟩ => ⟨S1x128, .f32⟩
  | .hbm, ⟨45, _⟩ => ⟨S2x128, .f32⟩
  | .hbm, ⟨46, _⟩ => ⟨S256, .f32⟩
  | .hbm, ⟨47, _⟩ => ⟨S1x128, .f32⟩
  | .hbm, ⟨48, _⟩ => ⟨S2x128, .f32⟩
  | .hbm, ⟨49, _⟩ => ⟨S256, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S8x128, .f32⟩
  | .hbm, ⟨55, _⟩ => ⟨S1024, .f32⟩
  | .hbm, ⟨56, _⟩ => ⟨S1x128, .f32⟩
  | .hbm, ⟨57, _⟩ => ⟨S2x128, .f32⟩
  | .hbm, ⟨58, _⟩ => ⟨S256, .f32⟩
  | .hbm, ⟨59, _⟩ => ⟨S2816, .f32⟩
  | .hbm, ⟨60, _⟩ => ⟨S1x2816, .f32⟩
  | .hbm, ⟨61, _⟩ => ⟨S16384x2816, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1408, .f32⟩
  | .local _ .vmem, ⟨5, _⟩ => ⟨S1x1408, .f32⟩
  | .local _ .vmem, ⟨6, _⟩ => ⟨S1024x1408, .bf16⟩
  | .local _ .vmem, ⟨7, _⟩ => ⟨S1024x1408, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048x11368 : Shape := ⟨2, ![2048, 11368]⟩
abbrev S128 : Shape := ⟨1, ![128]⟩
abbrev S16384x11368 : Shape := ⟨2, ![16384, 11368]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384x256 : Shape := ⟨2, ![16384, 256]⟩
abbrev S16384x2x128 : Shape := ⟨3, ![16384, 2, 128]⟩
abbrev S16384x2 : Shape := ⟨2, ![16384, 2]⟩
abbrev S16384x2x1 : Shape := ⟨3, ![16384, 2, 1]⟩
abbrev S16384x2816 : Shape := ⟨2, ![16384, 2816]⟩

abbrev nBuf : Space → Nat
  | .hbm => 112
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S16384x2048, .f32⟩
  | .hbm, ⟨8, _⟩ => ⟨S16384x11368, .f32⟩
  | .hbm, ⟨9, _⟩ => ⟨S16384x1024, .f32⟩
  | .hbm, ⟨10, _⟩ => ⟨S16384x8x128, .f32⟩
  | .hbm, ⟨11, _⟩ => ⟨S16384x8x128, .f32⟩
  | .hbm, ⟨12, _⟩ => ⟨S_, .f32⟩
  | .hbm, ⟨13, _⟩ => ⟨S16384x8, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x1, .f32⟩
  | .hbm, ⟨22, _⟩ => ⟨S16384x8x128, .f32⟩
  | .hbm, ⟨23, _⟩ => ⟨S16384x8x128, .f32⟩
  | .hbm, ⟨24, _⟩ => ⟨S1x1x128, .f32⟩
  | .hbm, ⟨25, _⟩ => ⟨S16384x8x128, .f32⟩
  | .hbm, ⟨26, _⟩ => ⟨S16384x8x128, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x256, .f32⟩
  | .hbm, ⟨32, _⟩ => ⟨S16384x2x128, .f32⟩
  | .hbm, ⟨33, _⟩ => ⟨S16384x2x128, .f32⟩
  | .hbm, ⟨34, _⟩ => ⟨S_, .f32⟩
  | .hbm, ⟨35, _⟩ => ⟨S16384x2, .f32⟩
  | .hbm, ⟨36, _⟩ => ⟨S16384x2x1, .f32⟩
  | .hbm, ⟨37, _⟩ => ⟨S_, .f32⟩
  | .hbm, ⟨38, _⟩ => ⟨S16384x2x1, .f32⟩
  | .hbm, ⟨39, _⟩ => ⟨S16384x2x1, .f32⟩
  | .hbm, ⟨40, _⟩ => ⟨S_, .f32⟩
  | .hbm, ⟨41, _⟩ => ⟨S16384x2x1, .f32⟩
  | .hbm, ⟨42, _⟩ => ⟨S16384x2x1, .f32⟩
  | .hbm, ⟨43, _⟩ => ⟨S16384x2x1, .f32⟩
  | .hbm, ⟨44, _⟩ => ⟨S16384x2x128, .f32⟩
  | .hbm, ⟨45, _⟩ => ⟨S16384x2x128, .f32⟩
  | .hbm, ⟨46, _⟩ => ⟨S1x1x128, .f32⟩
  | .hbm, ⟨47, _⟩ => ⟨S16384x2x128, .f32⟩
  | .hbm, ⟨48, _⟩ => ⟨S16384x2x128, .f32⟩
  | .hbm, ⟨49, _⟩ => ⟨S16384x256, .f32⟩
  | .hbm, ⟨50, _⟩ => ⟨S16384x256, .f32⟩
  | .hbm, ⟨51, _⟩ => ⟨S16384x2x128, .f32⟩
  | .hbm, ⟨52, _⟩ => ⟨S16384x2x128, .f32⟩
  | .hbm, ⟨53, _⟩ => ⟨S_, .f32⟩
  | .hbm, ⟨54, _⟩ => ⟨S16384x2, .f32⟩
  | .hbm, ⟨55, _⟩ => ⟨S16384x2x1, .f32⟩
  | .hbm, ⟨56, _⟩ => ⟨S_, .f32⟩
  | .hbm, ⟨57, _⟩ => ⟨S16384x2x1, .f32⟩
  | .hbm, ⟨58, _⟩ => ⟨S16384x2x1, .f32⟩
  | .hbm, ⟨59, _⟩ => ⟨S_, .f32⟩
  | .hbm, ⟨60, _⟩ => ⟨S16384x2x1, .f32⟩
  | .hbm, ⟨61, _⟩ => ⟨S16384x2x1, .f32⟩
  | .hbm, ⟨62, _⟩ => ⟨S16384x2x1, .f32⟩
  | .hbm, ⟨63, _⟩ => ⟨S16384x2x128, .f32⟩
  | .hbm, ⟨64, _⟩ => ⟨S16384x2x128, .f32⟩
  | .hbm, ⟨65, _⟩ => ⟨S1x1x128, .f32⟩
  | .hbm, ⟨66, _⟩ => ⟨S16384x2x128, .f32⟩
  | .hbm, ⟨67, _⟩ => ⟨S16384x2x128, .f32⟩
  | .hbm, ⟨68, _⟩ => ⟨S16384x256, .f32⟩
  | .hbm, ⟨69, _⟩ => ⟨S16384x1024, .f32⟩
  | .hbm, ⟨70, _⟩ => ⟨S16384x8x128, .f32⟩
  | .hbm, ⟨71, _⟩ => ⟨S16384x8x128, .f32⟩
  | .hbm, ⟨72, _⟩ => ⟨S_, .f32⟩
  | .hbm, ⟨73, _⟩ => ⟨S16384x8, .f32⟩
  | .hbm, ⟨74, _⟩ => ⟨S16384x8x1, .f32⟩
  | .hbm, ⟨75, _⟩ => ⟨S_, .f32⟩
  | .hbm, ⟨76, _⟩ => ⟨S16384x8x1, .f32⟩
  | .hbm, ⟨77, _⟩ => ⟨S16384x8x1, .f32⟩
  | .hbm, ⟨78, _⟩ => ⟨S_, .f32⟩
  | .hbm, ⟨79, _⟩ => ⟨S16384x8x1, .f32⟩
  | .hbm, ⟨80, _⟩ => ⟨S16384x8x1, .f32⟩
  | .hbm, ⟨81, _⟩ => ⟨S16384x8x1, .f32⟩
  | .hbm, ⟨82, _⟩ => ⟨S16384x8x128, .f32⟩
  | .hbm, ⟨83, _⟩ => ⟨S16384x8x128, .f32⟩
  | .hbm, ⟨84, _⟩ => ⟨S1x1x128, .f32⟩
  | .hbm, ⟨85, _⟩ => ⟨S16384x8x128, .f32⟩
  | .hbm, ⟨86, _⟩ => ⟨S16384x8x128, .f32⟩
  | .hbm, ⟨87, _⟩ => ⟨S16384x1024, .f32⟩
  | .hbm, ⟨88, _⟩ => ⟨S_, .f32⟩
  | .hbm, ⟨89, _⟩ => ⟨S16384x1024, .f32⟩
  | .hbm, ⟨90, _⟩ => ⟨S16384x1024, .f32⟩
  | .hbm, ⟨91, _⟩ => ⟨S16384x256, .f32⟩
  | .hbm, ⟨92, _⟩ => ⟨S16384x2x128, .f32⟩
  | .hbm, ⟨93, _⟩ => ⟨S16384x2x128, .f32⟩
  | .hbm, ⟨94, _⟩ => ⟨S_, .f32⟩
  | .hbm, ⟨95, _⟩ => ⟨S16384x2, .f32⟩
  | .hbm, ⟨96, _⟩ => ⟨S16384x2x1, .f32⟩
  | .hbm, ⟨97, _⟩ => ⟨S_, .f32⟩
  | .hbm, ⟨98, _⟩ => ⟨S16384x2x1, .f32⟩
  | .hbm, ⟨99, _⟩ => ⟨S16384x2x1, .f32⟩
  | .hbm, ⟨100, _⟩ => ⟨S_, .f32⟩
  | .hbm, ⟨101, _⟩ => ⟨S16384x2x1, .f32⟩
  | .hbm, ⟨102, _⟩ => ⟨S16384x2x1, .f32⟩
  | .hbm, ⟨103, _⟩ => ⟨S16384x2x1, .f32⟩
  | .hbm, ⟨104, _⟩ => ⟨S16384x2x128, .f32⟩
  | .hbm, ⟨105, _⟩ => ⟨S16384x2x128, .f32⟩
  | .hbm, ⟨106, _⟩ => ⟨S1x1x128, .f32⟩
  | .hbm, ⟨107, _⟩ => ⟨S16384x2x128, .f32⟩
  | .hbm, ⟨108, _⟩ => ⟨S16384x2x128, .f32⟩
  | .hbm, ⟨109, _⟩ => ⟨S16384x256, .f32⟩
  | .hbm, ⟨110, _⟩ => ⟨S16384x2816, .f32⟩
  | .hbm, ⟨111, _⟩ => ⟨S16384x2816, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== Kernel6.lean ====
abbrev S16384x2048 : Shape := ⟨2, ![16384, 2048]⟩
abbrev S2048x11368 : Shape := ⟨2, ![2048, 11368]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S16384x768 : Shape := ⟨2, ![16384, 768]⟩
abbrev S1024x2048 : Shape := ⟨2, ![1024, 2048]⟩
abbrev S1024x768 : Shape := ⟨2, ![1024, 768]⟩

abbrev nBuf : Space → Nat
  | .hbm => 34
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x24, .f32⟩
  | .hbm, ⟨22, _⟩ => ⟨S2048x2816, .f32⟩
  | .hbm, ⟨23, _⟩ => ⟨S2048x2816, .bf16⟩
  | .hbm, ⟨24, _⟩ => ⟨S2048x768, .f32⟩
  | .hbm, ⟨25, _⟩ => ⟨S2048x768, .bf16⟩
  | .hbm, ⟨26, _⟩ => ⟨S2048x1024, .bf16⟩
  | .hbm, ⟨27, _⟩ => ⟨S2048x640, .f32⟩
  | .hbm, ⟨28, _⟩ => ⟨S2048x640, .bf16⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .bf16⟩
  | .hbm, ⟨33, _⟩ => ⟨S16384x768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S1024x768, .bf16⟩
  | .local _ .vmem, ⟨4, _⟩ => ⟨S1024x768, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x11368 : Shape := ⟨2, ![2048, 11368]⟩
abbrev S16384x11368 : Shape := ⟨2, ![16384, 11368]⟩
abbrev S16384x256 : Shape := ⟨2, ![16384, 256]⟩
abbrev S16384x768 : Shape := ⟨2, ![16384, 768]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S16384x2048, .f32⟩
  | .hbm, ⟨3, _⟩ => ⟨S16384x11368, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x768, .f32⟩
  | .hbm, ⟨8, _⟩ => ⟨S16384x768, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S16384x2048 : Shape := ⟨2, ![16384, 2048]⟩
abbrev S2048x11368 : Shape := ⟨2, ![2048, 11368]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S2x16x8192x64 : Shape := ⟨4, ![2, 16, 8192, 64]⟩
abbrev S1024x2048 : Shape := ⟨2, ![1024, 2048]⟩
abbrev S1x16x1024x64 : Shape := ⟨4, ![1, 16, 1024, 64]⟩
abbrev S1024x1024 : Shape := ⟨2, ![1024, 1024]⟩
abbrev S1024x64 : Shape := ⟨2, ![1024, 64]⟩
abbrev S1x1x1024x64 : Shape := ⟨4, ![1, 1, 1024, 64]⟩

abbrev nBuf : Space → Nat
  | .hbm => 34
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x24, .f32⟩
  | .hbm, ⟨22, _⟩ => ⟨S2048x2816, .f32⟩
  | .hbm, ⟨23, _⟩ => ⟨S2048x2816, .bf16⟩
  | .hbm, ⟨24, _⟩ => ⟨S2048x768, .f32⟩
  | .hbm, ⟨25, _⟩ => ⟨S2048x768, .bf16⟩
  | .hbm, ⟨26, _⟩ => ⟨S2048x1024, .bf16⟩
  | .hbm, ⟨27, _⟩ => ⟨S2048x640, .f32⟩
  | .hbm, ⟨28, _⟩ => ⟨S2048x640, .bf16⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .bf16⟩
  | .hbm, ⟨33, _⟩ => ⟨S2x16x8192x64, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x16x1024x64, .bf16⟩
  | .local _ .vmem, ⟨4, _⟩ => ⟨S1x16x1024x64, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x2048 : Shape := ⟨2, ![16384, 2048]⟩
abbrev S2048x11368 : Shape := ⟨2, ![2048, 11368]⟩
abbrev S16384x11368 : Shape := ⟨2, ![16384, 11368]⟩
abbrev S16384x1024 : Shape := ⟨2, ![16384, 1024]⟩
abbrev S2x8192x16x64 : Shape := ⟨4, ![2, 8192, 16, 64]⟩
abbrev S2x16x8192x64 : Shape := ⟨4, ![2, 16, 8192, 64]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S16384x2048, .f32⟩
  | .hbm, ⟨3, _⟩ => ⟨S16384x11368, .f32⟩
  | .hbm, ⟨4, _⟩ => ⟨S16384x1024, .f32⟩
  | .hbm, ⟨5, _⟩ => ⟨S2x8192x16x64, .f32⟩
  | .hbm, ⟨6, _⟩ => ⟨S2x16x8192x64, .f32⟩
  | .hbm, ⟨7, _⟩ => ⟨S2x16x8192x64, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S16384x2048 : Shape := ⟨2, ![16384, 2048]⟩
abbrev S2048x11368 : Shape := ⟨2, ![2048, 11368]⟩
abbrev S2048x1024 : Shape := ⟨2, ![2048, 1024]⟩
abbrev S2048x256 : Shape := ⟨2, ![2048, 256]⟩
abbrev S2048x24 : Shape := ⟨2, ![2048, 24]⟩
abbrev S2048x64 : Shape := ⟨2, ![2048, 64]⟩
abbrev S2048x16 : Shape := ⟨2, ![2048, 16]⟩
abbrev S2048x2048 : Shape := ⟨2, ![2048, 2048]⟩
abbrev S_ : Shape := ⟨0, ![]⟩
abbrev S2048x2816 : Shape := ⟨2, ![2048, 2816]⟩
abbrev S2048x768 : Shape := ⟨2, ![2048, 768]⟩
abbrev S2048x640 : Shape := ⟨2, ![2048, 640]⟩
abbrev S2048x4096 : Shape := ⟨2, ![2048, 4096]⟩
abbrev S16384x256 : Shape := ⟨2, ![16384, 256]⟩
abbrev S16384x128 : Shape := ⟨2, ![16384, 128]⟩
abbrev S1024x2048 : Shape := ⟨2, ![1024, 2048]⟩
abbrev S1024x256 : Shape := ⟨2, ![1024, 256]⟩
abbrev S1024x128 : Shape := ⟨2, ![1024, 128]⟩
abbrev S1024x640 : Shape := ⟨2, ![1024, 640]⟩

abbrev nBuf : Space → Nat
  | .hbm => 36
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x24, .f32⟩
  | .hbm, ⟨22, _⟩ => ⟨S2048x2816, .f32⟩
  | .hbm, ⟨23, _⟩ => ⟨S2048x2816, .bf16⟩
  | .hbm, ⟨24, _⟩ => ⟨S2048x768, .f32⟩
  | .hbm, ⟨25, _⟩ => ⟨S2048x768, .bf16⟩
  | .hbm, ⟨26, _⟩ => ⟨S2048x1024, .bf16⟩
  | .hbm, ⟨27, _⟩ => ⟨S2048x640, .f32⟩
  | .hbm, ⟨28, _⟩ => ⟨S2048x640, .bf16⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .bf16⟩
  | .hbm, ⟨33, _⟩ => ⟨S16384x256, .f32⟩
  | .hbm, ⟨34, _⟩ => ⟨S16384x256, .f32⟩
  | .hbm, ⟨35, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x128, .f32⟩
  | .local _ .vmem, ⟨8, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30_0 : Ref sig .tc := ⟨.hbm, 33, rfl⟩
abbrev main_v30_1 : Ref sig .tc := ⟨.hbm, 34, rfl⟩
abbrev main_v30_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x2048 : Shape := ⟨2, ![16384, 2048]⟩
abbrev S2048x11368 : Shape := ⟨2, ![2048, 11368]⟩
abbrev S16384x11368 : Shape := ⟨2, ![16384, 11368]⟩
abbrev S16384x80 : Shape := ⟨2, ![16384, 80]⟩
abbrev S16384x24 : Shape := ⟨2, ![16384, 24]⟩
abbrev S_ : Shape := ⟨0, ![]⟩
abbrev S16384x128 : Shape := ⟨2, ![16384, 128]⟩
abbrev S16384x256 : Shape := ⟨2, ![16384, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11368, .f32⟩
  | .hbm, ⟨2, _⟩ => ⟨S16384x2048, .f32⟩
  | .hbm, ⟨3, _⟩ => ⟨S16384x11368, .f32⟩
  | .hbm, ⟨4, _⟩ => ⟨S16384x80, .f32⟩
  | .hbm, ⟨5, _⟩ => ⟨S16384x24, .f32⟩
  | .hbm, ⟨6, _⟩ => ⟨S_, .f32⟩
  | .hbm, ⟨7, _⟩ => ⟨S16384x24, .f32⟩
  | .hbm, ⟨8, _⟩ => ⟨S16384x128, .f32⟩
  | .hbm, ⟨9, _⟩ => ⟨S16384x256, .f32⟩
  | .hbm, ⟨10, _⟩ => ⟨S16384x256, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | .hbm, ⟨19, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel10.lean ====
abbrev S16384x256 : Shape := ⟨2, ![16384, 256]⟩
abbrev S32x128 : Shape := ⟨2, ![32, 128]⟩
abbrev S4096x256 : Shape := ⟨2, ![4096, 256]⟩
abbrev S256x128 : Shape := ⟨2, ![256, 128]⟩
abbrev S128 : Shape := ⟨1, ![128]⟩
abbrev S1024x4096 : Shape := ⟨2, ![1024, 4096]⟩
abbrev S32x128x256 : Shape := ⟨3, ![32, 128, 256]⟩
abbrev S2x2 : Shape := ⟨2, ![2, 2]⟩
abbrev S_ : Shape := ⟨0, ![]⟩
abbrev S16x128 : Shape := ⟨2, ![16, 128]⟩
abbrev S16x1x128 : Shape := ⟨3, ![16, 1, 128]⟩
abbrev S16x2x128 : Shape := ⟨3, ![16, 2, 128]⟩
abbrev S1x4096 : Shape := ⟨2, ![1, 4096]⟩
abbrev S16x128x256 : Shape := ⟨3, ![16, 128, 256]⟩
abbrev S16x1x128x1x256 : Shape := ⟨5, ![16, 1, 128, 1, 256]⟩
abbrev S1x2x1x2x1 : Shape := ⟨5, ![1, 2, 1, 2, 1]⟩
abbrev S16x2x128x2x256 : Shape := ⟨5, ![16, 2, 128, 2, 256]⟩
abbrev S4096x512 : Shape := ⟨2, ![4096, 512]⟩
abbrev S1x128 : Shape := ⟨2, ![1, 128]⟩
abbrev S2x512x256 : Shape := ⟨3, ![2, 512, 256]⟩
abbrev S512x4096 : Shape := ⟨2, ![512, 4096]⟩
abbrev S1x512x256 : Shape := ⟨3, ![1, 512, 256]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 41
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S128, .f32⟩
  | .hbm, ⟨5, _⟩ => ⟨S1024x4096, .f32⟩
  | .hbm, ⟨6, _⟩ => ⟨S32x128x256, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S16x128, .f32⟩
  | .hbm, ⟨15, _⟩ => ⟨S16x1x128, .f32⟩
  | .hbm, ⟨16, _⟩ => ⟨S16x2x128, .f32⟩
  | .hbm, ⟨17, _⟩ => ⟨S1x4096, .f32⟩
  | .hbm, ⟨18, _⟩ => ⟨S16x128, .f32⟩
  | .hbm, ⟨19, _⟩ => ⟨S16x1x128, .f32⟩
  | .hbm, ⟨20, _⟩ => ⟨S16x2x128, .f32⟩
  | .hbm, ⟨21, _⟩ => ⟨S1x4096, .f32⟩
  | .hbm, ⟨22, _⟩ => ⟨S16x128x256, .f32⟩
  | .hbm, ⟨23, _⟩ => ⟨S16x1x128x1x256, .f32⟩
  | .hbm, ⟨24, _⟩ => ⟨S1x2x1x2x1, .f32⟩
  | .hbm, ⟨25, _⟩ => ⟨S16x2x128x2x256, .f32⟩
  | .hbm, ⟨26, _⟩ => ⟨S16x2x128x2x256, .f32⟩
  | .hbm, ⟨27, _⟩ => ⟨S16x2x128x2x256, .f32⟩
  | .hbm, ⟨28, _⟩ => ⟨S4096x512, .f32⟩
  | .hbm, ⟨29, _⟩ => ⟨S4096x512, .bf16⟩
  | .hbm, ⟨30, _⟩ => ⟨S16x128x256, .f32⟩
  | .hbm, ⟨31, _⟩ => ⟨S16x1x128x1x256, .f32⟩
  | .hbm, ⟨32, _⟩ => ⟨S1x2x1x2x1, .f32⟩
  | .hbm, ⟨33, _⟩ => ⟨S16x2x128x2x256, .f32⟩
  | .hbm, ⟨34, _⟩ => ⟨S16x2x128x2x256, .f32⟩
  | .hbm, ⟨35, _⟩ => ⟨S16x2x128x2x256, .f32⟩
  | .hbm, ⟨36, _⟩ => ⟨S4096x512, .f32⟩
  | .hbm, ⟨37, _⟩ => ⟨S4096x512, .bf16⟩
  | .hbm, ⟨38, _⟩ => ⟨S1x128, .f32⟩
  | .hbm, ⟨39, _⟩ => ⟨S256x128, .bf16⟩
  | .hbm, ⟨40, _⟩ => ⟨S2x512x256, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S4096x512, .bf16⟩
  | .local _ .vmem, ⟨5, _⟩ => ⟨S4096x512, .bf16⟩
  | .local _ .vmem, ⟨6, _⟩ => ⟨S256x128, .bf16⟩
  | .local _ .vmem, ⟨7, _⟩ => ⟨S1x128, .f32⟩
  | .local _ .vmem, ⟨8, _⟩ => ⟨S1x512x256, .bf16⟩
  | .local _ .vmem, ⟨9, _⟩ => ⟨S1x512x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S16384x256 : Shape := ⟨2, ![16384, 256]⟩
abbrev S32x128 : Shape := ⟨2, ![32, 128]⟩
abbrev S4096x256 : Shape := ⟨2, ![4096, 256]⟩
abbrev S256x128 : Shape := ⟨2, ![256, 128]⟩
abbrev S128 : Shape := ⟨1, ![128]⟩
abbrev S2x512x16x2x128 : Shape := ⟨5, ![2, 512, 16, 2, 128]⟩
abbrev S2x511x16x2x128 : Shape := ⟨5, ![2, 511, 16, 2, 128]⟩
abbrev S2x1x16x2x128 : Shape := ⟨5, ![2, 1, 16, 2, 128]⟩
abbrev S2x512x32x2x128 : Shape := ⟨5, ![2, 512, 32, 2, 128]⟩
abbrev S1x1x32x1x128 : Shape := ⟨5, ![1, 1, 32, 1, 128]⟩
abbrev S2x512x2x32x128 : Shape := ⟨5, ![2, 512, 2, 32, 128]⟩
abbrev S2x512x2x4096 : Shape := ⟨4, ![2, 512, 2, 4096]⟩
abbrev S2x512x2x256 : Shape := ⟨4, ![2, 512, 2, 256]⟩
abbrev S_ : Shape := ⟨0, ![]⟩
abbrev S2x512x2x128 : Shape := ⟨4, ![2, 512, 2, 128]⟩
abbrev S2x512x2 : Shape := ⟨3, ![2, 512, 2]⟩
abbrev S2x512x2x1 : Shape := ⟨4, ![2, 512, 2, 1]⟩
abbrev S1x1x1x128 : Shape := ⟨4, ![1, 1, 1, 128]⟩
abbrev S2x512x256 : Shape := ⟨3, ![2, 512, 256]⟩

abbrev nBuf : Space → Nat
  | .hbm => 44
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S128, .f32⟩
  | .hbm, ⟨5, _⟩ => ⟨S2x512x16x2x128, .f32⟩
  | .hbm, ⟨6, _⟩ => ⟨S2x511x16x2x128, .f32⟩
  | .hbm, ⟨7, _⟩ => ⟨S2x1x16x2x128, .f32⟩
  | .hbm, ⟨8, _⟩ => ⟨S2x512x16x2x128, .f32⟩
  | .hbm, ⟨9, _⟩ => ⟨S2x512x32x2x128, .f32⟩
  | .hbm, ⟨10, _⟩ => ⟨S1x1x32x1x128, .f32⟩
  | .hbm, ⟨11, _⟩ => ⟨S2x512x32x2x128, .f32⟩
  | .hbm, ⟨12, _⟩ => ⟨S2x512x32x2x128, .f32⟩
  | .hbm, ⟨13, _⟩ => ⟨S2x512x2x32x128, .f32⟩
  | .hbm, ⟨14, _⟩ => ⟨S2x512x2x4096, .f32⟩
  | .hbm, ⟨15, _⟩ => ⟨S2x512x2x256, .f32⟩
  | .hbm, ⟨16, _⟩ => ⟨S2x512x2x256, .f32⟩
  | .hbm, ⟨17, _⟩ => ⟨S2x512x2x256, .f32⟩
  | .hbm, ⟨18, _⟩ => ⟨S_, .f32⟩
  | .hbm, ⟨19, _⟩ => ⟨S2x512x2x256, .f32⟩
  | .hbm, ⟨20, _⟩ => ⟨S2x512x2x256, .f32⟩
  | .hbm, ⟨21, _⟩ => ⟨S_, .f32⟩
  | .hbm, ⟨22, _⟩ => ⟨S2x512x2x256, .f32⟩
  | .hbm, ⟨23, _⟩ => ⟨S2x512x2x256, .f32⟩
  | .hbm, ⟨24, _⟩ => ⟨S2x512x2x256, .f32⟩
  | .hbm, ⟨25, _⟩ => ⟨S2x512x2x128, .f32⟩
  | .hbm, ⟨26, _⟩ => ⟨S2x512x2x128, .f32⟩
  | .hbm, ⟨27, _⟩ => ⟨S_, .f32⟩
  | .hbm, ⟨28, _⟩ => ⟨S2x512x2, .f32⟩
  | .hbm, ⟨29, _⟩ => ⟨S2x512x2x1, .f32⟩
  | .hbm, ⟨30, _⟩ => ⟨S_, .f32⟩
  | .hbm, ⟨31, _⟩ => ⟨S2x512x2x1, .f32⟩
  | .hbm, ⟨32, _⟩ => ⟨S2x512x2x1, .f32⟩
  | .hbm, ⟨33, _⟩ => ⟨S_, .f32⟩
  | .hbm, ⟨34, _⟩ => ⟨S2x512x2x1, .f32⟩
  | .hbm, ⟨35, _⟩ => ⟨S2x512x2x1, .f32⟩
  | .hbm, ⟨36, _⟩ => ⟨S2x512x2x1, .f32⟩
  | .hbm, ⟨37, _⟩ => ⟨S2x512x2x128, .f32⟩
  | .hbm, ⟨38, _⟩ => ⟨S2x512x2x128, .f32⟩
  | .hbm, ⟨39, _⟩ => ⟨S1x1x1x128, .f32⟩
  | .hbm, ⟨40, _⟩ => ⟨S2x512x2x128, .f32⟩
  | .hbm, ⟨41, _⟩ => ⟨S2x512x2x128, .f32⟩
  | .hbm, ⟨42, _⟩ => ⟨S2x512x256, .f32⟩
  | .hbm, ⟨43, _⟩ => ⟨S2x512x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel11.lean ====
abbrev S16384x256 : Shape := ⟨2, ![16384, 256]⟩
abbrev S32x128 : Shape := ⟨2, ![32, 128]⟩
abbrev S4096x256 : Shape := ⟨2, ![4096, 256]⟩
abbrev S256x128 : Shape := ⟨2, ![256, 128]⟩
abbrev S1024x4096 : Shape := ⟨2, ![1024, 4096]⟩
abbrev S32x128x256 : Shape := ⟨3, ![32, 128, 256]⟩
abbrev S2x2 : Shape := ⟨2, ![2, 2]⟩
abbrev S_ : Shape := ⟨0, ![]⟩
abbrev S16x128 : Shape := ⟨2, ![16, 128]⟩
abbrev S16x1x128 : Shape := ⟨3, ![16, 1, 128]⟩
abbrev S16x2x128 : Shape := ⟨3, ![16, 2, 128]⟩
abbrev S1x4096 : Shape := ⟨2, ![1, 4096]⟩
abbrev S16x128x256 : Shape := ⟨3, ![16, 128, 256]⟩
abbrev S16x1x128x1x256 : Shape := ⟨5, ![16, 1, 128, 1, 256]⟩
abbrev S1x2x1x2x1 : Shape := ⟨5, ![1, 2, 1, 2, 1]⟩
abbrev S16x2x128x2x256 : Shape := ⟨5, ![16, 2, 128, 2, 256]⟩
abbrev S4096x512 : Shape := ⟨2, ![4096, 512]⟩
abbrev S128 : Shape := ⟨1, ![128]⟩
abbrev S1x128 : Shape := ⟨2, ![1, 128]⟩
abbrev S2x512x256 : Shape := ⟨3, ![2, 512, 256]⟩
abbrev S512x4096 : Shape := ⟨2, ![512, 4096]⟩
abbrev S1x512x256 : Shape := ⟨3, ![1, 512, 256]⟩
abbrev S512x512 : Shape := ⟨2, ![512, 512]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 42
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S1024x4096, .f32⟩
  | .hbm, ⟨5, _⟩ => ⟨S32x128x256, .f32⟩
  | .hbm, ⟨6, _⟩ => ⟨S2x2, .i32⟩
  | .hbm, ⟨7, _⟩ => ⟨S2x2, .i32⟩
  | .hbm, ⟨8, _⟩ => ⟨S_, .i32⟩
  | .hbm, ⟨9, _⟩ => ⟨S2x2, .i32⟩
  | .hbm, ⟨10, _⟩ => ⟨S2x2, .i32⟩
  | .hbm, ⟨11, _⟩ => ⟨S2x2, .i1⟩
  | .hbm, ⟨12, _⟩ => ⟨S2x2, .f32⟩
  | .hbm, ⟨13, _⟩ => ⟨S16x128, .f32⟩
  | .hbm, ⟨14, _⟩ => ⟨S16x1x128, .f32⟩
  | .hbm, ⟨15, _⟩ => ⟨S16x2x128, .f32⟩
  | .hbm, ⟨16, _⟩ => ⟨S1x4096, .f32⟩
  | .hbm, ⟨17, _⟩ => ⟨S16x128, .f32⟩
  | .hbm, ⟨18, _⟩ => ⟨S16x1x128, .f32⟩
  | .hbm, ⟨19, _⟩ => ⟨S16x2x128, .f32⟩
  | .hbm, ⟨20, _⟩ => ⟨S1x4096, .f32⟩
  | .hbm, ⟨21, _⟩ => ⟨S16x128x256, .f32⟩
  | .hbm, ⟨22, _⟩ => ⟨S16x1x128x1x256, .f32⟩
  | .hbm, ⟨23, _⟩ => ⟨S1x2x1x2x1, .f32⟩
  | .hbm, ⟨24, _⟩ => ⟨S16x2x128x2x256, .f32⟩
  | .hbm, ⟨25, _⟩ => ⟨S16x2x128x2x256, .f32⟩
  | .hbm, ⟨26, _⟩ => ⟨S16x2x128x2x256, .f32⟩
  | .hbm, ⟨27, _⟩ => ⟨S4096x512, .f32⟩
  | .hbm, ⟨28, _⟩ => ⟨S4096x512, .bf16⟩
  | .hbm, ⟨29, _⟩ => ⟨S16x128x256, .f32⟩
  | .hbm, ⟨30, _⟩ => ⟨S16x1x128x1x256, .f32⟩
  | .hbm, ⟨31, _⟩ => ⟨S1x2x1x2x1, .f32⟩
  | .hbm, ⟨32, _⟩ => ⟨S16x2x128x2x256, .f32⟩
  | .hbm, ⟨33, _⟩ => ⟨S16x2x128x2x256, .f32⟩
  | .hbm, ⟨34, _⟩ => ⟨S16x2x128x2x256, .f32⟩
  | .hbm, ⟨35, _⟩ => ⟨S4096x512, .f32⟩
  | .hbm, ⟨36, _⟩ => ⟨S4096x512, .bf16⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S256x128, .bf16⟩
  | .hbm, ⟨41, _⟩ => ⟨S2x512x256, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S4096x512, .bf16⟩
  | .local _ .vmem, ⟨5, _⟩ => ⟨S4096x512, .bf16⟩
  | .local _ .vmem, ⟨6, _⟩ => ⟨S256x128, .bf16⟩
  | .local _ .vmem, ⟨7, _⟩ => ⟨S1x128, .f32⟩
  | .local _ .vmem, ⟨8, _⟩ => ⟨S1x512x256, .bf16⟩
  | .local _ .vmem, ⟨9, _⟩ => ⟨S1x512x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S16384x256 : Shape := ⟨2, ![16384, 256]⟩
abbrev S32x128 : Shape := ⟨2, ![32, 128]⟩
abbrev S4096x256 : Shape := ⟨2, ![4096, 256]⟩
abbrev S256x128 : Shape := ⟨2, ![256, 128]⟩
abbrev S2x512x16x2x128 : Shape := ⟨5, ![2, 512, 16, 2, 128]⟩
abbrev S2x511x16x2x128 : Shape := ⟨5, ![2, 511, 16, 2, 128]⟩
abbrev S2x1x16x2x128 : Shape := ⟨5, ![2, 1, 16, 2, 128]⟩
abbrev S2x512x32x2x128 : Shape := ⟨5, ![2, 512, 32, 2, 128]⟩
abbrev S1x1x32x1x128 : Shape := ⟨5, ![1, 1, 32, 1, 128]⟩
abbrev S2x512x2x32x128 : Shape := ⟨5, ![2, 512, 2, 32, 128]⟩
abbrev S2x512x2x4096 : Shape := ⟨4, ![2, 512, 2, 4096]⟩
abbrev S2x512x2x256 : Shape := ⟨4, ![2, 512, 2, 256]⟩
abbrev S_ : Shape := ⟨0, ![]⟩
abbrev S2x512x2x128 : Shape := ⟨4, ![2, 512, 2, 128]⟩
abbrev S2x512x256 : Shape := ⟨3, ![2, 512, 256]⟩

abbrev nBuf : Space → Nat
  | .hbm => 27
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S2x512x16x2x128, .f32⟩
  | .hbm, ⟨5, _⟩ => ⟨S2x511x16x2x128, .f32⟩
  | .hbm, ⟨6, _⟩ => ⟨S2x1x16x2x128, .f32⟩
  | .hbm, ⟨7, _⟩ => ⟨S2x512x16x2x128, .f32⟩
  | .hbm, ⟨8, _⟩ => ⟨S2x512x32x2x128, .f32⟩
  | .hbm, ⟨9, _⟩ => ⟨S1x1x32x1x128, .f32⟩
  | .hbm, ⟨10, _⟩ => ⟨S2x512x32x2x128, .f32⟩
  | .hbm, ⟨11, _⟩ => ⟨S2x512x32x2x128, .f32⟩
  | .hbm, ⟨12, _⟩ => ⟨S2x512x2x32x128, .f32⟩
  | .hbm, ⟨13, _⟩ => ⟨S2x512x2x4096, .f32⟩
  | .hbm, ⟨14, _⟩ => ⟨S2x512x2x256, .f32⟩
  | .hbm, ⟨15, _⟩ => ⟨S2x512x2x256, .f32⟩
  | .hbm, ⟨16, _⟩ => ⟨S2x512x2x256, .f32⟩
  | .hbm, ⟨17, _⟩ => ⟨S_, .f32⟩
  | .hbm, ⟨18, _⟩ => ⟨S2x512x2x256, .f32⟩
  | .hbm, ⟨19, _⟩ => ⟨S2x512x2x256, .f32⟩
  | .hbm, ⟨20, _⟩ => ⟨S_, .f32⟩
  | .hbm, ⟨21, _⟩ => ⟨S2x512x2x256, .f32⟩
  | .hbm, ⟨22, _⟩ => ⟨S2x512x2x256, .f32⟩
  | .hbm, ⟨23, _⟩ => ⟨S2x512x2x256, .f32⟩
  | .hbm, ⟨24, _⟩ => ⟨S2x512x2x128, .f32⟩
  | .hbm, ⟨25, _⟩ => ⟨S2x512x256, .f32⟩
  | .hbm, ⟨26, _⟩ => ⟨S2x512x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.CmpBodyIdeal.lean ====
/-
  THE COMPRESSED ATTENTION'S BODY. What one grid point of the compressed-attention call leaves in its three output
  buffers, as a function of its input blocks, in each of the four branches of its `lax.switch` (128, 256, 384 or 512
  compressed keys), and the body's triple: from the blocks to those contents.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Cmp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The rectangles the body reads and writes -/

/-- Head `j`'s 128 columns of a 512-column block. -/
abbrev head0 : Rect S512x512 := Rect.unit (s := S512x512) ![0, 0] S512x128.size inb_S512x512_S512x128_0_0
abbrev head1 : Rect S512x512 := Rect.unit (s := S512x512) ![0, 128] S512x128.size inb_S512x512_S512x128_0_128
abbrev head2 : Rect S512x512 := Rect.unit (s := S512x512) ![0, 256] S512x128.size inb_S512x512_S512x128_0_256
abbrev head3 : Rect S512x512 := Rect.unit (s := S512x512) ![0, 384] S512x128.size inb_S512x512_S512x128_0_384

/-- The first 512 compressed keys (or values), and the first 512 columns of the block weights. -/
abbrev keys512 : Rect S1x512x128 := Rect.unit (s := S1x512x128) ![0, 0, 0] S1x512x128.size inb_S1x512x128_S1x512x128_0_0_0
abbrev weights512 : Rect S128x512 := Rect.unit (s := S128x512) ![0, 0] S128x512.size inb_S128x512_S128x512_0_0
/-- The first 384 compressed keys (or values), and the first 384 columns of the block weights. -/
abbrev keys384 : Rect S1x512x128 := Rect.unit (s := S1x512x128) ![0, 0, 0] S1x384x128.size inb_S1x512x128_S1x384x128_0_0_0
abbrev weights384 : Rect S128x512 := Rect.unit (s := S128x512) ![0, 0] S128x384.size inb_S128x512_S128x384_0_0
/-- The first 256 compressed keys (or values), and the first 256 columns of the block weights. -/
abbrev keys256 : Rect S1x512x128 := Rect.unit (s := S1x512x128) ![0, 0, 0] S1x256x128.size inb_S1x512x128_S1x256x128_0_0_0
abbrev weights256 : Rect S128x512 := Rect.unit (s := S128x512) ![0, 0] S128x256.size inb_S128x512_S128x256_0_0
/-- The first 128 compressed keys (or values), and the first 128 columns of the block weights. -/
abbrev keys128 : Rect S1x512x128 := Rect.unit (s := S1x512x128) ![0, 0, 0] S1x128x128.size inb_S1x512x128_S1x128x128_0_0_0
abbrev weights128 : Rect S128x512 := Rect.unit (s := S128x512) ![0, 0] S128x128.size inb_S128x512_S128x128_0_0
/-- The whole of the other buffers. -/
abbrev eyeAll : Rect S512x512 := Rect.unit (s := S512x512) ![0, 0] S512x512.size inb_S512x512_S512x512_0_0
abbrev tilesAll : Rect S16x128 := Rect.unit (s := S16x128) ![0, 0] S16x128.size inb_S16x128_S16x128_0_0
abbrev selAll : Rect S512x128 := Rect.unit (s := S512x128) ![0, 0] S512x128.size inb_S512x128_S512x128_0_0
abbrev flagsAll : Rect S1x16x128 := Rect.unit (s := S1x16x128) ![0, 0, 0] S1x16x128.size inb_S1x16x128_S1x16x128_0_0_0

/-! ## What the switch's branches leave -/

/-- The outputs of the four heads over the first 512 compressed keys, as the stores' pieces, the last first. -/
def pieces512 (i : grid0.Coords) (xq : Vec F S512x512 .bf16) (xk xv : Vec F S1x512x128 .bf16) : List (View.Piece (Elt F) S512x512 .f32) :=
  [⟨head3, k0_pay60 (k0_pay55 (F := F) i) (k0_pay56 (F := F) i) (k0_pay3 (k0_pay54 i)) (k0_pay4 (F := F) (k0_pay54 i)) (k0_pay5 (View.ld xk keys512)) (k0_pay6 (View.ld xv keys512)) (View.ld xq head3)⟩,
   ⟨head2, k0_pay58 (k0_pay6 (View.ld xv keys512)) (k0_pay13 (k0_pay56 (F := F) i) (k0_pay3 (k0_pay54 i)) (k0_pay4 (F := F) (k0_pay54 i)) (k0_pay5 (View.ld xk keys512)) (View.ld xq head2)) (k0_pay14 (k0_pay55 (F := F) i) (k0_pay56 (F := F) i) (k0_pay3 (k0_pay54 i)) (k0_pay4 (F := F) (k0_pay54 i)) (k0_pay5 (View.ld xk keys512)) (View.ld xq head2))⟩,
   ⟨head1, k0_pay12 (k0_pay55 (F := F) i) (k0_pay56 (F := F) i) (k0_pay3 (k0_pay54 i)) (k0_pay4 (F := F) (k0_pay54 i)) (k0_pay5 (View.ld xk keys512)) (k0_pay6 (View.ld xv keys512)) (View.ld xq head1)⟩,
   ⟨head0, k0_pay9 (k0_pay54 i) (k0_pay55 (F := F) i) (k0_pay56 (F := F) i) (View.ld xk keys512) (View.ld xv keys512) (View.ld xq head0)⟩]

/-- The importance of each block to each query, from the probabilities over the first 512 compressed keys. -/
def imp512 (i : grid0.Coords) (xq : Vec F S512x512 .bf16) (xk : Vec F S1x512x128 .bf16) (xw : Vec F S128x512 .bf16) : FVec F S128x512 .f32 :=
  k0_pay61 (k0_pay55 (F := F) i) (k0_pay56 (F := F) i) (k0_pay3 (k0_pay54 i)) (k0_pay4 (F := F) (k0_pay54 i)) (k0_pay5 (View.ld xk keys512)) (k0_pay11 (k0_pay55 (F := F) i) (k0_pay56 (F := F) i) (k0_pay3 (k0_pay54 i)) (k0_pay4 (F := F) (k0_pay54 i)) (k0_pay5 (View.ld xk keys512)) (k0_pay8 (k0_pay54 i) (k0_pay55 (F := F) i) (k0_pay56 (F := F) i) (View.ld xk keys512) (View.ld xq head0)) (View.ld xq head1)) (k0_pay13 (k0_pay56 (F := F) i) (k0_pay3 (k0_pay54 i)) (k0_pay4 (F := F) (k0_pay54 i)) (k0_pay5 (View.ld xk keys512)) (View.ld xq head2)) (k0_pay14 (k0_pay55 (F := F) i) (k0_pay56 (F := F) i) (k0_pay3 (k0_pay54 i)) (k0_pay4 (F := F) (k0_pay54 i)) (k0_pay5 (View.ld xk keys512)) (View.ld xq head2)) (View.ld xq head3) (View.ld xw weights512)

/-- The outputs of the four heads over the first 384 compressed keys, as the stores' pieces, the last first. -/
def pieces384 (i : grid0.Coords) (xq : Vec F S512x512 .bf16) (xk xv : Vec F S1x512x128 .bf16) : List (View.Piece (Elt F) S512x512 .f32) :=
  [⟨head3, k0_pay65 (k0_pay55 (F := F) i) (k0_pay56 (F := F) i) (k0_pay16 (k0_pay54 i)) (k0_pay17 (F := F) (k0_pay54 i)) (k0_pay18 (View.ld xk keys384)) (k0_pay19 (View.ld xv keys384)) (View.ld xq head3)⟩,
   ⟨head2, k0_pay63 (k0_pay19 (View.ld xv keys384)) (k0_pay26 (k0_pay56 (F := F) i) (k0_pay16 (k0_pay54 i)) (k0_pay17 (F := F) (k0_pay54 i)) (k0_pay18 (View.ld xk keys384)) (View.ld xq head2)) (k0_pay27 (k0_pay55 (F := F) i) (k0_pay56 (F := F) i) (k0_pay16 (k0_pay54 i)) (k0_pay17 (F := F) (k0_pay54 i)) (k0_pay18 (View.ld xk keys384)) (View.ld xq head2))⟩,
   ⟨head1, k0_pay25 (k0_pay55 (F := F) i) (k0_pay56 (F := F) i) (k0_pay16 (k0_pay54 i)) (k0_pay17 (F := F) (k0_pay54 i)) (k0_pay18 (View.ld xk keys384)) (k0_pay19 (View.ld xv keys384)) (View.ld xq head1)⟩,
   ⟨head0, k0_pay22 (k0_pay54 i) (k0_pay55 (F := F) i) (k0_pay56 (F := F) i) (View.ld xk keys384) (View.ld xv keys384) (View.ld xq head0)⟩]

/-- The importance of each block to each query, from the probabilities over the first 384 compressed keys. -/
def imp384 (i : grid0.Coords) (xq : Vec F S512x512 .bf16) (xk : Vec F S1x512x128 .bf16) (xw : Vec F S128x512 .bf16) : FVec F S128x512 .f32 :=
  k0_pay66 (k0_pay55 (F := F) i) (k0_pay56 (F := F) i) (k0_pay16 (k0_pay54 i)) (k0_pay17 (F := F) (k0_pay54 i)) (k0_pay18 (View.ld xk keys384)) (k0_pay24 (k0_pay55 (F := F) i) (k0_pay56 (F := F) i) (k0_pay16 (k0_pay54 i)) (k0_pay17 (F := F) (k0_pay54 i)) (k0_pay18 (View.ld xk keys384)) (k0_pay21 (k0_pay54 i) (k0_pay55 (F := F) i) (k0_pay56 (F := F) i) (View.ld xk keys384) (View.ld xq head0)) (View.ld xq head1)) (k0_pay26 (k0_pay56 (F := F) i) (k0_pay16 (k0_pay54 i)) (k0_pay17 (F := F) (k0_pay54 i)) (k0_pay18 (View.ld xk keys384)) (View.ld xq head2)) (k0_pay27 (k0_pay55 (F := F) i) (k0_pay56 (F := F) i) (k0_pay16 (k0_pay54 i)) (k0_pay17 (F := F) (k0_pay54 i)) (k0_pay18 (View.ld xk keys384)) (View.ld xq head2)) (View.ld xq head3) (View.ld xw weights384)

/-- The outputs of the four heads over the first 256 compressed keys, as the stores' pieces, the last first. -/
def pieces256 (i : grid0.Coords) (xq : Vec F S512x512 .bf16) (xk xv : Vec F S1x512x128 .bf16) : List (View.Piece (Elt F) S512x512 .f32) :=
  [⟨head3, k0_pay70 (k0_pay55 (F := F) i) (k0_pay56 (F := F) i) (k0_pay29 (k0_pay54 i)) (k0_pay30 (F := F) (k0_pay54 i)) (k0_pay31 (View.ld xk keys256)) (k0_pay32 (View.ld xv keys256)) (View.ld xq head3)⟩,
   ⟨head2, k0_pay68 (k0_pay32 (View.ld xv keys256)) (k0_pay39 (k0_pay56 (F := F) i) (k0_pay29 (k0_pay54 i)) (k0_pay30 (F := F) (k0_pay54 i)) (k0_pay31 (View.ld xk keys256)) (View.ld xq head2)) (k0_pay40 (k0_pay55 (F := F) i) (k0_pay56 (F := F) i) (k0_pay29 (k0_pay54 i)) (k0_pay30 (F := F) (k0_pay54 i)) (k0_pay31 (View.ld xk keys256)) (View.ld xq head2))⟩,
   ⟨head1, k0_pay38 (k0_pay55 (F := F) i) (k0_pay56 (F := F) i) (k0_pay29 (k0_pay54 i)) (k0_pay30 (F := F) (k0_pay54 i)) (k0_pay31 (View.ld xk keys256)) (k0_pay32 (View.ld xv keys256)) (View.ld xq head1)⟩,
   ⟨head0, k0_pay35 (k0_pay54 i) (k0_pay55 (F := F) i) (k0_pay56 (F := F) i) (View.ld xk keys256) (View.ld xv keys256) (View.ld xq head0)⟩]

/-- The importance of each block to each query, from the probabilities over the first 256 compressed keys. -/
def imp256 (i : grid0.Coords) (xq : Vec F S512x512 .bf16) (xk : Vec F S1x512x128 .bf16) (xw : Vec F S128x512 .bf16) : FVec F S128x512 .f32 :=
  k0_pay71 (k0_pay55 (F := F) i) (k0_pay56 (F := F) i) (k0_pay29 (k0_pay54 i)) (k0_pay30 (F := F) (k0_pay54 i)) (k0_pay31 (View.ld xk keys256)) (k0_pay37 (k0_pay55 (F := F) i) (k0_pay56 (F := F) i) (k0_pay29 (k0_pay54 i)) (k0_pay30 (F := F) (k0_pay54 i)) (k0_pay31 (View.ld xk keys256)) (k0_pay34 (k0_pay54 i) (k0_pay55 (F := F) i) (k0_pay56 (F := F) i) (View.ld xk keys256) (View.ld xq head0)) (View.ld xq head1)) (k0_pay39 (k0_pay56 (F := F) i) (k0_pay29 (k0_pay54 i)) (k0_pay30 (F := F) (k0_pay54 i)) (k0_pay31 (View.ld xk keys256)) (View.ld xq head2)) (k0_pay40 (k0_pay55 (F := F) i) (k0_pay56 (F := F) i) (k0_pay29 (k0_pay54 i)) (k0_pay30 (F := F) (k0_pay54 i)) (k0_pay31 (View.ld xk keys256)) (View.ld xq head2)) (View.ld xq head3) (View.ld xw weights256)

/-- The outputs of the four heads over the first 128 compressed keys, as the stores' pieces, the last first. -/
def pieces128 (i : grid0.Coords) (xq : Vec F S512x512 .bf16) (xk xv : Vec F S1x512x128 .bf16) : List (View.Piece (Elt F) S512x512 .f32) :=
  [⟨head3, k0_pay75 (k0_pay55 (F := F) i) (k0_pay56 (F := F) i) (k0_pay42 (k0_pay54 i)) (k0_pay43 (F := F) (k0_pay54 i)) (k0_pay44 (View.ld xk keys128)) (k0_pay45 (View.ld xv keys128)) (View.ld xq head3)⟩,
   ⟨head2, k0_pay73 (k0_pay45 (View.ld xv keys128)) (k0_pay52 (k0_pay56 (F := F) i) (k0_pay42 (k0_pay54 i)) (k0_pay43 (F := F) (k0_pay54 i)) (k0_pay44 (View.ld xk keys128)) (View.ld xq head2)) (k0_pay53 (k0_pay55 (F := F) i) (k0_pay56 (F := F) i) (k0_pay42 (k0_pay54 i)) (k0_pay43 (F := F) (k0_pay54 i)) (k0_pay44 (View.ld xk keys128)) (View.ld xq head2))⟩,
   ⟨head1, k0_pay51 (k0_pay55 (F := F) i) (k0_pay56 (F := F) i) (k0_pay42 (k0_pay54 i)) (k0_pay43 (F := F) (k0_pay54 i)) (k0_pay44 (View.ld xk keys128)) (k0_pay45 (View.ld xv keys128)) (View.ld xq head1)⟩,
   ⟨head0, k0_pay48 (k0_pay54 i) (k0_pay55 (F := F) i) (k0_pay56 (F := F) i) (View.ld xk keys128) (View.ld xv keys128) (View.ld xq head0)⟩]

/-- The importance of each block to each query, from the probabilities over the first 128 compressed keys. -/
def imp128 (i : grid0.Coords) (xq : Vec F S512x512 .bf16) (xk : Vec F S1x512x128 .bf16) (xw : Vec F S128x512 .bf16) : FVec F S128x512 .f32 :=
  k0_pay76 (k0_pay55 (F := F) i) (k0_pay56 (F := F) i) (k0_pay42 (k0_pay54 i)) (k0_pay43 (F := F) (k0_pay54 i)) (k0_pay44 (View.ld xk keys128)) (k0_pay50 (k0_pay55 (F := F) i) (k0_pay56 (F := F) i) (k0_pay42 (k0_pay54 i)) (k0_pay43 (F := F) (k0_pay54 i)) (k0_pay44 (View.ld xk keys128)) (k0_pay47 (k0_pay54 i) (k0_pay55 (F := F) i) (k0_pay56 (F := F) i) (View.ld xk keys128) (View.ld xq head0)) (View.ld xq head1)) (k0_pay52 (k0_pay56 (F := F) i) (k0_pay42 (k0_pay54 i)) (k0_pay43 (F := F) (k0_pay54 i)) (k0_pay44 (View.ld xk keys128)) (View.ld xq head2)) (k0_pay53 (k0_pay55 (F := F) i) (k0_pay56 (F := F) i) (k0_pay42 (k0_pay54 i)) (k0_pay43 (F := F) (k0_pay54 i)) (k0_pay44 (View.ld xk keys128)) (View.ld xq head2)) (View.ld xq head3) (View.ld xw weights128)

/-- The four heads' outputs, in the branch the point takes. -/
def ocmpPieces (i : grid0.Coords) (xq : Vec F S512x512 .bf16) (xk xv : Vec F S1x512x128 .bf16) : List (View.Piece (Elt F) S512x512 .f32) :=
  if k0_cond1 i = 1#1 then
    if k0_cond2 i = 1#1 then
      if k0_cond3 i = 1#1 then pieces512 i xq xk xv else pieces384 i xq xk xv
    else pieces256 i xq xk xv
  else pieces128 i xq xk xv

/-- The blocks' importance, in the branch the point takes. -/
def imp (i : grid0.Coords) (xq : Vec F S512x512 .bf16) (xk : Vec F S1x512x128 .bf16) (xw : Vec F S128x512 .bf16) : FVec F S128x512 .f32 :=
  if k0_cond1 i = 1#1 then
    if k0_cond2 i = 1#1 then
      if k0_cond3 i = 1#1 then imp512 i xq xk xw else imp384 i xq xk xw
    else imp256 i xq xk xw
  else imp128 i xq xk xw

/-- The buffer of the attention's output after the body. -/
def outO (i : grid0.Coords) (xq : Vec F S512x512 .bf16) (xk xv : Vec F S1x512x128 .bf16) : Vec F S512x512 .f32 :=
  View.canon (ocmpPieces i xq xk xv)

/-! ## What the selection leaves, from the blocks' importance -/

/-- The block numbers along the rows. -/
abbrev rows : IVec S128x1 32 := iota .tc S128x1 32 [0] iota_S128x1_d0_w32
/-- The query tile's number as a word. -/
abbrev tileWord (i : grid0.Coords) : BitVec 32 := BitVec.ofNat 32 (i 2).val

/-- The chosen blocks, the importance left and the block picked, after each of the four runs of picks. -/
def picked1 (w : BitVec 32) (v : FVec F S128x512 .f32) : IVec S128x512 1 := k0_pay85 v rows (k0_pay78 w) (k0_pay79 w) (k0_pay80 w)
def left1 (w : BitVec 32) (v : FVec F S128x512 .f32) : FVec F S128x512 .f32 := k0_pay86 v rows (k0_pay80 w)
def pick1 (w : BitVec 32) (v : FVec F S128x512 .f32) : IVec S128x512 1 := k0_pay87 v rows (k0_pay80 w)
def picked2 (w : BitVec 32) (v : FVec F S128x512 .f32) : IVec S128x512 1 := k0_pay92 rows (picked1 w v) (left1 w v) (pick1 w v)
def left2 (w : BitVec 32) (v : FVec F S128x512 .f32) : FVec F S128x512 .f32 := k0_pay93 rows (left1 w v) (pick1 w v)
def pick2 (w : BitVec 32) (v : FVec F S128x512 .f32) : IVec S128x512 1 := k0_pay94 rows (left1 w v) (pick1 w v)
def picked3 (w : BitVec 32) (v : FVec F S128x512 .f32) : IVec S128x512 1 := k0_pay99 rows (picked2 w v) (left2 w v) (pick2 w v)
def left3 (w : BitVec 32) (v : FVec F S128x512 .f32) : FVec F S128x512 .f32 := k0_pay100 rows (left2 w v) (pick2 w v)
def pick3 (w : BitVec 32) (v : FVec F S128x512 .f32) : IVec S128x512 1 := k0_pay101 rows (left2 w v) (pick2 w v)
def picked4 (w : BitVec 32) (v : FVec F S128x512 .f32) : IVec S128x512 1 := k0_pay106 rows (picked3 w v) (left3 w v) (pick3 w v)
def left4 (w : BitVec 32) (v : FVec F S128x512 .f32) : FVec F S128x512 .f32 := k0_pay107 rows (left3 w v) (pick3 w v)
def pick4 (w : BitVec 32) (v : FVec F S128x512 .f32) : IVec S128x512 1 := k0_pay108 rows (left3 w v) (pick3 w v)

/-- The buffer of the chosen blocks after the body, from the importance `v`, the tile's number `w` and the identity `xe`. -/
def selPieces (w : BitVec 32) (v : FVec F S128x512 .f32) (xe : Vec F S512x512 .bf16) : List (View.Piece (Elt F) S512x128 .bf16) :=
  [⟨selAll, k0_pay110 rows (k0_pay78 w) (picked4 w v) (left4 w v) (pick4 w v) (View.ld xe eyeAll)⟩]
def outS (w : BitVec 32) (v : FVec F S128x512 .f32) (xe : Vec F S512x512 .bf16) : Vec F S512x128 .bf16 := View.canon (selPieces w v xe)

/-- The buffer of the tiles' flags after the body. -/
def flagPieces (w : BitVec 32) (v : FVec F S128x512 .f32) (xt : Vec F S16x128 .bf16) : List (View.Piece (Elt F) S1x16x128 .i32) :=
  [⟨flagsAll, k0_pay1 (View.ld xt tilesAll) (k0_pay111 w rows (k0_pay78 w) (picked4 w v) (left4 w v) (pick4 w v)) (Scalar.ofBits .f32 0x00000000#32) (k0_pay112 (F := F))⟩]
def outF (w : BitVec 32) (v : FVec F S128x512 .f32) (xt : Vec F S16x128 .bf16) : Vec F S1x16x128 .i32 := View.canon (flagPieces w v xt)

/-! ## The stores cover the buffers -/

theorem cover_heads (p0 p1 p2 p3 : Vec F S512x128 .f32) (y : S512x512.Idx) :
    ∃ pc ∈ ([⟨head3, p3⟩, ⟨head2, p2⟩, ⟨head1, p1⟩, ⟨head0, p0⟩] : List (View.Piece (Elt F) S512x512 .f32)), y ∈ pc.1.set :=
  View.cover_of_tiled [⟨head3, p3⟩, ⟨head2, p2⟩, ⟨head1, p1⟩, ⟨head0, p0⟩] S512x128.size (by rfl) y

theorem cover_sel (p : Vec F S512x128 .bf16) (y : S512x128.Idx) :
    ∃ pc ∈ ([⟨selAll, p⟩] : List (View.Piece (Elt F) S512x128 .bf16)), y ∈ pc.1.set :=
  View.cover_of_tiled [⟨selAll, p⟩] S512x128.size (by rfl) y

theorem cover_flags (p : Vec F S1x16x128 .i32) (y : S1x16x128.Idx) :
    ∃ pc ∈ ([⟨flagsAll, p⟩] : List (View.Piece (Elt F) S1x16x128 .i32)), y ∈ pc.1.set :=
  View.cover_of_tiled [⟨flagsAll, p⟩] S1x16x128.size (by rfl) y

/-! ## The branch a point takes -/

theorem outO_512 (i : grid0.Coords) (xq : Vec F S512x512 .bf16) (xk xv : Vec F S1x512x128 .bf16) (h1 : k0_cond1 i = 1#1) (h2 : k0_cond2 i = 1#1) (h3 : k0_cond3 i = 1#1) :
    outO i xq xk xv = View.canon (pieces512 i xq xk xv) := by
  unfold outO ocmpPieces; rw [if_pos h1, if_pos h2, if_pos h3]
theorem imp_512 (i : grid0.Coords) (xq : Vec F S512x512 .bf16) (xk : Vec F S1x512x128 .bf16) (xw : Vec F S128x512 .bf16) (h1 : k0_cond1 i = 1#1) (h2 : k0_cond2 i = 1#1) (h3 : k0_cond3 i = 1#1) :
    imp i xq xk xw = imp512 i xq xk xw := by
  unfold imp; rw [if_pos h1, if_pos h2, if_pos h3]

theorem outO_384 (i : grid0.Coords) (xq : Vec F S512x512 .bf16) (xk xv : Vec F S1x512x128 .bf16) (h1 : k0_cond1 i = 1#1) (h2 : k0_cond2 i = 1#1) (h3 : ¬ k0_cond3 i = 1#1) :
    outO i xq xk xv = View.canon (pieces384 i xq xk xv) := by
  unfold outO ocmpPieces; rw [if_pos h1, if_pos h2, if_neg h3]
theorem imp_384 (i : grid0.Coords) (xq : Vec F S512x512 .bf16) (xk : Vec F S1x512x128 .bf16) (xw : Vec F S128x512 .bf16) (h1 : k0_cond1 i = 1#1) (h2 : k0_cond2 i = 1#1) (h3 : ¬ k0_cond3 i = 1#1) :
    imp i xq xk xw = imp384 i xq xk xw := by
  unfold imp; rw [if_pos h1, if_pos h2, if_neg h3]

theorem outO_256 (i : grid0.Coords) (xq : Vec F S512x512 .bf16) (xk xv : Vec F S1x512x128 .bf16) (h1 : k0_cond1 i = 1#1) (h2 : ¬ k0_cond2 i = 1#1) :
    outO i xq xk xv = View.canon (pieces256 i xq xk xv) := by
  unfold outO ocmpPieces; rw [if_pos h1, if_neg h2]
theorem imp_256 (i : grid0.Coords) (xq : Vec F S512x512 .bf16) (xk : Vec F S1x512x128 .bf16) (xw : Vec F S128x512 .bf16) (h1 : k0_cond1 i = 1#1) (h2 : ¬ k0_cond2 i = 1#1) :
    imp i xq xk xw = imp256 i xq xk xw := by
  unfold imp; rw [if_pos h1, if_neg h2]

theorem outO_128 (i : grid0.Coords) (xq : Vec F S512x512 .bf16) (xk xv : Vec F S1x512x128 .bf16) (h1 : ¬ k0_cond1 i = 1#1) :
    outO i xq xk xv = View.canon (pieces128 i xq xk xv) := by
  unfold outO ocmpPieces; rw [if_neg h1]
theorem imp_128 (i : grid0.Coords) (xq : Vec F S512x512 .bf16) (xk : Vec F S1x512x128 .bf16) (xw : Vec F S128x512 .bf16) (h1 : ¬ k0_cond1 i = 1#1) :
    imp i xq xk xw = imp128 i xq xk xw := by
  unfold imp; rw [if_neg h1]

/-! ## The body's triple, branch by branch -/

set_option maxHeartbeats 2000000

/-- The body's triple: from the input blocks, and the outputs' buffers at anything, to the inputs' as they were and
    the outputs' at `outO`, `outS` and `outF` of the input blocks. -/
def TripleAt (i : grid0.Coords) : Prop :=
  ∀ (c : Dev nD) (E : Set ℕ) (arg3 : Memref sig .tc .vmem S512x512 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S128x512 .bf16) (harg6 : arg6.IsWhole) (arg7 : Memref sig .tc .vmem S512x512 .bf16) (harg7 : arg7.IsWhole) (arg8 : Memref sig .tc .vmem S16x128 .bf16) (harg8 : arg8.IsWhole) (arg9 : Memref sig .tc .vmem S512x512 .f32) (harg9 : arg9.IsWhole) (arg10 : Memref sig .tc .vmem S512x128 .bf16) (harg10 : arg10.IsWhole) (arg11 : Memref sig .tc .vmem S1x16x128 .i32) (harg11 : arg11.IsWhole)
    (x0 : Vec F S512x512 .bf16) (x1 x2 : Vec F S1x512x128 .bf16) (x3 : Vec F S128x512 .bf16) (x4 : Vec F S512x512 .bf16) (x5 : Vec F S16x128 .bf16) (K : PUnit.{1} → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outO i x0 x1 x2) ∗ owns (c : Thread nD τ) arg10 fullShare (outS (tileWord i) (imp i x0 x1 x3) x4) ∗ owns (c : Thread nD τ) arg11 fullShare (outF (tileWord i) (imp i x0 x1 x3) x5)) -∗ K ⟨⟩))
      ⊢ wp frame (wpE (defs₀ (F := F)) Variants.none c none) E (cc0_nsa_cmp_select i arg3 harg3 arg4 harg4 arg5 harg5 arg6 harg6 arg7 harg7 arg8 harg8 arg9 harg9 arg10 harg10 arg11 harg11) K

/-- The body in the branch of 512 keys: from the input blocks to what it leaves in the three outputs. -/
theorem run512 (i : grid0.Coords) (h1 : k0_cond1 i = 1#1) (h2 : k0_cond2 i = 1#1) (h3 : k0_cond3 i = 1#1) : TripleAt (F := F) i := by
  unfold TripleAt
  intro c E arg3 harg3 arg4 harg4 arg5 harg5 arg6 harg6 arg7 harg7 arg8 harg8 arg9 harg9 arg10 harg10 arg11 harg11 x0 x1 x2 x3 x4 x5 K
  rewrite [outO_512 i x0 x1 x2 h1 h2 h3, imp_512 i x0 x1 x3 h1 h2 h3]
  simp only [cc0_nsa_cmp_select_eq_skeleton]; unfold cc0_nsa_cmp_select_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_heads _ _ _ _)
  isplitl [H7]
  · iexists _; isplitr
    swap; · iexact H7
    ipureintro
    exact View.read_writes_eq_canon _ _ _ (cover_sel _)
  iexists _; isplitr
  swap; · iexact H8
  ipureintro
  exact View.read_writes_eq_canon _ _ _ (cover_flags (F := F) _)

/-- The body in the branch of 384 keys: from the input blocks to what it leaves in the three outputs. -/
theorem run384 (i : grid0.Coords) (h1 : k0_cond1 i = 1#1) (h2 : k0_cond2 i = 1#1) (h3 : ¬ k0_cond3 i = 1#1) : TripleAt (F := F) i := by
  unfold TripleAt
  intro c E arg3 harg3 arg4 harg4 arg5 harg5 arg6 harg6 arg7 harg7 arg8 harg8 arg9 harg9 arg10 harg10 arg11 harg11 x0 x1 x2 x3 x4 x5 K
  rewrite [outO_384 i x0 x1 x2 h1 h2 h3, imp_384 i x0 x1 x3 h1 h2 h3]
  simp only [cc0_nsa_cmp_select_eq_skeleton]; unfold cc0_nsa_cmp_select_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_heads _ _ _ _)
  isplitl [H7]
  · iexists _; isplitr
    swap; · iexact H7
    ipureintro
    exact View.read_writes_eq_canon _ _ _ (cover_sel _)
  iexists _; isplitr
  swap; · iexact H8
  ipureintro
  exact View.read_writes_eq_canon _ _ _ (cover_flags (F := F) _)

/-- The body in the branch of 256 keys: from the input blocks to what it leaves in the three outputs. -/
theorem run256 (i : grid0.Coords) (h1 : k0_cond1 i = 1#1) (h2 : ¬ k0_cond2 i = 1#1) : TripleAt (F := F) i := by
  unfold TripleAt
  intro c E arg3 harg3 arg4 harg4 arg5 harg5 arg6 harg6 arg7 harg7 arg8 harg8 arg9 harg9 arg10 harg10 arg11 harg11 x0 x1 x2 x3 x4 x5 K
  rewrite [outO_256 i x0 x1 x2 h1 h2, imp_256 i x0 x1 x3 h1 h2]
  simp only [cc0_nsa_cmp_select_eq_skeleton]; unfold cc0_nsa_cmp_select_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_heads _ _ _ _)
  isplitl [H7]
  · iexists _; isplitr
    swap; · iexact H7
    ipureintro
    exact View.read_writes_eq_canon _ _ _ (cover_sel _)
  iexists _; isplitr
  swap; · iexact H8
  ipureintro
  exact View.read_writes_eq_canon _ _ _ (cover_flags (F := F) _)

/-- The body in the branch of 128 keys: from the input blocks to what it leaves in the three outputs. -/
theorem run128 (i : grid0.Coords) (h1 : ¬ k0_cond1 i = 1#1) : TripleAt (F := F) i := by
  unfold TripleAt
  intro c E arg3 harg3 arg4 harg4 arg5 harg5 arg6 harg6 arg7 harg7 arg8 harg8 arg9 harg9 arg10 harg10 arg11 harg11 x0 x1 x2 x3 x4 x5 K
  rewrite [outO_128 i x0 x1 x2 h1, imp_128 i x0 x1 x3 h1]
  simp only [cc0_nsa_cmp_select_eq_skeleton]; unfold cc0_nsa_cmp_select_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_heads _ _ _ _)
  isplitl [H7]
  · iexists _; isplitr
    swap; · iexact H7
    ipureintro
    exact View.read_writes_eq_canon _ _ _ (cover_sel _)
  iexists _; isplitr
  swap; · iexact H8
  ipureintro
  exact View.read_writes_eq_canon _ _ _ (cover_flags (F := F) _)

attribute [local irreducible] k0_cond1 k0_cond2 k0_cond3 TripleAt

/-- The body at any point: the four branches together. -/
theorem run (i : grid0.Coords) : TripleAt (F := F) i :=
  Or.elim (Classical.em (k0_cond1 i = 1#1)) (fun h1 => Or.elim (Classical.em (k0_cond2 i = 1#1))
    (fun h2 => Or.elim (Classical.em (k0_cond3 i = 1#1)) (fun h3 => run512 i h1 h2 h3) (fun h3 => run384 i h1 h2 h3))
    (fun h2 => run256 i h1 h2)) (fun h1 => run128 i h1)

end Cert.KernelIdeal.Cmp

end
-- ==== Proof.CmpRunIdeal.lean ====
/-
  THE COMPRESSED ATTENTION'S RUN. The pipeline's proof data over `outO`, `outS` and `outF` (what the body leaves at a
  point), the obligation of the body at every point, the run of @main, and the frame claim.
-/
module

public import proofs.«01_k».proof.Proof.CmpBodyIdeal

@[expose] public section

set_option maxRecDepth 16384

noncomputable section

namespace Cert.KernelIdeal.Cmp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- What the three outputs' buffers hold after the body at point `t`. -/
def afterO (c : Dev nD) (t : Fin cfg0.N) : Vec F S512x512 .f32 :=
  outO (grid0.coords t) (X0_0 m c t) (iblk m c 1 t) (iblk m c 2 t)
def afterS (c : Dev nD) (t : Fin cfg0.N) : Vec F S512x128 .bf16 :=
  outS (tileWord (grid0.coords t)) (imp (grid0.coords t) (X0_0 m c t) (iblk m c 1 t) (iblk m c 3 t)) (iblk m c 4 t)
def afterF (c : Dev nD) (t : Fin cfg0.N) : Vec F S1x16x128 .i32 :=
  outF (tileWord (grid0.coords t)) (imp (grid0.coords t) (X0_0 m c t) (iblk m c 1 t) (iblk m c 3 t)) (iblk m c 5 t)

/-- The pipeline's proof data on core `c`: each input's buffer keeps its block, each output's holds what the body
    leaves; nothing else is touched. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => afterO m c t
    | ⟨7, _⟩ => afterS m c t
    | ⟨8, _⟩ => afterF m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = afterO m c t := by dsimp only [dats]
theorem after_7 (c : Dev nD) (t : Fin cfg0.N) : (dats m 0 c).after 7 t = afterS m c t := by dsimp only [dats]
theorem after_8 (c : Dev nD) (t : Fin cfg0.N) : (dats m 0 c).after 8 t = afterF m c t := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

attribute [local irreducible] outO outS outF imp k0_cond1 k0_cond2 k0_cond3

/-- The body at any point, by its triple. -/
theorem run_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rewrite [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold afterO afterS afterF
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hrun := run (F := F) (grid0.coords t)
  unfold TripleAt at hrun
  iapply (hrun c Set.univ _ _ _ _ _ _ _ _ _ _ _ _ _ _ _ _ _ _ (X0_0 m c t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) :
    defs₀ (F := F) .tc cfg0.body (cfg0.bodyArgs t (cfg0.slots t)) = bodyAt0 t := by
  unfold defs₀; rw [Defs.onTc_tc]

/-- Whichever branch a point takes, it writes the compressed attention's block: the window is never idle. -/
theorem idle_6 (i : grid0.Coords) : cfg0.idle 6 i = false := by
  have h : ∀ a b d : BitVec 1, (!(a == 1#1 && b == 1#1 && d == 1#1) && !(a == 1#1 && b == 1#1 && d == 0#1)
      && !(a == 1#1 && b == 0#1) && !(a == 0#1)) = false := by decide
  exact h (k0_cond1 i) (k0_cond2 i) (k0_cond3 i)

/-- The obligation of the body, at every point of the grid. -/
theorem obligation (c : Dev nD) : BodyObligation (dats (F := F) m 0 c) (defs₀ (F := F)) Variants.none () Set.univ := fun t => by
  rewrite [bigSep_W0, bigSep_W0, body_row]
  refine triple_restated (run_at m c t) rfl .rfl fun _ => ?_
  rewrite [idle_6]
  exact .rfl

/-! ## The run and the frame -/

set_option backward.isDefEq.respectTransparency.types false in
set_option maxHeartbeats 800000 in
/-- Every execution of @main ends, with every array of the pipeline at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame claim at any values: the argument arrays end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Cmp

end
-- ==== Proof.Softmax.lean ====
/-
  A MASKED SOFTMAX OVER THE EXTENDED REALS. The row of scores of one query against the compressed keys is finite on the
  keys whose block ends at or before the query — an initial part of the row — and minus infinity on the others. The softmax
  over a row cut anywhere past that part, its probabilities multiplied by the values on either side and its division done
  before or after the query's flag is multiplied in, is one number.
-/
module

public import Idealize.ShloMosaic.PureOps.Ideal
public import Idealize.ShloMosaic.PureOps.Ideal.Laws
public import Idealize.ShloMosaic.Lib.WordCmp
public import Mathlib.Data.EReal.Operations

@[expose] public section

noncomputable section

namespace Cert.Softmax

open Idealize.ShloMosaic

/-! ## Constants and words -/

theorem ofBits_neg_inf : Ideal.ofBits .f32 0xFF800000#32 = ⊥ := by simp [Ideal.ofBits, Ideal.ieee]

/-- A one-bit word as a number. -/
abbrev bit (x : BitVec 1) : EReal := FloatOps.uitofp (F := Ideal) .f32 x

/-- The key block's middle: half its length less one. -/
theorem ofBits_middle : Ideal.ofBits .f32 0x41780000#32 = ((31 / 2 : ℝ) : EReal) := by
  simp [Ideal.ofBits, Ideal.ieee, -EReal.coe_mul]; norm_num

/-- The score of key `x` for the query at position `t`: its product with the query less the slope times the distance from
    the middle of the key's block, and minus infinity where the block ends after the query. -/
def score (t x : ℕ) (slope dot : EReal) : EReal :=
  if 16 * x + 31 ≤ t then dot - slope * (((t : ℝ) : EReal) - ((((16 * x + 31 : ℕ) : ℝ) : EReal) - Ideal.ofBits .f32 0x41780000#32)) else ⊥

/-- The last position of a key's block, as the reference computes it. -/
theorem last_of_key (x : ℕ) (hx : x < 512) :
    IntOp.subi (IntOp.addi (IntOp.muli (BitVec.ofNat 32 x) 16#32) 32#32) 1#32 = BitVec.ofNat 32 (16 * x + 31) := by
  show BitVec.ofNat 32 x * 16#32 + 32#32 - 1#32 = _
  apply BitVec.eq_of_toNat_eq
  simp
  omega

/-- The last position of a key's block, as the kernel computes it. -/
theorem last_of_key' (x : ℕ) (hx : x < 512) :
    IntOp.addi (IntOp.muli (BitVec.ofNat 32 x) 16#32) 31#32 = BitVec.ofNat 32 (16 * x + 31) := by
  show BitVec.ofNat 32 x * 16#32 + 31#32 = _
  apply BitVec.eq_of_toNat_eq
  simp
  omega

/-- A query's position from its tile's number and its row in the tile. -/
theorem position (i r : ℕ) (hi : i < 16) (hr : r < 512) :
    IntOp.addi (Scalar.muli (BitVec.ofNat 32 i) 512#32) (BitVec.ofNat 32 r) = BitVec.ofNat 32 (i * 512 + r) := by
  show BitVec.ofNat 32 i * 512#32 + BitVec.ofNat 32 r = _
  apply BitVec.eq_of_toNat_eq
  simp

/-- A score computed on 32-bit words is that. -/
theorem score_of_words (t x : ℕ) (slope dot bot : EReal) (a w : BitVec 32) (mid : EReal) (ht : t < 8192) (hx : x < 512)
    (ha : a = BitVec.ofNat 32 (16 * x + 31)) (hw : w = BitVec.ofNat 32 t) (hb : bot = ⊥) (hm : mid = Ideal.ofBits .f32 0x41780000#32 := by rfl) :
    Scalar.select (IntOp.cmpi .sle a w) (dot - slope * (FloatOps.sitofp (F := Ideal) .f32 w - (FloatOps.sitofp (F := Ideal) .f32 a - mid))) bot
      = score t x slope dot := by
  subst ha hw hb hm
  have h1 : FloatOps.sitofp (F := Ideal) .f32 (BitVec.ofNat 32 t) = ((t : ℝ) : EReal) := by
    show (((BitVec.ofNat 32 t).toInt : ℝ) : EReal) = _
    rw [WordCmp.toInt_ofNat_of_lt (by omega)]; simp
  have h2 : FloatOps.sitofp (F := Ideal) .f32 (BitVec.ofNat 32 (16 * x + 31)) = (((16 * x + 31 : ℕ) : ℝ) : EReal) := by
    show (((BitVec.ofNat 32 (16 * x + 31)).toInt : ℝ) : EReal) = _
    rw [WordCmp.toInt_ofNat_of_lt (by omega)]; simp
  rw [h1, h2]
  unfold score
  rw [WordCmp.cmpi_sle_ofNat (by omega) (by omega), WordCmp.select_decide]

/-- The flag of a query that some key's block ends before. -/
theorem bit_live (t : ℕ) (ht : t < 8192) : bit (IntOp.cmpi .sge (BitVec.ofNat 32 t) 31#32) = if 31 ≤ t then 1 else 0 := by
  show ((((IntOp.cmpi .sge (BitVec.ofNat 32 t) (BitVec.ofNat 32 31)).toNat : ℕ) : ℝ) : EReal) = _
  rw [WordCmp.cmpi_sge_ofNat (by omega) (by omega)]
  by_cases h : 31 ≤ t
  · rw [if_pos h, decide_eq_true h]; simp
  · rw [if_neg h, decide_eq_false h]; simp

/-- The same flag widened to 32 bits and read signed. -/
theorem wide_live (t : ℕ) (ht : t < 8192) :
    FloatOps.sitofp (F := Ideal) .f32 (BitVec.setWidth 32 (IntOp.cmpi .sge (BitVec.ofNat 32 t) 31#32)) = if 31 ≤ t then 1 else 0 := by
  show ((((BitVec.setWidth 32 (IntOp.cmpi .sge (BitVec.ofNat 32 t) (BitVec.ofNat 32 31))).toInt : ℤ) : ℝ) : EReal) = _
  rw [WordCmp.cmpi_sge_ofNat (by omega) (by omega)]
  by_cases h : 31 ≤ t
  · rw [if_pos h, decide_eq_true h]; simp
  · rw [if_neg h, decide_eq_false h]; simp

/-! ## The softmax -/

/-- The kernel's order of the operations: the flag is divided by the row's sum first. -/
def attend {W : ℕ} (s : Fin W → EReal) (live : EReal) (v : Fin W → EReal) : EReal :=
  ∑ x, Ideal.exp (s x - Finset.univ.fold max (Ideal.ofBits .f32 0xFF800000#32) s)
    * Ideal.div live (∑ y, Ideal.exp (s y - Finset.univ.fold max (Ideal.ofBits .f32 0xFF800000#32) s)) * v x

/-- The reference's order: each exponential is divided by the row's sum, and the flag multiplied in after. -/
def attendRef {W : ℕ} (s : Fin W → EReal) (live : EReal) (v : Fin W → EReal) : EReal :=
  ∑ x, v x * (Ideal.div (Ideal.exp (s x - max (Ideal.ofBits .f32 0xFF800000#32) (Finset.univ.fold max (Ideal.ofBits .f32 0xFF800000#32) s)))
    (∑ y, Ideal.exp (s y - max (Ideal.ofBits .f32 0xFF800000#32) (Finset.univ.fold max (Ideal.ofBits .f32 0xFF800000#32) s))) * live)

theorem exp_nonneg (x : EReal) : 0 ≤ Ideal.exp x := by
  induction x with
  | bot => exact le_refl _
  | top => exact le_top
  | coe r => exact EReal.coe_nonneg.2 (Real.exp_pos r).le

theorem bot_sub_any (x : EReal) : (⊥ : EReal) - x = ⊥ := by rw [sub_eq_add_neg]; exact EReal.bot_add _

/-- A sum over an initial part of a row past which the row is zero is the sum over the whole row. -/
theorem sum_cut {W : ℕ} (hW : W ≤ 512) (f : Fin 512 → EReal) (n : ℕ) (hn : n ≤ W) (hf : ∀ x : Fin 512, n ≤ x.val → f x = 0) :
    ∑ x : Fin W, f ⟨x.val, by omega⟩ = ∑ x : Fin 512, f x := by
  have e1 : ∀ k (hk : k ≤ 512), ∑ x : Fin k, f ⟨x.val, by omega⟩ = ∑ x ∈ Finset.range k, (if h : x < 512 then f ⟨x, h⟩ else 0) := fun k hk => by
    rw [← Fin.sum_univ_eq_sum_range]
    exact Finset.sum_congr rfl fun x _ => by rw [dif_pos]
  rw [e1 W hW, show ∑ x : Fin 512, f x = _ from e1 512 (le_refl _)]
  refine Finset.sum_subset (Finset.range_mono hW) fun x hx hx' => ?_
  rw [Finset.mem_range] at hx hx'
  rw [dif_pos hx]
  exact hf _ (by show n ≤ x; omega)

/-- The greatest entry of an initial part of a row past which the row is minus infinity. -/
theorem max_cut {W : ℕ} (hW : W ≤ 512) (s : Fin 512 → EReal) (n : ℕ) (hn : n ≤ W) (hs : ∀ x : Fin 512, n ≤ x.val → s x = ⊥)
    (x0 : Fin 512) (h0 : x0.val < n) (hmax : ∀ x : Fin 512, x.val < n → s x ≤ s x0) :
    Finset.univ.fold max (Ideal.ofBits .f32 0xFF800000#32) (fun x : Fin W => s ⟨x.val, by omega⟩) = s x0 := by
  rw [ofBits_neg_inf]
  refine le_antisymm ?_ ?_
  · refine Finset.fold_max_le (s x0) |>.2 ⟨bot_le, fun x _ => ?_⟩
    by_cases hx : x.val < n
    · exact hmax _ hx
    · rw [hs _ (by show n ≤ x.val; omega)]; exact bot_le
  · exact Finset.le_fold_max (s x0) |>.2 (Or.inr ⟨⟨x0.val, by omega⟩, Finset.mem_univ _, le_refl _⟩)

/-- A row that is minus infinity has that as its greatest entry. -/
theorem max_bot {W : ℕ} (s : Fin W → EReal) (hs : ∀ x, s x = ⊥) :
    Finset.univ.fold max (Ideal.ofBits .f32 0xFF800000#32) s = ⊥ := by
  rw [ofBits_neg_inf]
  exact le_antisymm (Finset.fold_max_le ⊥ |>.2 ⟨le_refl _, fun x _ => (hs x).le⟩) bot_le

/-- The two softmaxes agree: the row `s` is finite on its first `n` entries and minus infinity past them, the kernel cuts it at
    `W` and the reference at `W'`, both at `n` or later, and the flag is 1 when `n` is positive and 0 when it is not. -/
theorem attend_eq {W W' : ℕ} (hW : W ≤ 512) (hW' : W' ≤ 512) (s v : Fin 512 → EReal) (n : ℕ) (hn : n ≤ W) (hn' : n ≤ W') (hn512 : n ≤ 512)
    (hbot : ∀ x : Fin 512, n ≤ x.val → s x = ⊥) (hfin : ∀ x : Fin 512, x.val < n → s x ≠ ⊥ ∧ s x ≠ ⊤) :
    attend (W := W) (fun x => s ⟨x.val, by omega⟩) (if 0 < n then 1 else 0) (fun x => v ⟨x.val, by omega⟩)
      = attendRef (W := W') (fun x => s ⟨x.val, by omega⟩) (if 0 < n then 1 else 0) (fun x => v ⟨x.val, by omega⟩) := by
  unfold attend attendRef
  by_cases hp : 0 < n
  · obtain ⟨x0, h0, hmax⟩ : ∃ x0 : Fin 512, x0.val < n ∧ ∀ x : Fin 512, x.val < n → s x ≤ s x0 := by
      obtain ⟨x0, h0, hm⟩ := Finset.exists_max_image (Finset.univ.filter fun x : Fin 512 => x.val < n) s ⟨⟨0, by omega⟩, by simp [hp]⟩
      exact ⟨x0, by simpa using h0, fun x hx => hm x (by simpa using hx)⟩
    rw [max_cut hW s n hn hbot x0 h0 hmax, max_cut hW' s n hn' hbot x0 h0 hmax, ofBits_neg_inf, max_eq_right (bot_le (a := s x0)), if_pos hp]
    have hz : ∀ x : Fin 512, n ≤ x.val → Ideal.exp (s x - s x0) = 0 := fun x hx => by rw [hbot x hx, bot_sub_any]; rfl
    rw [sum_cut hW (fun x => Ideal.exp (s x - s x0)) n hn hz, sum_cut hW' (fun x => Ideal.exp (s x - s x0)) n hn' hz]
    have hZ : (∑ x : Fin 512, Ideal.exp (s x - s x0)) ≠ 0 := by
      have h1 : Ideal.exp (s x0 - s x0) = 1 := by
        rw [EReal.sub_self (hfin x0 h0).2 (hfin x0 h0).1]
        show ((Real.exp 0 : ℝ) : EReal) = 1
        rw [Real.exp_zero]; rfl
      have h2 : Ideal.exp (s x0 - s x0) ≤ ∑ x : Fin 512, Ideal.exp (s x - s x0) :=
        Finset.single_le_sum (f := fun x => Ideal.exp (s x - s x0)) (fun x _ => exp_nonneg _) (Finset.mem_univ x0)
      rw [h1] at h2
      exact fun h => absurd (h ▸ h2) (not_le.2 zero_lt_one)
    generalize (∑ x : Fin 512, Ideal.exp (s x - s x0)) = Z at hZ
    have hd : ∀ x, Ideal.div x Z = x * Z⁻¹ := fun x => by unfold Ideal.div; rw [if_neg hZ]
    simp only [hd, one_mul, mul_one]
    rw [sum_cut hW (fun x => Ideal.exp (s x - s x0) * Z⁻¹ * v x) n hn (fun x hx => by rw [hz x hx, zero_mul, zero_mul]),
      sum_cut hW' (fun x => v x * (Ideal.exp (s x - s x0) * Z⁻¹)) n hn' (fun x hx => by rw [hz x hx, zero_mul, mul_zero])]
    exact Finset.sum_congr rfl fun x _ => mul_comm _ _
  · have hb : ∀ x : Fin 512, s x = ⊥ := fun x => hbot x (by omega)
    rw [max_bot _ (fun x => hb _), max_bot _ (fun x => hb _), if_neg hp]
    have he : ∀ x : Fin 512, Ideal.exp (s x - ⊥) = 0 := fun x => by rw [hb x, bot_sub_any]; rfl
    rw [Finset.sum_eq_zero fun x _ => ?_, Finset.sum_eq_zero fun x _ => ?_]
    · rw [mul_zero, mul_zero]
    · rw [he, zero_mul, zero_mul]

/-- The number of keys whose block ends at or before position `t`. -/
def seen (t : ℕ) : ℕ := (t - 15) / 16

theorem lt_seen (t x : ℕ) : x < seen t ↔ 16 * x + 31 ≤ t := by unfold seen; omega

theorem seen_pos (t : ℕ) : 0 < seen t ↔ 31 ≤ t := by unfold seen; omega

/-- A finite key against a finite query has a finite score wherever the key is seen. -/
theorem score_finite (t x : ℕ) (slope : ℝ) (dot : EReal) (h : 16 * x + 31 ≤ t) (h1 : dot ≠ ⊥) (h2 : dot ≠ ⊤) :
    score t x (slope : EReal) dot ≠ ⊥ ∧ score t x (slope : EReal) dot ≠ ⊤ := by
  unfold score
  rw [if_pos h, ofBits_middle]
  lift dot to ℝ using ⟨h2, h1⟩
  norm_cast
  exact ⟨EReal.coe_ne_bot _, EReal.coe_ne_top _⟩

/-- A sum of products of finite numbers is finite. -/
theorem dot_finite {K : ℕ} (f g : Fin K → EReal) (hf : ∀ x, f x ≠ ⊥ ∧ f x ≠ ⊤) (hg : ∀ x, g x ≠ ⊥ ∧ g x ≠ ⊤) :
    (∑ x, f x * g x) ≠ ⊥ ∧ (∑ x, f x * g x) ≠ ⊤ := by
  refine Finset.sum_induction _ (fun y : EReal => y ≠ ⊥ ∧ y ≠ ⊤) (fun y z hy hz => ?_) ⟨EReal.zero_ne_bot, EReal.zero_ne_top⟩ fun x _ => ?_
  · lift y to ℝ using ⟨hy.2, hy.1⟩
    lift z to ℝ using ⟨hz.2, hz.1⟩
    rw [← EReal.coe_add]
    exact ⟨EReal.coe_ne_bot _, EReal.coe_ne_top _⟩
  · rw [← EReal.coe_toReal (hf x).2 (hf x).1, ← EReal.coe_toReal (hg x).2 (hg x).1, ← EReal.coe_mul]
    exact ⟨EReal.coe_ne_bot _, EReal.coe_ne_top _⟩

/-- The two softmaxes agree on the row of scores of the query at position `t`, from finite products and a finite slope. -/
theorem attend_score {W W' : ℕ} (hW : W ≤ 512) (hW' : W' ≤ 512) (t : ℕ) (slope : ℝ) (dot v : Fin 512 → EReal)
    (hn : seen t ≤ W) (hn' : seen t ≤ W') (hdot : ∀ x, dot x ≠ ⊥ ∧ dot x ≠ ⊤) :
    attend (W := W) (fun x => score t x.val (slope : EReal) (dot ⟨x.val, by omega⟩)) (if 31 ≤ t then 1 else 0) (fun x => v ⟨x.val, by omega⟩)
      = attendRef (W := W') (fun x => score t x.val (slope : EReal) (dot ⟨x.val, by omega⟩)) (if 31 ≤ t then 1 else 0) (fun x => v ⟨x.val, by omega⟩) := by
  have e : (if 31 ≤ t then (1 : EReal) else 0) = if 0 < seen t then 1 else 0 := if_congr (seen_pos t).symm rfl rfl
  rw [e]
  refine attend_eq hW hW' (fun x => score t x.val (slope : EReal) (dot x)) v (seen t) hn hn' (by omega) (fun x hx => ?_) fun x hx => ?_
  · unfold score
    rw [if_neg fun h => absurd ((lt_seen t x.val).2 h) (by omega)]
  · exact score_finite t x.val slope (dot x) ((lt_seen t x.val).1 hx) (hdot x).1 (hdot x).2

end Cert.Softmax

end
-- ==== Proof.CmpCore.lean ====
module

public import proofs.«01_k».proof.Proof.Gen.KernelIdeal.Skeleton
public import Idealize.ShloMosaic.Lib.Pointwise
public import Idealize.ShloMosaic.Lib.Claim
public import proofs.«01_k».proof.Proof.Softmax

@[expose] public section

set_option maxRecDepth 16384

noncomputable section

open Idealize.ShloMosaic Idealize.ShloMosaic.TcCoe Idealize.SL.Sem

namespace Cert.KernelIdeal.Cmp

open Cert.KernelIdeal Cert.KernelIdeal.Gen Cert.Softmax

/-! The four heads' stores of each of the switch's branches, read at a row and a column: each is the softmax attention of the
    row's query over the branch's compressed keys. -/

/-- The mask constant is minus infinity. -/
theorem mask_eq : Named.named (F := Ideal) κ "mask" (φ := .f32) 0xF149F2CA#32 = (⊥ : EReal) := rfl

/-- A masked score at a key's and a query's positions. -/
theorem score_at (t x : ℕ) (slope dot : EReal) (ht : t < 8192) (hx : x < 512) :
    Scalar.select (IntOp.cmpi .sle (BitVec.ofNat 32 (16 * x + 31)) (BitVec.ofNat 32 t))
      (dot - slope * (FloatOps.sitofp (F := Ideal) .f32 (BitVec.ofNat 32 t) - (FloatOps.sitofp (F := Ideal) .f32 (BitVec.ofNat 32 (16 * x + 31)) - Ideal.ofBits .f32 0x41780000#32)))
      (Named.named (F := Ideal) κ "mask" (φ := .f32) 0xF149F2CA#32) = score t x slope dot :=
  score_of_words t x slope dot _ _ _ _ ht hx rfl rfl mask_eq

theorem tile_lt (i : grid0.Coords) : (i 2).val < 16 := (i 2).isLt

/-- The position of row `r`'s query. -/
abbrev pos (i : grid0.Coords) (r : Fin 512) : ℕ := (i 2).val * 512 + r.val

theorem pos_lt (i : grid0.Coords) (r : Fin 512) : pos i r < 8192 := by
  have := tile_lt i
  show (i 2).val * 512 + r.val < 8192
  omega

theorem head0_512 (i : grid0.Coords) (xk xv : Vec Ideal S1x512x128 .bf16) (xq : Vec Ideal S512x128 .bf16) (r : Fin 512) (d : Fin 128) :
    k0_pay9 (k0_pay54 i) (k0_pay55 (F := Ideal) i) (k0_pay56 (F := Ideal) i) xk xv xq (ix2 r d)
      = attend (fun x : Fin 512 => score (pos i r) x.val (Ideal.ofBits .f32 0x3F000000#32 * k0_pay56 (F := Ideal) i) (∑ e : Fin 128, xq (ix2 r e) * xk (ix3 0 x e)))
        (if 31 ≤ pos i r then 1 else 0) (fun x => xv (ix3 0 x d)) := by
  have hk : ∀ x : Fin 512, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 512 => score_at (pos i r) x.val (Ideal.ofBits .f32 0x3F000000#32 * k0_pay56 (F := Ideal) i) (∑ e : Fin 128, xq (ix2 r e) * xk (ix3 0 x e)) (pos_lt i r) (by omega)
  have hl := wide_live (pos i r) (pos_lt i r)
  pointwise [k0_pay2, k0_pay3, k0_pay4, k0_pay5, k0_pay6, k0_pay7, k0_pay8, k0_pay9, k0_pay10, k0_pay11, k0_pay12, k0_pay13, k0_pay14, k0_pay54, k0_pay55, k0_pay57, k0_pay59]
  simp only [hk, hp]
  unfold attend
  simp only [← hs, ← hl]

theorem head1_512 (i : grid0.Coords) (xk xv : Vec Ideal S1x512x128 .bf16) (xq : Vec Ideal S512x128 .bf16) (r : Fin 512) (d : Fin 128) :
    k0_pay12 (k0_pay55 (F := Ideal) i) (k0_pay56 (F := Ideal) i) (k0_pay3 (k0_pay54 i)) (k0_pay4 (F := Ideal) (k0_pay54 i)) (k0_pay5 xk) (k0_pay6 xv) xq (ix2 r d)
      = attend (fun x : Fin 512 => score (pos i r) x.val (Ideal.ofBits .f32 0x3E800000#32 * k0_pay56 (F := Ideal) i) (∑ e : Fin 128, xq (ix2 r e) * xk (ix3 0 x e)))
        (if 31 ≤ pos i r then 1 else 0) (fun x => xv (ix3 0 x d)) := by
  have hk : ∀ x : Fin 512, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 512 => score_at (pos i r) x.val (Ideal.ofBits .f32 0x3E800000#32 * k0_pay56 (F := Ideal) i) (∑ e : Fin 128, xq (ix2 r e) * xk (ix3 0 x e)) (pos_lt i r) (by omega)
  have hl := wide_live (pos i r) (pos_lt i r)
  pointwise [k0_pay2, k0_pay3, k0_pay4, k0_pay5, k0_pay6, k0_pay7, k0_pay8, k0_pay9, k0_pay10, k0_pay11, k0_pay12, k0_pay13, k0_pay14, k0_pay54, k0_pay55, k0_pay57, k0_pay59]
  simp only [hk, hp]
  unfold attend
  simp only [← hs, ← hl]

theorem head2_512 (i : grid0.Coords) (xk xv : Vec Ideal S1x512x128 .bf16) (xq : Vec Ideal S512x128 .bf16) (r : Fin 512) (d : Fin 128) :
    k0_pay58 (k0_pay6 xv) (k0_pay13 (k0_pay56 (F := Ideal) i) (k0_pay3 (k0_pay54 i)) (k0_pay4 (F := Ideal) (k0_pay54 i)) (k0_pay5 xk) xq) (k0_pay14 (k0_pay55 (F := Ideal) i) (k0_pay56 (F := Ideal) i) (k0_pay3 (k0_pay54 i)) (k0_pay4 (F := Ideal) (k0_pay54 i)) (k0_pay5 xk) xq) (ix2 r d)
      = attend (fun x : Fin 512 => score (pos i r) x.val (Ideal.ofBits .f32 0x3E000000#32 * k0_pay56 (F := Ideal) i) (∑ e : Fin 128, xq (ix2 r e) * xk (ix3 0 x e)))
        (if 31 ≤ pos i r then 1 else 0) (fun x => xv (ix3 0 x d)) := by
  have hk : ∀ x : Fin 512, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 512 => score_at (pos i r) x.val (Ideal.ofBits .f32 0x3E000000#32 * k0_pay56 (F := Ideal) i) (∑ e : Fin 128, xq (ix2 r e) * xk (ix3 0 x e)) (pos_lt i r) (by omega)
  have hl := wide_live (pos i r) (pos_lt i r)
  pointwise [k0_pay2, k0_pay3, k0_pay4, k0_pay5, k0_pay6, k0_pay7, k0_pay8, k0_pay9, k0_pay10, k0_pay11, k0_pay12, k0_pay13, k0_pay14, k0_pay54, k0_pay55, k0_pay57, k0_pay58, k0_pay59]
  simp only [hk, hp]
  unfold attend
  simp only [← hs, ← hl]

theorem head3_512 (i : grid0.Coords) (xk xv : Vec Ideal S1x512x128 .bf16) (xq : Vec Ideal S512x128 .bf16) (r : Fin 512) (d : Fin 128) :
    k0_pay60 (k0_pay55 (F := Ideal) i) (k0_pay56 (F := Ideal) i) (k0_pay3 (k0_pay54 i)) (k0_pay4 (F := Ideal) (k0_pay54 i)) (k0_pay5 xk) (k0_pay6 xv) xq (ix2 r d)
      = attend (fun x : Fin 512 => score (pos i r) x.val (Ideal.ofBits .f32 0x3D800000#32 * k0_pay56 (F := Ideal) i) (∑ e : Fin 128, xq (ix2 r e) * xk (ix3 0 x e)))
        (if 31 ≤ pos i r then 1 else 0) (fun x => xv (ix3 0 x d)) := by
  have hk : ∀ x : Fin 512, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 512 => score_at (pos i r) x.val (Ideal.ofBits .f32 0x3D800000#32 * k0_pay56 (F := Ideal) i) (∑ e : Fin 128, xq (ix2 r e) * xk (ix3 0 x e)) (pos_lt i r) (by omega)
  have hl := wide_live (pos i r) (pos_lt i r)
  pointwise [k0_pay2, k0_pay3, k0_pay4, k0_pay5, k0_pay6, k0_pay7, k0_pay8, k0_pay9, k0_pay10, k0_pay11, k0_pay12, k0_pay13, k0_pay14, k0_pay54, k0_pay55, k0_pay57, k0_pay59, k0_pay60]
  simp only [hk, hp]
  unfold attend
  simp only [← hs, ← hl]

theorem head0_384 (i : grid0.Coords) (xk xv : Vec Ideal S1x384x128 .bf16) (xq : Vec Ideal S512x128 .bf16) (r : Fin 512) (d : Fin 128) :
    k0_pay22 (k0_pay54 i) (k0_pay55 (F := Ideal) i) (k0_pay56 (F := Ideal) i) xk xv xq (ix2 r d)
      = attend (fun x : Fin 384 => score (pos i r) x.val (Ideal.ofBits .f32 0x3F000000#32 * k0_pay56 (F := Ideal) i) (∑ e : Fin 128, xq (ix2 r e) * xk (ix3 0 x e)))
        (if 31 ≤ pos i r then 1 else 0) (fun x => xv (ix3 0 x d)) := by
  have hk : ∀ x : Fin 384, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 384 => score_at (pos i r) x.val (Ideal.ofBits .f32 0x3F000000#32 * k0_pay56 (F := Ideal) i) (∑ e : Fin 128, xq (ix2 r e) * xk (ix3 0 x e)) (pos_lt i r) (by omega)
  have hl := wide_live (pos i r) (pos_lt i r)
  pointwise [k0_pay15, k0_pay16, k0_pay17, k0_pay18, k0_pay19, k0_pay20, k0_pay21, k0_pay22, k0_pay23, k0_pay24, k0_pay25, k0_pay26, k0_pay27, k0_pay54, k0_pay55, k0_pay62, k0_pay64]
  simp only [hk, hp]
  unfold attend
  simp only [← hs, ← hl]

theorem head1_384 (i : grid0.Coords) (xk xv : Vec Ideal S1x384x128 .bf16) (xq : Vec Ideal S512x128 .bf16) (r : Fin 512) (d : Fin 128) :
    k0_pay25 (k0_pay55 (F := Ideal) i) (k0_pay56 (F := Ideal) i) (k0_pay16 (k0_pay54 i)) (k0_pay17 (F := Ideal) (k0_pay54 i)) (k0_pay18 xk) (k0_pay19 xv) xq (ix2 r d)
      = attend (fun x : Fin 384 => score (pos i r) x.val (Ideal.ofBits .f32 0x3E800000#32 * k0_pay56 (F := Ideal) i) (∑ e : Fin 128, xq (ix2 r e) * xk (ix3 0 x e)))
        (if 31 ≤ pos i r then 1 else 0) (fun x => xv (ix3 0 x d)) := by
  have hk : ∀ x : Fin 384, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 384 => score_at (pos i r) x.val (Ideal.ofBits .f32 0x3E800000#32 * k0_pay56 (F := Ideal) i) (∑ e : Fin 128, xq (ix2 r e) * xk (ix3 0 x e)) (pos_lt i r) (by omega)
  have hl := wide_live (pos i r) (pos_lt i r)
  pointwise [k0_pay15, k0_pay16, k0_pay17, k0_pay18, k0_pay19, k0_pay20, k0_pay21, k0_pay22, k0_pay23, k0_pay24, k0_pay25, k0_pay26, k0_pay27, k0_pay54, k0_pay55, k0_pay62, k0_pay64]
  simp only [hk, hp]
  unfold attend
  simp only [← hs, ← hl]

theorem head2_384 (i : grid0.Coords) (xk xv : Vec Ideal S1x384x128 .bf16) (xq : Vec Ideal S512x128 .bf16) (r : Fin 512) (d : Fin 128) :
    k0_pay63 (k0_pay19 xv) (k0_pay26 (k0_pay56 (F := Ideal) i) (k0_pay16 (k0_pay54 i)) (k0_pay17 (F := Ideal) (k0_pay54 i)) (k0_pay18 xk) xq) (k0_pay27 (k0_pay55 (F := Ideal) i) (k0_pay56 (F := Ideal) i) (k0_pay16 (k0_pay54 i)) (k0_pay17 (F := Ideal) (k0_pay54 i)) (k0_pay18 xk) xq) (ix2 r d)
      = attend (fun x : Fin 384 => score (pos i r) x.val (Ideal.ofBits .f32 0x3E000000#32 * k0_pay56 (F := Ideal) i) (∑ e : Fin 128, xq (ix2 r e) * xk (ix3 0 x e)))
        (if 31 ≤ pos i r then 1 else 0) (fun x => xv (ix3 0 x d)) := by
  have hk : ∀ x : Fin 384, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 384 => score_at (pos i r) x.val (Ideal.ofBits .f32 0x3E000000#32 * k0_pay56 (F := Ideal) i) (∑ e : Fin 128, xq (ix2 r e) * xk (ix3 0 x e)) (pos_lt i r) (by omega)
  have hl := wide_live (pos i r) (pos_lt i r)
  pointwise [k0_pay15, k0_pay16, k0_pay17, k0_pay18, k0_pay19, k0_pay20, k0_pay21, k0_pay22, k0_pay23, k0_pay24, k0_pay25, k0_pay26, k0_pay27, k0_pay54, k0_pay55, k0_pay62, k0_pay63, k0_pay64]
  simp only [hk, hp]
  unfold attend
  simp only [← hs, ← hl]

theorem head3_384 (i : grid0.Coords) (xk xv : Vec Ideal S1x384x128 .bf16) (xq : Vec Ideal S512x128 .bf16) (r : Fin 512) (d : Fin 128) :
    k0_pay65 (k0_pay55 (F := Ideal) i) (k0_pay56 (F := Ideal) i) (k0_pay16 (k0_pay54 i)) (k0_pay17 (F := Ideal) (k0_pay54 i)) (k0_pay18 xk) (k0_pay19 xv) xq (ix2 r d)
      = attend (fun x : Fin 384 => score (pos i r) x.val (Ideal.ofBits .f32 0x3D800000#32 * k0_pay56 (F := Ideal) i) (∑ e : Fin 128, xq (ix2 r e) * xk (ix3 0 x e)))
        (if 31 ≤ pos i r then 1 else 0) (fun x => xv (ix3 0 x d)) := by
  have hk : ∀ x : Fin 384, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 384 => score_at (pos i r) x.val (Ideal.ofBits .f32 0x3D800000#32 * k0_pay56 (F := Ideal) i) (∑ e : Fin 128, xq (ix2 r e) * xk (ix3 0 x e)) (pos_lt i r) (by omega)
  have hl := wide_live (pos i r) (pos_lt i r)
  pointwise [k0_pay15, k0_pay16, k0_pay17, k0_pay18, k0_pay19, k0_pay20, k0_pay21, k0_pay22, k0_pay23, k0_pay24, k0_pay25, k0_pay26, k0_pay27, k0_pay54, k0_pay55, k0_pay62, k0_pay64, k0_pay65]
  simp only [hk, hp]
  unfold attend
  simp only [← hs, ← hl]

theorem head0_256 (i : grid0.Coords) (xk xv : Vec Ideal S1x256x128 .bf16) (xq : Vec Ideal S512x128 .bf16) (r : Fin 512) (d : Fin 128) :
    k0_pay35 (k0_pay54 i) (k0_pay55 (F := Ideal) i) (k0_pay56 (F := Ideal) i) xk xv xq (ix2 r d)
      = attend (fun x : Fin 256 => score (pos i r) x.val (Ideal.ofBits .f32 0x3F000000#32 * k0_pay56 (F := Ideal) i) (∑ e : Fin 128, xq (ix2 r e) * xk (ix3 0 x e)))
        (if 31 ≤ pos i r then 1 else 0) (fun x => xv (ix3 0 x d)) := by
  have hk : ∀ x : Fin 256, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 256 => score_at (pos i r) x.val (Ideal.ofBits .f32 0x3F000000#32 * k0_pay56 (F := Ideal) i) (∑ e : Fin 128, xq (ix2 r e) * xk (ix3 0 x e)) (pos_lt i r) (by omega)
  have hl := wide_live (pos i r) (pos_lt i r)
  pointwise [k0_pay28, k0_pay29, k0_pay30, k0_pay31, k0_pay32, k0_pay33, k0_pay34, k0_pay35, k0_pay36, k0_pay37, k0_pay38, k0_pay39, k0_pay40, k0_pay54, k0_pay55, k0_pay67, k0_pay69]
  simp only [hk, hp]
  unfold attend
  simp only [← hs, ← hl]

theorem head1_256 (i : grid0.Coords) (xk xv : Vec Ideal S1x256x128 .bf16) (xq : Vec Ideal S512x128 .bf16) (r : Fin 512) (d : Fin 128) :
    k0_pay38 (k0_pay55 (F := Ideal) i) (k0_pay56 (F := Ideal) i) (k0_pay29 (k0_pay54 i)) (k0_pay30 (F := Ideal) (k0_pay54 i)) (k0_pay31 xk) (k0_pay32 xv) xq (ix2 r d)
      = attend (fun x : Fin 256 => score (pos i r) x.val (Ideal.ofBits .f32 0x3E800000#32 * k0_pay56 (F := Ideal) i) (∑ e : Fin 128, xq (ix2 r e) * xk (ix3 0 x e)))
        (if 31 ≤ pos i r then 1 else 0) (fun x => xv (ix3 0 x d)) := by
  have hk : ∀ x : Fin 256, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 256 => score_at (pos i r) x.val (Ideal.ofBits .f32 0x3E800000#32 * k0_pay56 (F := Ideal) i) (∑ e : Fin 128, xq (ix2 r e) * xk (ix3 0 x e)) (pos_lt i r) (by omega)
  have hl := wide_live (pos i r) (pos_lt i r)
  pointwise [k0_pay28, k0_pay29, k0_pay30, k0_pay31, k0_pay32, k0_pay33, k0_pay34, k0_pay35, k0_pay36, k0_pay37, k0_pay38, k0_pay39, k0_pay40, k0_pay54, k0_pay55, k0_pay67, k0_pay69]
  simp only [hk, hp]
  unfold attend
  simp only [← hs, ← hl]

theorem head2_256 (i : grid0.Coords) (xk xv : Vec Ideal S1x256x128 .bf16) (xq : Vec Ideal S512x128 .bf16) (r : Fin 512) (d : Fin 128) :
    k0_pay68 (k0_pay32 xv) (k0_pay39 (k0_pay56 (F := Ideal) i) (k0_pay29 (k0_pay54 i)) (k0_pay30 (F := Ideal) (k0_pay54 i)) (k0_pay31 xk) xq) (k0_pay40 (k0_pay55 (F := Ideal) i) (k0_pay56 (F := Ideal) i) (k0_pay29 (k0_pay54 i)) (k0_pay30 (F := Ideal) (k0_pay54 i)) (k0_pay31 xk) xq) (ix2 r d)
      = attend (fun x : Fin 256 => score (pos i r) x.val (Ideal.ofBits .f32 0x3E000000#32 * k0_pay56 (F := Ideal) i) (∑ e : Fin 128, xq (ix2 r e) * xk (ix3 0 x e)))
        (if 31 ≤ pos i r then 1 else 0) (fun x => xv (ix3 0 x d)) := by
  have hk : ∀ x : Fin 256, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 256 => score_at (pos i r) x.val (Ideal.ofBits .f32 0x3E000000#32 * k0_pay56 (F := Ideal) i) (∑ e : Fin 128, xq (ix2 r e) * xk (ix3 0 x e)) (pos_lt i r) (by omega)
  have hl := wide_live (pos i r) (pos_lt i r)
  pointwise [k0_pay28, k0_pay29, k0_pay30, k0_pay31, k0_pay32, k0_pay33, k0_pay34, k0_pay35, k0_pay36, k0_pay37, k0_pay38, k0_pay39, k0_pay40, k0_pay54, k0_pay55, k0_pay67, k0_pay68, k0_pay69]
  simp only [hk, hp]
  unfold attend
  simp only [← hs, ← hl]

theorem head3_256 (i : grid0.Coords) (xk xv : Vec Ideal S1x256x128 .bf16) (xq : Vec Ideal S512x128 .bf16) (r : Fin 512) (d : Fin 128) :
    k0_pay70 (k0_pay55 (F := Ideal) i) (k0_pay56 (F := Ideal) i) (k0_pay29 (k0_pay54 i)) (k0_pay30 (F := Ideal) (k0_pay54 i)) (k0_pay31 xk) (k0_pay32 xv) xq (ix2 r d)
      = attend (fun x : Fin 256 => score (pos i r) x.val (Ideal.ofBits .f32 0x3D800000#32 * k0_pay56 (F := Ideal) i) (∑ e : Fin 128, xq (ix2 r e) * xk (ix3 0 x e)))
        (if 31 ≤ pos i r then 1 else 0) (fun x => xv (ix3 0 x d)) := by
  have hk : ∀ x : Fin 256, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 256 => score_at (pos i r) x.val (Ideal.ofBits .f32 0x3D800000#32 * k0_pay56 (F := Ideal) i) (∑ e : Fin 128, xq (ix2 r e) * xk (ix3 0 x e)) (pos_lt i r) (by omega)
  have hl := wide_live (pos i r) (pos_lt i r)
  pointwise [k0_pay28, k0_pay29, k0_pay30, k0_pay31, k0_pay32, k0_pay33, k0_pay34, k0_pay35, k0_pay36, k0_pay37, k0_pay38, k0_pay39, k0_pay40, k0_pay54, k0_pay55, k0_pay67, k0_pay69, k0_pay70]
  simp only [hk, hp]
  unfold attend
  simp only [← hs, ← hl]

theorem head0_128 (i : grid0.Coords) (xk xv : Vec Ideal S1x128x128 .bf16) (xq : Vec Ideal S512x128 .bf16) (r : Fin 512) (d : Fin 128) :
    k0_pay48 (k0_pay54 i) (k0_pay55 (F := Ideal) i) (k0_pay56 (F := Ideal) i) xk xv xq (ix2 r d)
      = attend (fun x : Fin 128 => score (pos i r) x.val (Ideal.ofBits .f32 0x3F000000#32 * k0_pay56 (F := Ideal) i) (∑ e : Fin 128, xq (ix2 r e) * xk (ix3 0 x e)))
        (if 31 ≤ pos i r then 1 else 0) (fun x => xv (ix3 0 x d)) := by
  have hk : ∀ x : Fin 128, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 128 => score_at (pos i r) x.val (Ideal.ofBits .f32 0x3F000000#32 * k0_pay56 (F := Ideal) i) (∑ e : Fin 128, xq (ix2 r e) * xk (ix3 0 x e)) (pos_lt i r) (by omega)
  have hl := wide_live (pos i r) (pos_lt i r)
  pointwise [k0_pay41, k0_pay42, k0_pay43, k0_pay44, k0_pay45, k0_pay46, k0_pay47, k0_pay48, k0_pay49, k0_pay50, k0_pay51, k0_pay52, k0_pay53, k0_pay54, k0_pay55, k0_pay72, k0_pay74]
  simp only [hk, hp]
  unfold attend
  simp only [← hs, ← hl]

theorem head1_128 (i : grid0.Coords) (xk xv : Vec Ideal S1x128x128 .bf16) (xq : Vec Ideal S512x128 .bf16) (r : Fin 512) (d : Fin 128) :
    k0_pay51 (k0_pay55 (F := Ideal) i) (k0_pay56 (F := Ideal) i) (k0_pay42 (k0_pay54 i)) (k0_pay43 (F := Ideal) (k0_pay54 i)) (k0_pay44 xk) (k0_pay45 xv) xq (ix2 r d)
      = attend (fun x : Fin 128 => score (pos i r) x.val (Ideal.ofBits .f32 0x3E800000#32 * k0_pay56 (F := Ideal) i) (∑ e : Fin 128, xq (ix2 r e) * xk (ix3 0 x e)))
        (if 31 ≤ pos i r then 1 else 0) (fun x => xv (ix3 0 x d)) := by
  have hk : ∀ x : Fin 128, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 128 => score_at (pos i r) x.val (Ideal.ofBits .f32 0x3E800000#32 * k0_pay56 (F := Ideal) i) (∑ e : Fin 128, xq (ix2 r e) * xk (ix3 0 x e)) (pos_lt i r) (by omega)
  have hl := wide_live (pos i r) (pos_lt i r)
  pointwise [k0_pay41, k0_pay42, k0_pay43, k0_pay44, k0_pay45, k0_pay46, k0_pay47, k0_pay48, k0_pay49, k0_pay50, k0_pay51, k0_pay52, k0_pay53, k0_pay54, k0_pay55, k0_pay72, k0_pay74]
  simp only [hk, hp]
  unfold attend
  simp only [← hs, ← hl]

theorem head2_128 (i : grid0.Coords) (xk xv : Vec Ideal S1x128x128 .bf16) (xq : Vec Ideal S512x128 .bf16) (r : Fin 512) (d : Fin 128) :
    k0_pay73 (k0_pay45 xv) (k0_pay52 (k0_pay56 (F := Ideal) i) (k0_pay42 (k0_pay54 i)) (k0_pay43 (F := Ideal) (k0_pay54 i)) (k0_pay44 xk) xq) (k0_pay53 (k0_pay55 (F := Ideal) i) (k0_pay56 (F := Ideal) i) (k0_pay42 (k0_pay54 i)) (k0_pay43 (F := Ideal) (k0_pay54 i)) (k0_pay44 xk) xq) (ix2 r d)
      = attend (fun x : Fin 128 => score (pos i r) x.val (Ideal.ofBits .f32 0x3E000000#32 * k0_pay56 (F := Ideal) i) (∑ e : Fin 128, xq (ix2 r e) * xk (ix3 0 x e)))
        (if 31 ≤ pos i r then 1 else 0) (fun x => xv (ix3 0 x d)) := by
  have hk : ∀ x : Fin 128, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 128 => score_at (pos i r) x.val (Ideal.ofBits .f32 0x3E000000#32 * k0_pay56 (F := Ideal) i) (∑ e : Fin 128, xq (ix2 r e) * xk (ix3 0 x e)) (pos_lt i r) (by omega)
  have hl := wide_live (pos i r) (pos_lt i r)
  pointwise [k0_pay41, k0_pay42, k0_pay43, k0_pay44, k0_pay45, k0_pay46, k0_pay47, k0_pay48, k0_pay49, k0_pay50, k0_pay51, k0_pay52, k0_pay53, k0_pay54, k0_pay55, k0_pay72, k0_pay73, k0_pay74]
  simp only [hk, hp]
  unfold attend
  simp only [← hs, ← hl]

theorem head3_128 (i : grid0.Coords) (xk xv : Vec Ideal S1x128x128 .bf16) (xq : Vec Ideal S512x128 .bf16) (r : Fin 512) (d : Fin 128) :
    k0_pay75 (k0_pay55 (F := Ideal) i) (k0_pay56 (F := Ideal) i) (k0_pay42 (k0_pay54 i)) (k0_pay43 (F := Ideal) (k0_pay54 i)) (k0_pay44 xk) (k0_pay45 xv) xq (ix2 r d)
      = attend (fun x : Fin 128 => score (pos i r) x.val (Ideal.ofBits .f32 0x3D800000#32 * k0_pay56 (F := Ideal) i) (∑ e : Fin 128, xq (ix2 r e) * xk (ix3 0 x e)))
        (if 31 ≤ pos i r then 1 else 0) (fun x => xv (ix3 0 x d)) := by
  have hk : ∀ x : Fin 128, IntOp.addi (IntOp.muli (BitVec.ofNat 32 x.val) 16#32) 31#32 = BitVec.ofNat 32 (16 * x.val + 31) := fun x => last_of_key' x.val (by omega)
  have hp := position (i 2).val r.val (tile_lt i) r.isLt
  have hs := fun x : Fin 128 => score_at (pos i r) x.val (Ideal.ofBits .f32 0x3D800000#32 * k0_pay56 (F := Ideal) i) (∑ e : Fin 128, xq (ix2 r e) * xk (ix3 0 x e)) (pos_lt i r) (by omega)
  have hl := wide_live (pos i r) (pos_lt i r)
  pointwise [k0_pay41, k0_pay42, k0_pay43, k0_pay44, k0_pay45, k0_pay46, k0_pay47, k0_pay48, k0_pay49, k0_pay50, k0_pay51, k0_pay52, k0_pay53, k0_pay54, k0_pay55, k0_pay72, k0_pay74, k0_pay75]
  simp only [hk, hp]
  unfold attend
  simp only [← hs, ← hl]

end Cert.KernelIdeal.Cmp

end
-- ==== Proof.CmpRef.lean ====
module

public import proofs.«01_k».proof.Proof.Gen.ReferenceIdeal.Run
public import Idealize.ShloMosaic.Lib.Pointwise
public import Idealize.ShloMosaic.Lib.Claim
public import proofs.«01_k».proof.Proof.Softmax

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen

/-- The eight heads' slopes, as the reference's table has them. -/
def slopes : FVec Ideal S8 .f32 := fun i => FloatOps.ofBits .f32 (lit0 (S8.rowMajor i))

/-- The scores: every head's query against every compressed key, less the distance's penalty, and minus infinity where the
    key's block ends after the query. -/
def scores (a0 : FVec Ideal S16384x2816 .bf16) (a1 : FVec Ideal S2x512x256 .bf16) : FVec Ideal S2x2x4x8192x511 .f32 :=
  select (broadcastInDim S2x2x4x8192x511 ![3, 4] bcast_S8192x511_S2x2x4x8192x511_3_4 (cmpi .sle (broadcastInDim S8192x511 ![0, 1] bcast_S1x511_S8192x511_0_1 (broadcastInDim S1x511 ![1] bcast_S511_S1x511_1 (subi (addi (muli (iotaInDim S511 32 0) (broadcastInDim S511 ![] bcast_S_S511 (constantI S_ 32 16#32))) (broadcastInDim S511 ![] bcast_S_S511 (constantI S_ 32 32#32))) (broadcastInDim S511 ![] bcast_S_S511 (constantI S_ 32 1#32))))) (broadcastInDim S8192x511 ![0, 1] bcast_S8192x1_S8192x511_0_1 (broadcastInDim S8192x1 ![0] bcast_S8192_S8192x1_0 (iotaInDim S8192 32 0))))) (subf (transpose S2x2x4x8192x511 [0, 1, 4, 3, 2] (Host.dotGeneral dot_S2x511x2x128_S2x8192x2x4x128_S2x2x511x8192x4_3_4_1_13_02_02 none (shapeCast _ (extractStridedSlice S2x511x256 ![0, 0, 0] (extf .f32 a1 bitsLt_bf16_f32) slices_S2x512x256_S2x511x256_0_0_0) shapeCasts_S2x511x256_S2x511x2x128) (shapeCast _ (extractStridedSlice S16384x1024 ![0, 0] (extf .f32 a0 bitsLt_bf16_f32) slices_S16384x2816_S16384x1024_0_0) shapeCasts_S16384x1024_S2x8192x2x4x128)) transposes_S2x2x511x8192x4_S2x2x4x8192x511_0_1_4_3_2) (broadcastInDim S2x2x4x8192x511 ![0, 1, 2, 3, 4] bcast_S1x2x4x8192x511_S2x2x4x8192x511_0_1_2_3_4 (broadcastInDim S1x2x4x8192x511 ![1, 2, 3, 4] bcast_S2x4x8192x511_S1x2x4x8192x511_1_2_3_4 (mulf (broadcastInDim S2x4x8192x511 ![0, 1, 2, 3] bcast_S2x4x1x1_S2x4x8192x511_0_1_2_3 (broadcastInDim S2x4x1x1 ![0, 1] bcast_S2x4_S2x4x1x1_0_1 (shapeCast _ slopes shapeCasts_S8_S2x4))) (broadcastInDim S2x4x8192x511 ![0, 1, 2, 3] bcast_S1x1x8192x511_S2x4x8192x511_0_1_2_3 (broadcastInDim S1x1x8192x511 ![2, 3] bcast_S8192x511_S1x1x8192x511_2_3 (subf (broadcastInDim S8192x511 ![0, 1] bcast_S8192x1_S8192x511_0_1 (sitofp .f32 (broadcastInDim S8192x1 ![0] bcast_S8192_S8192x1_0 (iotaInDim S8192 32 0)))) (broadcastInDim S8192x511 ![0, 1] bcast_S1x511_S8192x511_0_1 (broadcastInDim S1x511 ![1] bcast_S511_S1x511_1 (subf (sitofp .f32 (subi (addi (muli (iotaInDim S511 32 0) (broadcastInDim S511 ![] bcast_S_S511 (constantI S_ 32 16#32))) (broadcastInDim S511 ![] bcast_S_S511 (constantI S_ 32 32#32))) (broadcastInDim S511 ![] bcast_S_S511 (constantI S_ 32 1#32)))) (broadcastInDim S511 ![] bcast_S_S511 (constant S_ .f32 0x41780000#32)))))))))))) (broadcastInDim S2x2x4x8192x511 ![] bcast_S_S2x2x4x8192x511 (id (constant S_ .f32 0xFF800000#32)))

/-- Each row's greatest score. -/
def greatest (s : FVec Ideal S2x2x4x8192x511 .f32) : FVec Ideal S2x2x4x8192 .f32 :=
  Host.reduce FloatOps.maximumf s (constant S_ .f32 0xFF800000#32) reducesTo_S2x2x4x8192x511_S2x2x4x8192_d4 h_S_

/-- The scores' exponentials, each row's greatest score taken off first. -/
def expo (s : FVec Ideal S2x2x4x8192x511 .f32) (g : FVec Ideal S2x2x4x8192 .f32) : FVec Ideal S2x2x4x8192x511 .f32 :=
  Host.exp (subf s (broadcastInDim S2x2x4x8192x511 ![0, 1, 2, 3, 4] bcast_S2x2x4x8192x1_S2x2x4x8192x511_0_1_2_3_4 (broadcastInDim S2x2x4x8192x1 ![0, 1, 2, 3] bcast_S2x2x4x8192_S2x2x4x8192x1_0_1_2_3 (maximumf (broadcastInDim S2x2x4x8192 ![] bcast_S_S2x2x4x8192 (constant S_ .f32 0xFF800000#32)) g))))

/-- The probabilities: the exponentials over their row's sum, and nothing for a query no key's block ends before. -/
def probs (e : FVec Ideal S2x2x4x8192x511 .f32) : FVec Ideal S2x2x4x8192x511 .f32 :=
  mulf (Host.divf e (broadcastInDim S2x2x4x8192x511 ![0, 1, 2, 3, 4] bcast_S2x2x4x8192x1_S2x2x4x8192x511_0_1_2_3_4 (broadcastInDim S2x2x4x8192x1 ![0, 1, 2, 3] bcast_S2x2x4x8192_S2x2x4x8192x1_0_1_2_3 (Host.reduceAdd e (constant S_ .f32 0x00000000#32) reducesTo_S2x2x4x8192x511_S2x2x4x8192_d4 h_S_)))) (broadcastInDim S2x2x4x8192x511 ![0, 1, 2, 3, 4] bcast_S1x1x1x8192x1_S2x2x4x8192x511_0_1_2_3_4 (broadcastInDim S1x1x1x8192x1 ![3, 4] bcast_S8192x1_S1x1x1x8192x1_3_4 (uitofp .f32 (broadcastInDim S8192x1 ![0] bcast_S8192_S8192x1_0 (cmpi .sge (iotaInDim S8192 32 0) (broadcastInDim S8192 ![] bcast_S_S8192 (constantI S_ 32 31#32)))))))

/-- The probabilities' sums over the compressed values. -/
def sums (p : FVec Ideal S2x2x4x8192x511 .f32) (a2 : FVec Ideal S2x512x256 .bf16) : FVec Ideal S2x2x128x4x8192 .f32 :=
  Host.dotGeneral dot_S2x511x2x128_S2x2x4x8192x511_S2x2x128x4x8192_1_4_3_23_02_01 none (shapeCast _ (extractStridedSlice S2x511x256 ![0, 0, 0] (extf .f32 a2 bitsLt_bf16_f32) slices_S2x512x256_S2x511x256_0_0_0) shapeCasts_S2x511x256_S2x511x2x128) p

/-- The result: the sums, rows of queries and columns of heads. -/
def mixed (e : FVec Ideal S2x2x4x8192x511 .f32) (a2 : FVec Ideal S2x512x256 .bf16) : FVec Ideal S16384x1024 .f32 :=
  shapeCast _ (transpose S2x8192x2x4x128 [0, 4, 1, 3, 2] (sums (probs e) a2) transposes_S2x2x128x4x8192_S2x8192x2x4x128_0_4_1_3_2) shapeCasts_S2x8192x2x4x128_S16384x1024

/-- The reference's result is that. -/
theorem res_eq (m : (ℓ : Loc nD τ sig) → Buf (Elt Ideal) ℓ) (c : Dev nD) :
    Value.res_out0 (F := Ideal) m c = mixed (expo (scores (m ((c.tc : Thread nD τ).loc main_arg0)) (m ((c.tc : Thread nD τ).loc main_arg1)))
        (greatest (scores (m ((c.tc : Thread nD τ).loc main_arg0)) (m ((c.tc : Thread nD τ).loc main_arg1)))))
      (m ((c.tc : Thread nD τ).loc main_arg2)) := by
  unfold Value.res_out0 Value.res_main_v63 mixed sums probs expo greatest scores slopes
  rfl

/-- An entry of the result is the sum over the compressed keys of their values, weighed by the probabilities. -/
theorem mixed_at (e : FVec Ideal S2x2x4x8192x511 .f32) (a2 : FVec Ideal S2x512x256 .bf16) (R : Fin 16384) (C : Fin 1024)
    (b g : Fin 2) (j : Fin 4) (t : Fin 8192) (d : Fin 128) (hR : (R : ℕ) = b.val * 8192 + t.val) (hC : (C : ℕ) = g.val * 512 + j.val * 128 + d.val) :
    mixed e a2 (ix2 R C) = sums (probs e) a2 (ix5 b g d j t) := by
  have h : mixed e a2 (ix2 R C) = sums (probs e) a2 (ix5 ⟨R.val / 8192, by omega⟩ ⟨C.val / 512, by omega⟩ ⟨C.val % 128, by omega⟩
      ⟨C.val / 128 % 4, by omega⟩ ⟨R.val % 8192, by omega⟩) := by
    pointwise [mixed]
  rw [h]
  have e0 : (⟨R.val / 8192, by omega⟩ : Fin 2) = b := Fin.ext (by show R.val / 8192 = b.val; omega)
  have e1 : (⟨C.val / 512, by omega⟩ : Fin 2) = g := Fin.ext (by show C.val / 512 = g.val; omega)
  have e2 : (⟨C.val % 128, by omega⟩ : Fin 128) = d := Fin.ext (by show C.val % 128 = d.val; omega)
  have e3 : (⟨C.val / 128 % 4, by omega⟩ : Fin 4) = j := Fin.ext (by show C.val / 128 % 4 = j.val; omega)
  have e4 : (⟨R.val % 8192, by omega⟩ : Fin 8192) = t := Fin.ext (by show R.val % 8192 = t.val; omega)
  rw [e0, e1, e2, e3, e4]

/-- A sum over the compressed values, read at an index. -/
theorem sums_at (p : FVec Ideal S2x2x4x8192x511 .f32) (a2 : FVec Ideal S2x512x256 .bf16) (b g : Fin 2) (j : Fin 4) (t : Fin 8192) (d : Fin 128) :
    sums p a2 (ix5 b g d j t) = ∑ y : Fin 511, a2 (ix3 b ⟨y.val, by omega⟩ ⟨g.val * 128 + d.val, by omega⟩) * p (ix5 b g j t y) := by
  pointwise [sums]

/-- A probability, read at an index. -/
theorem probs_at (e : FVec Ideal S2x2x4x8192x511 .f32) (b g : Fin 2) (j : Fin 4) (t : Fin 8192) (y : Fin 511) :
    probs e (ix5 b g j t y) = Ideal.div (e (ix5 b g j t y)) (∑ z : Fin 511, e (ix5 b g j t z))
      * Cert.Softmax.bit (IntOp.cmpi .sge (BitVec.ofNat 32 t.val) 31#32) := by
  pointwise [probs, Cert.Softmax.bit]

/-- A row's greatest score, read at an index. -/
theorem greatest_at (s : FVec Ideal S2x2x4x8192x511 .f32) (b g : Fin 2) (j : Fin 4) (t : Fin 8192) :
    greatest s (ix4 b g j t) = Finset.univ.fold max (Ideal.ofBits .f32 0xFF800000#32) fun z : Fin 511 => s (ix5 b g j t z) := by
  pointwise [greatest]

/-- An exponential, read at an index. -/
theorem expo_at (s : FVec Ideal S2x2x4x8192x511 .f32) (w : FVec Ideal S2x2x4x8192 .f32) (b g : Fin 2) (j : Fin 4) (t : Fin 8192) (y : Fin 511) :
    expo s w (ix5 b g j t y) = Ideal.exp (s (ix5 b g j t y) - max (Ideal.ofBits .f32 0xFF800000#32) (w (ix4 b g j t))) := by
  pointwise [expo]

/-- A score, read at an index: the key's product with the query less the slope times the distance, or minus infinity. -/
theorem scores_at (a0 : FVec Ideal S16384x2816 .bf16) (a1 : FVec Ideal S2x512x256 .bf16) (b g : Fin 2) (j : Fin 4) (t : Fin 8192) (y : Fin 511) :
    scores a0 a1 (ix5 b g j t y) = Cert.Softmax.score t.val y.val (slopes (ix1 ⟨g.val * 4 + j.val, by omega⟩))
      (∑ x : Fin 128, a0 (ix2 ⟨b.val * 8192 + t.val, by omega⟩ ⟨g.val * 512 + j.val * 128 + x.val, by omega⟩)
        * a1 (ix3 b ⟨y.val, by omega⟩ ⟨g.val * 128 + x.val, by omega⟩)) := by
  pointwise [scores]
  simp only [mul_comm (a1 _)]
  exact Cert.Softmax.score_of_words t.val y.val _ _ _ _ _ _ (by omega) (by omega) (Cert.Softmax.last_of_key y.val (by omega)) rfl Cert.Softmax.ofBits_neg_inf

/-- A head's slope is two to the minus its number, from one. -/
theorem slopes_at (h : Fin 8) : slopes (ix1 h) = ((((1 : ℝ) / 2) ^ (h.val + 1) : ℝ) : EReal) := by
  have e : slopes (ix1 h) = Ideal.ofBits .f32 (lit0 h) := by
    unfold slopes
    exact congrArg (fun k => Ideal.ofBits .f32 (lit0 k)) (Fin.ext (rowMajor_val1 (ix1 h)))
  rw [e]
  fin_cases h <;> (simp [lit0, Ideal.ofBits, Ideal.ieee, -EReal.coe_mul, -EReal.coe_pow]; try norm_num)

/-- An entry of the result is the reference's softmax attention of one query of one head. -/
theorem value_at (a0 : FVec Ideal S16384x2816 .bf16) (a1 a2 : FVec Ideal S2x512x256 .bf16) (R : Fin 16384) (C : Fin 1024)
    (b g : Fin 2) (j : Fin 4) (t : Fin 8192) (d : Fin 128) (hR : (R : ℕ) = b.val * 8192 + t.val) (hC : (C : ℕ) = g.val * 512 + j.val * 128 + d.val) :
    mixed (expo (scores a0 a1) (greatest (scores a0 a1))) a2 (ix2 R C)
      = Cert.Softmax.attendRef (W := 511) (fun y => Cert.Softmax.score t.val y.val ((((1 : ℝ) / 2) ^ (g.val * 4 + j.val + 1) : ℝ) : EReal)
          (∑ x : Fin 128, a0 (ix2 ⟨b.val * 8192 + t.val, by omega⟩ ⟨g.val * 512 + j.val * 128 + x.val, by omega⟩)
            * a1 (ix3 b ⟨y.val, by omega⟩ ⟨g.val * 128 + x.val, by omega⟩)))
          (if 31 ≤ t.val then 1 else 0) (fun y => a2 (ix3 b ⟨y.val, by omega⟩ ⟨g.val * 128 + d.val, by omega⟩)) := by
  rw [mixed_at _ a2 R C b g j t d hR hC, sums_at]
  simp only [probs_at, expo_at, greatest_at, scores_at, slopes_at, Cert.Softmax.bit_live t.val t.isLt]
  rfl

end Cert.ReferenceIdeal.Cmp

end
-- ==== Proof.CmpValue.lean ====
/-
  THE COMPRESSED ATTENTION'S VALUE. Each branch of the switch leaves, in the output's buffer, the softmax attention of the
  block's queries over the branch's compressed keys; the branch a point takes has every key the block's queries see; so the
  array after the run is the reference's, when the queries and the keys are finite.
-/
module

public import proofs.«01_k».proof.Proof.CmpRunIdeal
public import proofs.«01_k».proof.Proof.CmpCore
public import proofs.«01_k».proof.Proof.CmpRef
public import proofs.«01_k».proof.Defs
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem

namespace Cert.KernelIdeal.Cmp

open Cert.KernelIdeal Cert.KernelIdeal.Gen Cert.Softmax

/-! ## The slopes -/

/-- The slope of head `j` of the point's group. -/
def slopeOf (i : grid0.Coords) (j : Fin 4) : EReal := ((((1 : ℝ) / 2) ^ ((i 1).val * 4 + j.val + 1) : ℝ) : EReal)

theorem group_lt (i : grid0.Coords) : (i 1).val < 2 := (i 1).isLt

/-- The group's scale: one for the first, a sixteenth for the second. -/
theorem scale_eq (i : grid0.Coords) : k0_pay56 (F := Ideal) i = ((((1 : ℝ) / 2) ^ ((i 1).val * 4) : ℝ) : EReal) := by
  have hg := group_lt i
  unfold k0_pay56
  dsimp only
  generalize (i 1).val = g at hg ⊢
  obtain rfl | rfl : g = 0 ∨ g = 1 := by omega
  · show Ideal.ofBits .f32 0x3F800000#32 = _
    simp [Ideal.ofBits, Ideal.ieee, -EReal.coe_mul, -EReal.coe_pow]; norm_num
  · show Ideal.ofBits .f32 0x3D800000#32 = _
    simp [Ideal.ofBits, Ideal.ieee, -EReal.coe_mul, -EReal.coe_pow]; norm_num

theorem slope_0 (i : grid0.Coords) : Ideal.ofBits .f32 0x3F000000#32 * k0_pay56 (F := Ideal) i = slopeOf i 0 := by
  have e : Ideal.ofBits .f32 0x3F000000#32 = ((((1 : ℝ) / 2) ^ (0 + 1) : ℝ) : EReal) := by
    simp [Ideal.ofBits, Ideal.ieee, -EReal.coe_mul, -EReal.coe_pow]; try norm_num
  rw [e, scale_eq, ← EReal.coe_mul, ← pow_add]
  unfold slopeOf
  congr 2
  show 0 + 1 + (i 1).val * 4 = (i 1).val * 4 + 0 + 1
  omega

theorem slope_1 (i : grid0.Coords) : Ideal.ofBits .f32 0x3E800000#32 * k0_pay56 (F := Ideal) i = slopeOf i 1 := by
  have e : Ideal.ofBits .f32 0x3E800000#32 = ((((1 : ℝ) / 2) ^ (1 + 1) : ℝ) : EReal) := by
    simp [Ideal.ofBits, Ideal.ieee, -EReal.coe_mul, -EReal.coe_pow]; try norm_num
  rw [e, scale_eq, ← EReal.coe_mul, ← pow_add]
  unfold slopeOf
  congr 2
  show 1 + 1 + (i 1).val * 4 = (i 1).val * 4 + 1 + 1
  omega

theorem slope_2 (i : grid0.Coords) : Ideal.ofBits .f32 0x3E000000#32 * k0_pay56 (F := Ideal) i = slopeOf i 2 := by
  have e : Ideal.ofBits .f32 0x3E000000#32 = ((((1 : ℝ) / 2) ^ (2 + 1) : ℝ) : EReal) := by
    simp [Ideal.ofBits, Ideal.ieee, -EReal.coe_mul, -EReal.coe_pow]; try norm_num
  rw [e, scale_eq, ← EReal.coe_mul, ← pow_add]
  unfold slopeOf
  congr 2
  show 2 + 1 + (i 1).val * 4 = (i 1).val * 4 + 2 + 1
  omega

theorem slope_3 (i : grid0.Coords) : Ideal.ofBits .f32 0x3D800000#32 * k0_pay56 (F := Ideal) i = slopeOf i 3 := by
  have e : Ideal.ofBits .f32 0x3D800000#32 = ((((1 : ℝ) / 2) ^ (3 + 1) : ℝ) : EReal) := by
    simp [Ideal.ofBits, Ideal.ieee, -EReal.coe_mul, -EReal.coe_pow]; try norm_num
  rw [e, scale_eq, ← EReal.coe_mul, ← pow_add]
  unfold slopeOf
  congr 2
  show 3 + 1 + (i 1).val * 4 = (i 1).val * 4 + 3 + 1
  omega

/-! ## The loads -/

theorem query_0 (X : Vec Ideal S512x512 .bf16) (r : Fin 512) (e : Fin 128) :
    View.ld X head0 (ix2 r e) = X (ix2 r ⟨(0 : Fin 4).val * 128 + e.val, by have : (0 : Fin 4).val = 0 := rfl; omega⟩) := by
  pointwise

theorem query_1 (X : Vec Ideal S512x512 .bf16) (r : Fin 512) (e : Fin 128) :
    View.ld X head1 (ix2 r e) = X (ix2 r ⟨(1 : Fin 4).val * 128 + e.val, by have : (1 : Fin 4).val = 1 := rfl; omega⟩) := by
  pointwise

theorem query_2 (X : Vec Ideal S512x512 .bf16) (r : Fin 512) (e : Fin 128) :
    View.ld X head2 (ix2 r e) = X (ix2 r ⟨(2 : Fin 4).val * 128 + e.val, by have : (2 : Fin 4).val = 2 := rfl; omega⟩) := by
  pointwise

theorem query_3 (X : Vec Ideal S512x512 .bf16) (r : Fin 512) (e : Fin 128) :
    View.ld X head3 (ix2 r e) = X (ix2 r ⟨(3 : Fin 4).val * 128 + e.val, by have : (3 : Fin 4).val = 3 := rfl; omega⟩) := by
  pointwise

theorem key_512 (X : Vec Ideal S1x512x128 .bf16) (x : Fin 512) (e : Fin 128) :
    View.ld X keys512 (ix3 0 x e) = X (ix3 0 ⟨x.val, by omega⟩ e) := by
  pointwise

theorem key_384 (X : Vec Ideal S1x512x128 .bf16) (x : Fin 384) (e : Fin 128) :
    View.ld X keys384 (ix3 0 x e) = X (ix3 0 ⟨x.val, by omega⟩ e) := by
  pointwise

theorem key_256 (X : Vec Ideal S1x512x128 .bf16) (x : Fin 256) (e : Fin 128) :
    View.ld X keys256 (ix3 0 x e) = X (ix3 0 ⟨x.val, by omega⟩ e) := by
  pointwise

theorem key_128 (X : Vec Ideal S1x512x128 .bf16) (x : Fin 128) (e : Fin 128) :
    View.ld X keys128 (ix3 0 x e) = X (ix3 0 ⟨x.val, by omega⟩ e) := by
  pointwise

/-! ## What a branch leaves -/

/-- The softmax attention of the block's row `r` by head `j` over the first `W` of the block's keys, at column `d`. -/
def attention (W : ℕ) (hW : W ≤ 512) (i : grid0.Coords) (xq : Vec Ideal S512x512 .bf16) (xk xv : Vec Ideal S1x512x128 .bf16)
    (r : Fin 512) (j : Fin 4) (d : Fin 128) : EReal :=
  attend (fun x : Fin W => score (pos i r) x.val (slopeOf i j) (∑ e : Fin 128, xq (ix2 r ⟨j.val * 128 + e.val, by omega⟩) * xk (ix3 0 ⟨x.val, by omega⟩ e)))
    (if 31 ≤ pos i r then 1 else 0) (fun x => xv (ix3 0 ⟨x.val, by omega⟩ d))

theorem attention_of (W : ℕ) (hW : W ≤ 512) (i : grid0.Coords) (xq : Vec Ideal S512x512 .bf16) (xk xv : Vec Ideal S1x512x128 .bf16)
    (r : Fin 512) (j : Fin 4) (d : Fin 128) (q : Fin 128 → EReal) (k : Fin W → Fin 128 → EReal) (v : Fin W → EReal)
    (hq : ∀ e, q e = xq (ix2 r ⟨j.val * 128 + e.val, by omega⟩)) (hk : ∀ x e, k x e = xk (ix3 0 ⟨x.val, by omega⟩ e))
    (hv : ∀ x, v x = xv (ix3 0 ⟨x.val, by omega⟩ d)) :
    attend (fun x : Fin W => score (pos i r) x.val (slopeOf i j) (∑ e : Fin 128, q e * k x e)) (if 31 ≤ pos i r then 1 else 0) v
      = attention W hW i xq xk xv r j d := by
  unfold attention
  simp only [hq, hk]
  rw [funext hv]

/-- The branch over 512 keys leaves that attention in the output's buffer. -/
theorem left_512 (i : grid0.Coords) (xq : Vec Ideal S512x512 .bf16) (xk xv : Vec Ideal S1x512x128 .bf16) (y : S512x512.Idx)
    (r : Fin 512) (j : Fin 4) (d : Fin 128) (a0 : (y 0 : ℕ) = r.val) (a1 : (y 1 : ℕ) = j.val * 128 + d.val) :
    View.canon (pieces512 (F := Ideal) i xq xk xv) y = attention 512 (by omega) i xq xk xv r j d := by
  unfold pieces512
  canon_tiles x h
  · obtain rfl : j = 3 := Fin.ext (by show j.val = 3; omega)
    have e : x = ix2 r d := (eq_ix2 x).trans (by congr 1 <;> apply Fin.ext <;> simp at * <;> omega)
    rw [e]
    refine (head3_512 i _ _ _ r d).trans ?_
    rw [slope_3]
    exact attention_of 512 (by omega) i xq xk xv r 3 d _ _ _ (query_3 xq r) (key_512 xk) (fun x => key_512 xv x d)
  · obtain rfl : j = 2 := Fin.ext (by show j.val = 2; omega)
    have e : x = ix2 r d := (eq_ix2 x).trans (by congr 1 <;> apply Fin.ext <;> simp at * <;> omega)
    rw [e]
    refine (head2_512 i _ _ _ r d).trans ?_
    rw [slope_2]
    exact attention_of 512 (by omega) i xq xk xv r 2 d _ _ _ (query_2 xq r) (key_512 xk) (fun x => key_512 xv x d)
  · obtain rfl : j = 1 := Fin.ext (by show j.val = 1; omega)
    have e : x = ix2 r d := (eq_ix2 x).trans (by congr 1 <;> apply Fin.ext <;> simp at * <;> omega)
    rw [e]
    refine (head1_512 i _ _ _ r d).trans ?_
    rw [slope_1]
    exact attention_of 512 (by omega) i xq xk xv r 1 d _ _ _ (query_1 xq r) (key_512 xk) (fun x => key_512 xv x d)
  · obtain rfl : j = 0 := Fin.ext (by show j.val = 0; omega)
    have e : x = ix2 r d := (eq_ix2 x).trans (by congr 1 <;> apply Fin.ext <;> simp at * <;> omega)
    rw [e]
    refine (head0_512 i _ _ _ r d).trans ?_
    rw [slope_0]
    exact attention_of 512 (by omega) i xq xk xv r 0 d _ _ _ (query_0 xq r) (key_512 xk) (fun x => key_512 xv x d)

/-- The branch over 384 keys leaves that attention in the output's buffer. -/
theorem left_384 (i : grid0.Coords) (xq : Vec Ideal S512x512 .bf16) (xk xv : Vec Ideal S1x512x128 .bf16) (y : S512x512.Idx)
    (r : Fin 512) (j : Fin 4) (d : Fin 128) (a0 : (y 0 : ℕ) = r.val) (a1 : (y 1 : ℕ) = j.val * 128 + d.val) :
    View.canon (pieces384 (F := Ideal) i xq xk xv) y = attention 384 (by omega) i xq xk xv r j d := by
  unfold pieces384
  canon_tiles x h
  · obtain rfl : j = 3 := Fin.ext (by show j.val = 3; omega)
    have e : x = ix2 r d := (eq_ix2 x).trans (by congr 1 <;> apply Fin.ext <;> simp at * <;> omega)
    rw [e]
    refine (head3_384 i _ _ _ r d).trans ?_
    rw [slope_3]
    exact attention_of 384 (by omega) i xq xk xv r 3 d _ _ _ (query_3 xq r) (key_384 xk) (fun x => key_384 xv x d)
  · obtain rfl : j = 2 := Fin.ext (by show j.val = 2; omega)
    have e : x = ix2 r d := (eq_ix2 x).trans (by congr 1 <;> apply Fin.ext <;> simp at * <;> omega)
    rw [e]
    refine (head2_384 i _ _ _ r d).trans ?_
    rw [slope_2]
    exact attention_of 384 (by omega) i xq xk xv r 2 d _ _ _ (query_2 xq r) (key_384 xk) (fun x => key_384 xv x d)
  · obtain rfl : j = 1 := Fin.ext (by show j.val = 1; omega)
    have e : x = ix2 r d := (eq_ix2 x).trans (by congr 1 <;> apply Fin.ext <;> simp at * <;> omega)
    rw [e]
    refine (head1_384 i _ _ _ r d).trans ?_
    rw [slope_1]
    exact attention_of 384 (by omega) i xq xk xv r 1 d _ _ _ (query_1 xq r) (key_384 xk) (fun x => key_384 xv x d)
  · obtain rfl : j = 0 := Fin.ext (by show j.val = 0; omega)
    have e : x = ix2 r d := (eq_ix2 x).trans (by congr 1 <;> apply Fin.ext <;> simp at * <;> omega)
    rw [e]
    refine (head0_384 i _ _ _ r d).trans ?_
    rw [slope_0]
    exact attention_of 384 (by omega) i xq xk xv r 0 d _ _ _ (query_0 xq r) (key_384 xk) (fun x => key_384 xv x d)

/-- The branch over 256 keys leaves that attention in the output's buffer. -/
theorem left_256 (i : grid0.Coords) (xq : Vec Ideal S512x512 .bf16) (xk xv : Vec Ideal S1x512x128 .bf16) (y : S512x512.Idx)
    (r : Fin 512) (j : Fin 4) (d : Fin 128) (a0 : (y 0 : ℕ) = r.val) (a1 : (y 1 : ℕ) = j.val * 128 + d.val) :
    View.canon (pieces256 (F := Ideal) i xq xk xv) y = attention 256 (by omega) i xq xk xv r j d := by
  unfold pieces256
  canon_tiles x h
  · obtain rfl : j = 3 := Fin.ext (by show j.val = 3; omega)
    have e : x = ix2 r d := (eq_ix2 x).trans (by congr 1 <;> apply Fin.ext <;> simp at * <;> omega)
    rw [e]
    refine (head3_256 i _ _ _ r d).trans ?_
    rw [slope_3]
    exact attention_of 256 (by omega) i xq xk xv r 3 d _ _ _ (query_3 xq r) (key_256 xk) (fun x => key_256 xv x d)
  · obtain rfl : j = 2 := Fin.ext (by show j.val = 2; omega)
    have e : x = ix2 r d := (eq_ix2 x).trans (by congr 1 <;> apply Fin.ext <;> simp at * <;> omega)
    rw [e]
    refine (head2_256 i _ _ _ r d).trans ?_
    rw [slope_2]
    exact attention_of 256 (by omega) i xq xk xv r 2 d _ _ _ (query_2 xq r) (key_256 xk) (fun x => key_256 xv x d)
  · obtain rfl : j = 1 := Fin.ext (by show j.val = 1; omega)
    have e : x = ix2 r d := (eq_ix2 x).trans (by congr 1 <;> apply Fin.ext <;> simp at * <;> omega)
    rw [e]
    refine (head1_256 i _ _ _ r d).trans ?_
    rw [slope_1]
    exact attention_of 256 (by omega) i xq xk xv r 1 d _ _ _ (query_1 xq r) (key_256 xk) (fun x => key_256 xv x d)
  · obtain rfl : j = 0 := Fin.ext (by show j.val = 0; omega)
    have e : x = ix2 r d := (eq_ix2 x).trans (by congr 1 <;> apply Fin.ext <;> simp at * <;> omega)
    rw [e]
    refine (head0_256 i _ _ _ r d).trans ?_
    rw [slope_0]
    exact attention_of 256 (by omega) i xq xk xv r 0 d _ _ _ (query_0 xq r) (key_256 xk) (fun x => key_256 xv x d)

/-- The branch over 128 keys leaves that attention in the output's buffer. -/
theorem left_128 (i : grid0.Coords) (xq : Vec Ideal S512x512 .bf16) (xk xv : Vec Ideal S1x512x128 .bf16) (y : S512x512.Idx)
    (r : Fin 512) (j : Fin 4) (d : Fin 128) (a0 : (y 0 : ℕ) = r.val) (a1 : (y 1 : ℕ) = j.val * 128 + d.val) :
    View.canon (pieces128 (F := Ideal) i xq xk xv) y = attention 128 (by omega) i xq xk xv r j d := by
  unfold pieces128
  canon_tiles x h
  · obtain rfl : j = 3 := Fin.ext (by show j.val = 3; omega)
    have e : x = ix2 r d := (eq_ix2 x).trans (by congr 1 <;> apply Fin.ext <;> simp at * <;> omega)
    rw [e]
    refine (head3_128 i _ _ _ r d).trans ?_
    rw [slope_3]
    exact attention_of 128 (by omega) i xq xk xv r 3 d _ _ _ (query_3 xq r) (key_128 xk) (fun x => key_128 xv x d)
  · obtain rfl : j = 2 := Fin.ext (by show j.val = 2; omega)
    have e : x = ix2 r d := (eq_ix2 x).trans (by congr 1 <;> apply Fin.ext <;> simp at * <;> omega)
    rw [e]
    refine (head2_128 i _ _ _ r d).trans ?_
    rw [slope_2]
    exact attention_of 128 (by omega) i xq xk xv r 2 d _ _ _ (query_2 xq r) (key_128 xk) (fun x => key_128 xv x d)
  · obtain rfl : j = 1 := Fin.ext (by show j.val = 1; omega)
    have e : x = ix2 r d := (eq_ix2 x).trans (by congr 1 <;> apply Fin.ext <;> simp at * <;> omega)
    rw [e]
    refine (head1_128 i _ _ _ r d).trans ?_
    rw [slope_1]
    exact attention_of 128 (by omega) i xq xk xv r 1 d _ _ _ (query_1 xq r) (key_128 xk) (fun x => key_128 xv x d)
  · obtain rfl : j = 0 := Fin.ext (by show j.val = 0; omega)
    have e : x = ix2 r d := (eq_ix2 x).trans (by congr 1 <;> apply Fin.ext <;> simp at * <;> omega)
    rw [e]
    refine (head0_128 i _ _ _ r d).trans ?_
    rw [slope_0]
    exact attention_of 128 (by omega) i xq xk xv r 0 d _ _ _ (query_0 xq r) (key_128 xk) (fun x => key_128 xv x d)

/-! ## The blocks -/

variable (m : (ℓ : Loc nD τ sig) → Buf (Elt Ideal) ℓ)

/-- A point's batch, group and tile. -/
theorem coords_eq : ∀ t : Fin cfg0.N, (grid0.coords t 1).val = t.val / 16 % 2 ∧ (grid0.coords t 2).val = t.val % 16 :=
  (by decide +kernel : ∀ t : Fin grid0.N, _)

/-- Where each window's block sits at point `t`. -/
theorem idx : ∀ t : Fin cfg0.N, win0_0.index t = ![t.val / 32 * 16 + t.val % 16, t.val / 16 % 2] ∧ win0_1.index t = ![t.val / 32, 0, t.val / 16 % 2]
    ∧ win0_2.index t = ![t.val / 32, 0, t.val / 16 % 2] ∧ win0_6.index t = ![t.val / 32 * 16 + t.val % 16, t.val / 16 % 2] :=
  (by decide +kernel : ∀ t : Fin grid0.N, _)

/-- The branch a point takes has every key its queries see. -/
theorem branch : ∀ t : Fin cfg0.N, (k0_cond1 (grid0.coords t) = 1#1 ∨ t.val % 16 < 4) ∧ (k0_cond2 (grid0.coords t) = 1#1 ∨ t.val % 16 < 8)
    ∧ (k0_cond3 (grid0.coords t) = 1#1 ∨ t.val % 16 < 12) :=
  (by decide +kernel : ∀ t : Fin grid0.N, _)

theorem point_lt (t : Fin cfg0.N) : t.val < 64 := lt_of_lt_of_eq t.isLt N_0

/-- The queries' block is rows of the argument. -/
theorem query_at (c : Dev nD) (t : Fin cfg0.N) (r : Fin 512) (q : Fin 512) (R : Fin 16384) (C : Fin 2816)
    (hR : (R : ℕ) = (t.val / 32 * 16 + t.val % 16) * 512 + r.val) (hC : (C : ℕ) = t.val / 16 % 2 * 512 + q.val) :
    X0_0 m c t (ix2 r q) = m ((c.tc : Thread nD τ).loc main_arg0) (ix2 R C) := by
  unfold X0_0 Pipeline.Window.fill
  rw [dif_pos (moved0_0 t _)]
  blk_point [iblk, V, idx t, hR, hC]

/-- The keys' block is the point's batch's rows and the point's group's columns. -/
theorem key_at (c : Dev nD) (t : Fin cfg0.N) (x : Fin 512) (e : Fin 128) (B : Fin 2) (C : Fin 256)
    (hB : (B : ℕ) = t.val / 32) (hC : (C : ℕ) = t.val / 16 % 2 * 128 + e.val) :
    iblk m c 1 t (ix3 0 x e) = m ((c.tc : Thread nD τ).loc main_arg1) (ix3 B x C) := by
  blk_point [iblk, V, idx t, hB, hC]

/-- So is the values'. -/
theorem value_at (c : Dev nD) (t : Fin cfg0.N) (x : Fin 512) (e : Fin 128) (B : Fin 2) (C : Fin 256)
    (hB : (B : ℕ) = t.val / 32) (hC : (C : ℕ) = t.val / 16 % 2 * 128 + e.val) :
    iblk m c 2 t (ix3 0 x e) = m ((c.tc : Thread nD τ).loc main_arg2) (ix3 B x C) := by
  blk_point [iblk, V, idx t, hB, hC]

/-! ## The array -/

/-- The reference's result over the kernel's arguments. -/
abbrev result (c : Dev nD) : FVec Ideal S16384x1024 .f32 :=
  Cert.ReferenceIdeal.Cmp.mixed (Cert.ReferenceIdeal.Cmp.expo (Cert.ReferenceIdeal.Cmp.scores (m ((c.tc : Thread nD τ).loc main_arg0)) (m ((c.tc : Thread nD τ).loc main_arg1)))
    (Cert.ReferenceIdeal.Cmp.greatest (Cert.ReferenceIdeal.Cmp.scores (m ((c.tc : Thread nD τ).loc main_arg0)) (m ((c.tc : Thread nD τ).loc main_arg1)))))
    (m ((c.tc : Thread nD τ).loc main_arg2))

/-- The argument arrays: the queries, the keys, the values. -/
abbrev Q (c : Dev nD) : S16384x2816.Idx → EReal := m ((c.tc : Thread nD τ).loc main_arg0)
abbrev K (c : Dev nD) : S2x512x256.Idx → EReal := m ((c.tc : Thread nD τ).loc main_arg1)
abbrev Vs (c : Dev nD) : S2x512x256.Idx → EReal := m ((c.tc : Thread nD τ).loc main_arg2)

/-- The queries and the keys are finite. -/
def Finite (c : Dev nD) : Prop :=
  (∀ (R : Fin 16384) (C : Fin 2816), C.val < 1024 → Q m c (ix2 R C) ≠ ⊥
      ∧ Q m c (ix2 R C) ≠ ⊤)
    ∧ ∀ (b : Fin 2) (x : Fin 512) (C : Fin 256), K m c (ix3 b x C) ≠ ⊥
      ∧ K m c (ix3 b x C) ≠ ⊤

/-- The attention over a branch that has every key a row's query sees is the reference's result at that row and head. -/
theorem attention_eq (c : Dev nD) (t : Fin cfg0.N) (fin : Finite m c) (W : ℕ) (hW : W ≤ 512) (r : Fin 512) (j : Fin 4) (d : Fin 128)
    (hs : seen (t.val % 16 * 512 + r.val) ≤ W) (R : Fin 16384) (C : Fin 1024)
    (hR : (R : ℕ) = (t.val / 32 * 16 + t.val % 16) * 512 + r.val) (hC : (C : ℕ) = t.val / 16 % 2 * 512 + (j.val * 128 + d.val)) :
    attention W hW (grid0.coords t) (X0_0 m c t) (iblk m c 1 t) (iblk m c 2 t) r j d = result m c (ix2 R C) := by
  have ht := point_lt t
  obtain ⟨hg, hi⟩ := coords_eq t
  have hp : pos (grid0.coords t) r = t.val % 16 * 512 + r.val := by
    show (grid0.coords t 2).val * 512 + r.val = _
    rw [hi]
  have hsl : slopeOf (grid0.coords t) j = ((((1 : ℝ) / 2) ^ (t.val / 16 % 2 * 4 + j.val + 1) : ℝ) : EReal) := by
    unfold slopeOf; rw [hg]
  refine Eq.trans ?_ (Cert.ReferenceIdeal.Cmp.value_at (Q m c) (K m c) (Vs m c) R C ⟨t.val / 32, by omega⟩ ⟨t.val / 16 % 2, by omega⟩ j ⟨t.val % 16 * 512 + r.val, by omega⟩ d
    (by rw [hR]; show _ = t.val / 32 * 8192 + (t.val % 16 * 512 + r.val); omega) (by rw [hC]; show _ = t.val / 16 % 2 * 512 + j.val * 128 + d.val; omega)).symm
  refine Eq.trans ?_ (attend_score (W := W) (W' := 511) hW (by omega) (t.val % 16 * 512 + r.val) _
    (fun x : Fin 512 => ∑ e : Fin 128, Q m c (ix2 (⟨t.val / 32 * 8192 + (t.val % 16 * 512 + r.val), by omega⟩ : Fin 16384) (⟨t.val / 16 % 2 * 512 + j.val * 128 + e.val, by omega⟩ : Fin 2816))
      * K m c (ix3 (⟨t.val / 32, by omega⟩ : Fin 2) x (⟨t.val / 16 % 2 * 128 + e.val, by omega⟩ : Fin 256)))
    (fun x : Fin 512 => Vs m c (ix3 (⟨t.val / 32, by omega⟩ : Fin 2) x (⟨t.val / 16 % 2 * 128 + d.val, by omega⟩ : Fin 256)))
    hs (by unfold seen; omega) (fun x => dot_finite _ _ (fun e => fin.1 _ _ (by show t.val / 16 % 2 * 512 + j.val * 128 + e.val < 1024; omega)) (fun e => fin.2 _ _ _)))
  unfold attention
  rw [hp, hsl]
  have eq := fun (e : Fin 128) => query_at m c t r ⟨j.val * 128 + e.val, by omega⟩ ⟨t.val / 32 * 8192 + (t.val % 16 * 512 + r.val), by omega⟩
    ⟨t.val / 16 % 2 * 512 + j.val * 128 + e.val, by omega⟩ (by show t.val / 32 * 8192 + (t.val % 16 * 512 + r.val) = _; omega)
    (by show t.val / 16 % 2 * 512 + j.val * 128 + e.val = t.val / 16 % 2 * 512 + (j.val * 128 + e.val); omega)
  have ek := fun (x : Fin 512) (e : Fin 128) => key_at m c t x e ⟨t.val / 32, by omega⟩ ⟨t.val / 16 % 2 * 128 + e.val, by omega⟩ rfl rfl
  have ev := fun (x : Fin 512) => value_at m c t x d ⟨t.val / 32, by omega⟩ ⟨t.val / 16 % 2 * 128 + d.val, by omega⟩ rfl rfl
  refine (congrArg₂ (fun s v => attend (W := W) s (if 31 ≤ t.val % 16 * 512 + r.val then 1 else 0) v) (funext fun x => congrArg (score _ _ _) (Finset.sum_congr rfl fun e _ => congrArg₂ (· * ·) (eq e) (ek ⟨x.val, by omega⟩ e)))
    (funext fun x => ev ⟨x.val, by omega⟩))

attribute [local irreducible] k0_cond1 k0_cond2 k0_cond3 attention

/-- The compressed attention's array after the run. -/
theorem final (c : Dev nD) (fin : Finite m c) : (dats m 0 c).arrAt 6 (cfgs 0).N = result m c := by
  refine (dats m 0 c).arrAt_eq_of_covers 6 _ (by decide +kernel) fun t _ y => ?_
  blk_simp
  rw [after_6]; unfold afterO
  have ht := point_lt t
  have y0 : (y 0 : ℕ) < 512 := (y 0).isLt
  have y1 : (y 1 : ℕ) < 512 := (y 1).isLt
  have e : ((cfg0.win 6).blk t).view.emb y = ix2 (⟨(t.val / 32 * 16 + t.val % 16) * 512 + (y 0 : ℕ), by omega⟩ : Fin 16384)
      (⟨t.val / 16 % 2 * 512 + (y 1 : ℕ), by omega⟩ : Fin 1024) := by
    blk_ext [idx t]
  rw [e]
  obtain ⟨b1, b2, b3⟩ := branch t
  have s := fun (W : ℕ) (hW : W ≤ 512) (hs : seen (t.val % 16 * 512 + (y 0 : ℕ)) ≤ W) =>
    attention_eq m c t fin W hW ⟨(y 0 : ℕ), y0⟩ ⟨(y 1 : ℕ) / 128, by omega⟩ ⟨(y 1 : ℕ) % 128, by omega⟩ hs
      ⟨(t.val / 32 * 16 + t.val % 16) * 512 + (y 0 : ℕ), by omega⟩ ⟨t.val / 16 % 2 * 512 + (y 1 : ℕ), by omega⟩ rfl
      (by show t.val / 16 % 2 * 512 + (y 1 : ℕ) = t.val / 16 % 2 * 512 + ((y 1 : ℕ) / 128 * 128 + (y 1 : ℕ) % 128); omega)
  have a1 : (y 1 : ℕ) = (y 1 : ℕ) / 128 * 128 + (y 1 : ℕ) % 128 := by omega
  by_cases c1 : k0_cond1 (grid0.coords t) = 1#1
  · by_cases c2 : k0_cond2 (grid0.coords t) = 1#1
    · by_cases c3 : k0_cond3 (grid0.coords t) = 1#1
      · rw [outO_512 _ _ _ _ c1 c2 c3]
        exact (left_512 _ _ _ _ y ⟨_, y0⟩ ⟨_, by omega⟩ ⟨_, by omega⟩ rfl a1).trans (s 512 (by omega) (by unfold seen; omega))
      · have l := b3.resolve_left c3
        rw [outO_384 _ _ _ _ c1 c2 c3]
        exact (left_384 _ _ _ _ y ⟨_, y0⟩ ⟨_, by omega⟩ ⟨_, by omega⟩ rfl a1).trans (s 384 (by omega) (by unfold seen; omega))
    · have l := b2.resolve_left c2
      rw [outO_256 _ _ _ _ c1 c2]
      exact (left_256 _ _ _ _ y ⟨_, y0⟩ ⟨_, by omega⟩ ⟨_, by omega⟩ rfl a1).trans (s 256 (by omega) (by unfold seen; omega))
  · have l := b1.resolve_left c1
    rw [outO_128 _ _ _ _ c1]
    exact (left_128 _ _ _ _ y ⟨_, y0⟩ ⟨_, by omega⟩ ⟨_, by omega⟩ rfl a1).trans (s 128 (by omega) (by unfold seen; omega))

/-! ## The precondition -/

/-- A number whose absolute value is below infinity is finite. -/
theorem finite_of_abs (x : EReal) (h : FloatOps.cmpf (F := Ideal) (φ := .f32) .olt (FloatOps.absf (F := Ideal) (φ := .f32) x) (Ideal.ofBits .f32 0x7F800000#32) = 1#1) : x ≠ ⊥ ∧ x ≠ ⊤ := by
  have e : Ideal.ofBits .f32 0x7F800000#32 = ⊤ := by simp [Ideal.ofBits, Ideal.ieee]
  rw [e] at h
  constructor
  · rintro rfl
    revert h
    simp [FloatOps.cmpf, FloatOps.absf, Ideal.cmp]
  · rintro rfl
    revert h
    simp [FloatOps.cmpf, FloatOps.absf, Ideal.cmp]

/-- The precondition's side conditions hold. -/
theorem pre_facts : Cert.Pre_finite_qk.Facts := by
  constructor <;> first | decide | decide +kernel

instance : Subsingleton Cert.Pre_finite_qk.S_.Idx := ⟨fun a b => funext fun k => k.elim0⟩

/-- The precondition says that the queries and the keys are finite. -/
theorem finite_of_pre (pre : Cert.Pre_KernelIdeal_finite_qk (hPre_finite_qk := pre_facts) m) (c : Dev nD) : Finite m c := by
  haveI := pre_facts
  have p := congrFun (pre c) ix0
  unfold Cert.Pre_finite_qk.fn at p
  obtain ⟨p1, p2⟩ := IntOp.andi_eq_one.1 p
  constructor
  · intro R C hC
    have u := Host.reduce_andi_all _ _ _ _ _ p1 (ix2 R ⟨C.val, hC⟩)
    have e : Q m c (ix2 R C) = extractStridedSlice Cert.Pre_finite_qk.S16384x1024 ![0, 0] (Q m c) Cert.Pre_finite_qk.Facts.slices_S16384x2816_S16384x1024_0_0 (ix2 R ⟨C.val, hC⟩) := by
      pointwise
    rw [e]
    exact finite_of_abs _ u
  · intro b x C
    exact finite_of_abs _ (Host.reduce_andi_all _ _ _ _ _ p2 (ix3 b x C))

end Cert.KernelIdeal.Cmp

end
-- ==== Proof.MergeValue.lean ====
/-
  THE MERGE CALL'S VALUE. At exact arithmetic the array the merge call leaves — both branches weighed by their gates and
  projected up, the output projection, the residual, and the per-layer embedding behind its gate — is the reference's
  composed term of the same arguments, index by index. The kernel works on 256 rows at a point and keeps every weight whole.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference's term -/

namespace Cert.Reference2Ideal.Merge

open Cert.Reference2Ideal Cert.Reference2Ideal.Gen

/-- The residual stream after the output projection: `x + (gn · (o_nsa W_n) + gd · (o_dsa W_d)) W_out`. -/
def mixed (a0 a1 : FVec Ideal S16384x1024 .bf16) (a2 : FVec Ideal S16384x4096 .f32) (a3 : FVec Ideal S2x8192x2048 .f32)
    (a6 a7 : FVec Ideal S1024x2048 .f32) (a8 : FVec Ideal S2048x2048 .f32) : FVec Ideal S16384x2048 .f32 :=
  addf (shapeCast _ a3 shapeCasts_S2x8192x2048_S16384x2048) (Host.dotGeneral dot_S16384x2048_S2048x2048_S16384x2048_1_0_0_1_n_n none
    (addf (mulf (extractStridedSlice S16384x2048 ![0, 0] a2 slices_S16384x4096_S16384x2048_0_0)
        (Host.dotGeneral dot_S16384x1024_S1024x2048_S16384x2048_1_0_0_1_n_n none (extf .f32 a0 bitsLt_bf16_f32) a6))
      (mulf (extractStridedSlice S16384x2048 ![0, 2048] a2 slices_S16384x4096_S16384x2048_0_2048)
        (Host.dotGeneral dot_S16384x1024_S1024x2048_S16384x2048_1_0_0_1_n_n none (extf .f32 a1 bitsLt_bf16_f32) a7))) a8)

/-- A row of the residual stream normalised by its root mean square and scaled by the gain. -/
def normed (x : FVec Ideal S16384x2048 .f32) (a5 : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 a5))

/-- The whole result from the residual stream `x` after the output projection: the embedding's projection times its gate, added on. -/
def fed (x : FVec Ideal S16384x2048 .f32) (a4 : FVec Ideal S2x8192x256 .f32) (a5 : FVec Ideal S2048 .f32)
    (a9 : FVec Ideal S2048x2048 .f32) (a10 : FVec Ideal S256x2048 .f32) : FVec Ideal S16384x2048 .f32 :=
  addf x (mulf (Host.dotGeneral dot_S16384x256_S256x2048_S16384x2048_1_0_0_1_n_n none (shapeCast _ a4 shapeCasts_S2x8192x256_S16384x256) a10)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (Host.dotGeneral dot_S16384x2048_S2048x2048_S16384x2048_1_0_0_1_n_n none (normed x a5) a9))))))

/-- The reference's result is that. -/
theorem res_eq (m : (ℓ : Loc nD τ sig) → Buf (Elt Ideal) ℓ) (c : Dev nD) :
    Value.res_out0 (F := Ideal) m c = fed (mixed (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg6))
      (m ((c.tc : Thread nD τ).loc main_arg7)) (m ((c.tc : Thread nD τ).loc main_arg8))) (m ((c.tc : Thread nD τ).loc main_arg4))
      (m ((c.tc : Thread nD τ).loc main_arg5)) (m ((c.tc : Thread nD τ).loc main_arg9)) (m ((c.tc : Thread nD τ).loc main_arg10)) := by
  unfold Value.res_out0 Value.res_main_v35 fed normed mixed
  rfl

end Cert.Reference2Ideal.Merge

/-! ## The kernel's array -/

namespace Cert.Kernel2Ideal.Merge

open Cert.Kernel2Ideal Cert.Kernel2Ideal.Gen
open Cert.Reference2Ideal.Merge (mixed normed fed)

variable (m : (ℓ : Loc nD τ sig) → Buf (Elt Ideal) ℓ)

/-- Where each window's block sits at point `t`: the row blocks at `t`, the weights whole. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The reference's residual stream over the kernel's arguments. -/
abbrev stream (c : Dev nD) : FVec Ideal S16384x2048 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg6)) (m ((c : Thread nD τ).loc main_arg7)) (m ((c : Thread nD τ).loc main_arg8))

/-- A block's residual stream at point `t`. -/
abbrev streamBlk (c : Dev nD) (t : Fin cfg0.N) : FVec Ideal S256x2048 .f32 :=
  k0_pay2 (F := Ideal) (iblk m c 2 t) (iblk m c 0 t) (iblk m c 7 t) (iblk m c 3 t) (iblk m c 1 t) (iblk m c 8 t) (iblk m c 4 t) (iblk m c 9 t)

/-- Row `r` of the block at point `t` is row `256 t + r` of the reference's stream. -/
theorem stream_point (c : Dev nD) (t : Fin cfg0.N) (r : Fin 256) (l : Fin 2048) (R : Fin 16384) (hR : (R : ℕ) = t.val * 256 + r.val) :
    streamBlk m c t (ix2 r l) = stream m c (ix2 R l) := by
  pointwise [streamBlk, stream, k0_pay2, mixed]
  blk_point [iblk, V, idx t, hR]

/-- What the body stores at block index `y` of point `t` is the reference's result at the array index `y` sits at. -/
theorem point (c : Dev nD) (t : Fin cfg0.N) (r : Fin 256) (l : Fin 2048) (R : Fin 16384) (hR : (R : ℕ) = t.val * 256 + r.val) :
    k0_pay1 (F := Ideal) (streamBlk m c t) (k0_pay3 (F := Ideal) (iblk m c 2 t) (iblk m c 0 t) (iblk m c 7 t) (iblk m c 3 t) (iblk m c 1 t) (iblk m c 8 t) (iblk m c 4 t) (iblk m c 9 t) (iblk m c 6 t))
        (iblk m c 10 t) (iblk m c 5 t) (iblk m c 11 t) (ix2 r l)
      = fed (stream m c) (m ((c : Thread nD τ).loc main_arg4)) (m ((c : Thread nD τ).loc main_arg5)) (m ((c : Thread nD τ).loc main_arg9)) (m ((c : Thread nD τ).loc main_arg10)) (ix2 R l) := by
  have h := fun l => stream_point m c t r l R hR
  unfold k0_pay3
  generalize (stream m c) = X at h ⊢
  change ∀ l, k0_pay2 (F := Ideal) (iblk m c 2 t) (iblk m c 0 t) (iblk m c 7 t) (iblk m c 3 t) (iblk m c 1 t) (iblk m c 8 t) (iblk m c 4 t) (iblk m c 9 t) (ix2 r l) = X (ix2 R l) at h
  pointwise [streamBlk, k0_pay1, fed, normed, h]
  simp only [zero_sub]
  blk_point [iblk, V, idx t, hR]

/-- The merge call's array after the run. -/
theorem final (c : Dev nD) : (dats m 0 c).arrAt 12 (cfgs 0).N
    = fed (stream m c) (m ((c : Thread nD τ).loc main_arg4)) (m ((c : Thread nD τ).loc main_arg5)) (m ((c : Thread nD τ).loc main_arg9)) (m ((c : Thread nD τ).loc main_arg10)) := by
  refine (dats m 0 c).arrAt_eq_of_covers 12 _ (by decide +kernel) fun t _ y => ?_
  blk_simp
  rw [after0_12]; frame_out
  have ht : t.val < 64 := lt_of_lt_of_eq t.isLt N_0
  have hi : ((cfg0.win 12).blk t).view.emb y = ix2 (⟨t.val * 256 + (y 0 : ℕ), by have := (y 0).isLt; have : (y 0 : ℕ) < 256 := this; omega⟩ : Fin 16384) (y 1) := by
    blk_ext [idx t]
  rw [hi]
  exact (congrArg _ (eq_ix2 y)).trans (point m c t (y 0) (y 1) _ rfl)

end Cert.Kernel2Ideal.Merge

end
-- ==== Proof.GateValue.lean ====
/-
  THE MERGE GATES' VALUE. At exact arithmetic the array the sigmoid projection leaves is the sigmoid of the product of the
  normed stream with the projection's last 4096 columns, index by index. The kernel works on blocks of 1024 rows by 1024
  columns of the two slices laid side by side; the reference takes the columns in one slice.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Gate

open Cert.Reference3Ideal Cert.Reference3Ideal.Gen

/-- The sigmoid of the product of the stream with the projection's last 4096 columns. -/
def gates (a0 : FVec Ideal S16384x2048 .bf16) (a1 : FVec Ideal S2048x11368 .f32) : FVec Ideal S16384x4096 .f32 :=
  Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x2048_S2048x4096_S16384x4096_1_0_0_1_n_n none (extf .f32 a0 bitsLt_bf16_f32) (extractStridedSlice S2048x4096 ![0, 7272] a1 slices_S2048x11368_S2048x4096_0_7272)))))

end Cert.Reference3Ideal.Gate

namespace Cert.Kernel3Ideal.Gate

open Cert.Kernel3Ideal Cert.Kernel3Ideal.Gen
open Cert.Reference3Ideal.Gate (gates)

variable (m : (ℓ : Loc nD τ sig) → Buf (Elt Ideal) ℓ)

/-- Where each window's block sits at point `t`: four column blocks to a row block. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)

/-- The weights the call stages: the projection's columns from 7272 on. -/
theorem weights (c : Dev nD) (k : Fin 2048) (l : Fin 4096) (L : Fin 11368) (hL : (L : ℕ) = 7272 + l.val) :
    (V m c main_v29 : S2048x4096.Idx → EReal) (ix2 k l) = W m c (ix2 k L) := by
  entry_read
  pointwise
  rcases Nat.lt_or_ge l.val 2048 with h | h
  · rw [dif_pos h]
    exact congrArg (W m c) (congrArg (ix2 k) (Fin.ext hL.symm))
  · rw [dif_neg (Nat.not_lt.2 h)]
    exact congrArg (W m c) (congrArg (ix2 k) (Fin.ext (by show 9320 + (l.val - 2048) = L.val; omega)))

/-- Row `r` of the stream's block at point `t` is row `1024 (t / 4) + r` of the stream. -/
theorem rows (c : Dev nD) (t : Fin cfg0.N) (r : Fin 1024) (k : Fin 2048) (R : Fin 16384) (hR : (R : ℕ) = t.val / 4 * 1024 + r.val) :
    (iblk m c 0 t : S1024x2048.Idx → EReal) (ix2 r k) = H m c (ix2 R k) := by
  blk_point [iblk, V_main_arg0, idx t, hR]

/-- Column `l` of the weights' block at point `t` is column `7272 + 1024 (t mod 4) + l` of the projection. -/
theorem cols (c : Dev nD) (t : Fin cfg0.N) (k : Fin 2048) (l : Fin 1024) (L : Fin 4096) (hL : (L : ℕ) = t.val % 4 * 1024 + l.val)
    (L' : Fin 11368) (hL' : (L' : ℕ) = 7272 + L.val) :
    (iblk m c 1 t : S2048x1024.Idx → EReal) (ix2 k l) = W m c (ix2 k L') := by
  rw [← weights m c k L L' hL']
  blk_point [iblk, idx t, hL]

/-- What the body stores at block index `(r, l)` of point `t` is the gate at the array index that sits at. -/
theorem point (c : Dev nD) (t : Fin cfg0.N) (r : Fin 1024) (l : Fin 1024) (R : Fin 16384) (hR : (R : ℕ) = t.val / 4 * 1024 + r.val)
    (L : Fin 4096) (hL : (L : ℕ) = t.val % 4 * 1024 + l.val) :
    k0_pay1 (F := Ideal) (iblk m c 0 t) (iblk m c 1 t) (ix2 r l) = gates (H m c) (W m c) (ix2 R L) := by
  have h0 := fun k => rows m c t r k R hR
  have h1 := fun k => cols m c t k l L hL ⟨7272 + L.val, by have := L.isLt; omega⟩ rfl
  generalize H m c = A at h0 ⊢
  generalize W m c = B at h1 ⊢
  generalize (iblk m c 0 t : S1024x2048.Idx → EReal) = x at h0 ⊢
  generalize (iblk m c 1 t : S2048x1024.Idx → EReal) = w at h1 ⊢
  pointwise [k0_pay1, gates, h0, h1]
  simp only [zero_sub]

/-- The call's array after the run. -/
theorem final (c : Dev nD) : (dats m 0 c).arrAt 2 (cfgs 0).N = gates (H m c) (W m c) := by
  refine (dats m 0 c).arrAt_eq_of_covers 2 _ (by decide +kernel) fun t _ y => ?_
  blk_simp
  rw [after0_2]; frame_out
  have ht : t.val < 64 := lt_of_lt_of_eq t.isLt N_0
  have b0 : (y 0 : ℕ) < 1024 := (y 0).isLt
  have b1 : (y 1 : ℕ) < 1024 := (y 1).isLt
  have hi : ((cfg0.win 2).blk t).view.emb y = ix2 (⟨t.val / 4 * 1024 + (y 0 : ℕ), by omega⟩ : Fin 16384) (⟨t.val % 4 * 1024 + (y 1 : ℕ), by omega⟩ : Fin 4096) := by
    blk_ext [idx t]
  rw [hi]
  exact (congrArg _ (eq_ix2 y)).trans (point m c t (y 0) (y 1) _ rfl _ rfl)

end Cert.Kernel3Ideal.Gate

end
-- ==== Proof.SiluValue.lean ====
/-
  THE MIXERS' GATES' VALUE. At exact arithmetic the array the SiLU projection leaves is, column by column, the product of the
  normed stream with a column of the projection times that product's sigmoid: the first 1024 columns gate one mixer, the
  last 1024 the other. The kernel lays the two slices of the projection side by side and then multiplies; the reference
  multiplies by the whole projection and takes the two slices of the product.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference4Ideal.Silu

open Cert.Reference4Ideal Cert.Reference4Ideal.Gen

/-- The product of the stream with the whole projection. -/
def prod (a0 : FVec Ideal S16384x2048 .bf16) (a1 : FVec Ideal S2048x11368 .f32) : FVec Ideal S16384x11368 .f32 :=
  Host.dotGeneral dot_S16384x2048_S2048x11368_S16384x11368_1_0_0_1_n_n none (extf .f32 a0 bitsLt_bf16_f32) a1

/-- `y · sigmoid y`, entry by entry. -/
def silu (y : FVec Ideal S16384x1024 .f32) : FVec Ideal S16384x1024 .f32 :=
  mulf y (Host.divf (broadcastInDim S16384x1024 ![] bcast_S_S16384x1024 (constant S_ .f32 0x3F800000#32)) (addf (broadcastInDim S16384x1024 ![] bcast_S_S16384x1024 (constant S_ .f32 0x3F800000#32)) (Host.exp (Host.negf y))))

/-- The two slices of the product, each through `silu`, side by side. -/
def gates (a0 : FVec Ideal S16384x2048 .bf16) (a1 : FVec Ideal S2048x11368 .f32) : FVec Ideal S16384x2048 .f32 :=
  concatenate S16384x2048 1 [⟨S16384x1024, silu (extractStridedSlice S16384x1024 ![0, 2584] (prod a0 a1) slices_S16384x11368_S16384x1024_0_2584)⟩,
    ⟨S16384x1024, silu (extractStridedSlice S16384x1024 ![0, 6248] (prod a0 a1) slices_S16384x11368_S16384x1024_0_6248)⟩] concatenates_S16384x1024_S16384x1024_S16384x2048_d1

end Cert.Reference4Ideal.Silu

namespace Cert.Kernel4Ideal.Silu

open Cert.Kernel4Ideal Cert.Kernel4Ideal.Gen
open Cert.Reference4Ideal.Silu (prod silu gates)

variable (m : (ℓ : Loc nD τ sig) → Buf (Elt Ideal) ℓ)

/-- Where each window's block sits at point `t`: two column blocks to a row block. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)

/-- The projection's column that result column `l` is made from. -/
def src (l : Fin 2048) : Fin 11368 := ⟨if l.val < 1024 then 2584 + l.val else 6248 + (l.val - 1024), by have := l.isLt; split <;> omega⟩

/-- The weights the call stages: the columns `src` names. -/
theorem weights (c : Dev nD) (k : Fin 2048) (l : Fin 2048) :
    (V m c main_v27 : S2048x2048.Idx → EReal) (ix2 k l) = W m c (ix2 k (src l)) := by
  entry_read
  pointwise
  rcases Nat.lt_or_ge l.val 1024 with h | h
  · rw [dif_pos h]
    exact congrArg (W m c) (congrArg (ix2 k) (Fin.ext (if_pos h).symm))
  · rw [dif_neg (Nat.not_lt.2 h)]
    exact congrArg (W m c) (congrArg (ix2 k) (Fin.ext (if_neg (Nat.not_lt.2 h)).symm))

/-- Row `r` of the stream's block at point `t` is row `1024 (t / 2) + r` of the stream. -/
theorem rows (c : Dev nD) (t : Fin cfg0.N) (r : Fin 1024) (k : Fin 2048) (R : Fin 16384) (hR : (R : ℕ) = t.val / 2 * 1024 + r.val) :
    (iblk m c 0 t : S1024x2048.Idx → EReal) (ix2 r k) = H m c (ix2 R k) := by
  blk_point [iblk, V_main_arg0, idx t, hR]

/-- Column `l` of the weights' block at point `t` is the projection's column for result column `1024 (t mod 2) + l`. -/
theorem cols (c : Dev nD) (t : Fin cfg0.N) (k : Fin 2048) (l : Fin 1024) (L : Fin 2048) (hL : (L : ℕ) = t.val % 2 * 1024 + l.val) :
    (iblk m c 1 t : S2048x1024.Idx → EReal) (ix2 k l) = W m c (ix2 k (src L)) := by
  rw [← weights m c k L]
  blk_point [iblk, idx t, hL]

/-- What the body stores at block index `(r, l)` of point `t` is the gate at the array index that sits at. -/
theorem point (c : Dev nD) (t : Fin cfg0.N) (r : Fin 1024) (l : Fin 1024) (R : Fin 16384) (hR : (R : ℕ) = t.val / 2 * 1024 + r.val)
    (L : Fin 2048) (hL : (L : ℕ) = t.val % 2 * 1024 + l.val) :
    k0_pay1 (F := Ideal) (iblk m c 0 t) (iblk m c 1 t) (ix2 r l) = gates (H m c) (W m c) (ix2 R L) := by
  have h0 := fun k => rows m c t r k R hR
  have h1 := fun k => cols m c t k l L hL
  generalize H m c = A at h0 ⊢
  generalize W m c = B at h1 ⊢
  generalize (iblk m c 0 t : S1024x2048.Idx → EReal) = x at h0 ⊢
  generalize (iblk m c 1 t : S2048x1024.Idx → EReal) = w at h1 ⊢
  rcases Nat.lt_or_ge L.val 1024 with h | h
  · have e : src L = ⟨2584 + L.val, by omega⟩ := Fin.ext (if_pos h)
    rw [e] at h1
    pointwise [k0_pay1, gates, silu, prod, h0, h1, h]
    simp only [zero_sub]
  · have e : src L = ⟨6248 + (L.val - 1024), by have := L.isLt; omega⟩ := Fin.ext (if_neg (Nat.not_lt.2 h))
    rw [e] at h1
    have h' := Nat.not_lt.2 h
    pointwise [k0_pay1, gates, silu, prod, h0, h1, h']
    simp only [zero_sub]

/-- The call's array after the run. -/
theorem final (c : Dev nD) : (dats m 0 c).arrAt 2 (cfgs 0).N = gates (H m c) (W m c) := by
  refine (dats m 0 c).arrAt_eq_of_covers 2 _ (by decide +kernel) fun t _ y => ?_
  blk_simp
  rw [after0_2]; frame_out
  have ht : t.val < 32 := lt_of_lt_of_eq t.isLt N_0
  have b0 : (y 0 : ℕ) < 1024 := (y 0).isLt
  have b1 : (y 1 : ℕ) < 1024 := (y 1).isLt
  have hi : ((cfg0.win 2).blk t).view.emb y = ix2 (⟨t.val / 2 * 1024 + (y 0 : ℕ), by omega⟩ : Fin 16384) (⟨t.val % 2 * 1024 + (y 1 : ℕ), by omega⟩ : Fin 2048) := by
    blk_ext [idx t]
  rw [hi]
  exact (congrArg _ (eq_ix2 y)).trans (point m c t (y 0) (y 1) _ rfl _ rfl)

end Cert.Kernel4Ideal.Silu

end
-- ==== Proof.HeadNormValue.lean ====
/-
  THE NORMED HEADS' VALUE. At exact arithmetic the array the headwise normed projection leaves is, head by head of 128 columns, the
  product of the normed stream with that head's columns of the projection, divided by its root mean square and multiplied by the
  head's gain (and, for the queries, by the softmax scale). The kernel lays the projection's slices and the gains of all heads side
  by side, folds the scale into the queries' gains, and norms eleven heads at each point; the reference slices the whole product,
  norms each slice's heads and multiplies the queries by the scale afterwards. The two orders of multiplying are equal because
  multiplication of extended reals is associative.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference5Ideal.HeadNorm

open Cert.Reference5Ideal Cert.Reference5Ideal.Gen

/-- One normed entry `v` of a head whose entries are `z`, under the gain `g`. -/
def normed (z : Fin 128 → EReal) (v g : EReal) : EReal :=
  v * Ideal.rsqrt (Ideal.div (∑ x, z x * z x) (Ideal.ofBits FTy.f32 0x43000000#32) + Ideal.ofBits FTy.f32 0x358637BD#32) * g

theorem normed_congr {z z' : Fin 128 → EReal} {v v' g g' : EReal} (hz : ∀ x, z x = z' x) (hv : v = v') (hg : g = g') :
    normed z v g = normed z' v' g' := by
  rw [funext hz, hv, hg]

/-- A factor after the gain is a factor of the gain. -/
theorem normed_mul (z : Fin 128 → EReal) (v g s : EReal) : normed z v g * s = normed z v (g * s) := mul_assoc _ _ _

/-- The product of the stream with the whole projection. -/
def prod (a0 : FVec Ideal S16384x2048 .bf16) (a1 : FVec Ideal S2048x11368 .f32) : FVec Ideal S16384x11368 .f32 :=
  Host.dotGeneral dot_S16384x2048_S2048x11368_S16384x11368_1_0_0_1_n_n none (extf .f32 a0 bitsLt_bf16_f32) a1

/-- Eight heads of 128 columns side by side, each divided by its root mean square and multiplied by the gain. -/
def norm8 (y : FVec Ideal S16384x1024 .f32) (g : FVec Ideal S128 .f32) : FVec Ideal S16384x1024 .f32 :=
  shapeCast _ (mulf (mulf (shapeCast _ y shapeCasts_S16384x1024_S16384x8x128) (broadcastInDim S16384x8x128 ![0, 1, 2] bcast_S16384x8x1_S16384x8x128_0_1_2
    (Host.rsqrt (addf (Host.divf (broadcastInDim S16384x8x1 ![0, 1] bcast_S16384x8_S16384x8x1_0_1
      (Host.reduceAdd (mulf (shapeCast _ y shapeCasts_S16384x1024_S16384x8x128) (shapeCast _ y shapeCasts_S16384x1024_S16384x8x128)) (constant S_ .f32 0x00000000#32)
        reducesTo_S16384x8x128_S16384x8_d2 h_S_)) (broadcastInDim S16384x8x1 ![] bcast_S_S16384x8x1 (constant S_ .f32 0x43000000#32)))
      (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 g))) shapeCasts_S16384x8x128_S16384x1024

/-- Two heads of 128 columns side by side, each divided by its root mean square and multiplied by the gain. -/
def norm2 (y : FVec Ideal S16384x256 .f32) (g : FVec Ideal S128 .f32) : FVec Ideal S16384x256 .f32 :=
  shapeCast _ (mulf (mulf (shapeCast _ y shapeCasts_S16384x256_S16384x2x128) (broadcastInDim S16384x2x128 ![0, 1, 2] bcast_S16384x2x1_S16384x2x128_0_1_2
    (Host.rsqrt (addf (Host.divf (broadcastInDim S16384x2x1 ![0, 1] bcast_S16384x2_S16384x2x1_0_1
      (Host.reduceAdd (mulf (shapeCast _ y shapeCasts_S16384x256_S16384x2x128) (shapeCast _ y shapeCasts_S16384x256_S16384x2x128)) (constant S_ .f32 0x00000000#32)
        reducesTo_S16384x2x128_S16384x2_d2 h_S_)) (broadcastInDim S16384x2x1 ![] bcast_S_S16384x2x1 (constant S_ .f32 0x43000000#32)))
      (broadcastInDim S16384x2x1 ![] bcast_S_S16384x2x1 (constant S_ .f32 0x358637BD#32))))))
    (broadcastInDim S16384x2x128 ![0, 1, 2] bcast_S1x1x128_S16384x2x128_0_1_2 (broadcastInDim S1x1x128 ![2] bcast_S128_S1x1x128_2 g))) shapeCasts_S16384x2x128_S16384x256

/-- Entry `(R, L)` of the eight normed heads. -/
theorem norm8_apply (y : FVec Ideal S16384x1024 .f32) (g : FVec Ideal S128 .f32) (R : Fin 16384) (L : Fin 1024) :
    norm8 y g (ix2 R L) = normed (fun x => y (ix2 R ⟨L.val / 128 * 128 + x.val, by have := L.isLt; have := x.isLt; omega⟩)) (y (ix2 R L))
      (g (ix1 ⟨L.val % 128, Nat.mod_lt _ (by decide)⟩)) := by
  unfold normed
  pointwise [norm8]

/-- Entry `(R, L)` of the two normed heads. -/
theorem norm2_apply (y : FVec Ideal S16384x256 .f32) (g : FVec Ideal S128 .f32) (R : Fin 16384) (L : Fin 256) :
    norm2 y g (ix2 R L) = normed (fun x => y (ix2 R ⟨L.val / 128 * 128 + x.val, by have := L.isLt; have := x.isLt; omega⟩)) (y (ix2 R L))
      (g (ix1 ⟨L.val % 128, Nat.mod_lt _ (by decide)⟩)) := by
  unfold normed
  pointwise [norm2]

/-- The array of normed heads: the branch's queries, the selected and the windowed keys, the other mixer's queries and keys. -/
def heads (a0 : FVec Ideal S16384x2048 .bf16) (a1 : FVec Ideal S2048x11368 .f32) (a2 a3 a4 a5 a6 : FVec Ideal S128 .f32) : FVec Ideal S16384x2816 .bf16 :=
  truncf .bf16 (concatenate S16384x2816 1 [⟨S16384x1024, mulf (norm8 (extractStridedSlice S16384x1024 ![0, 0] (prod a0 a1) slices_S16384x11368_S16384x1024_0_0) a2) (broadcastInDim S16384x1024 ![] bcast_S_S16384x1024 (constant S_ .f32 0x3DB504F3#32))⟩,
    ⟨S16384x256, norm2 (extractStridedSlice S16384x256 ![0, 1536] (prod a0 a1) slices_S16384x11368_S16384x256_0_1536) a3⟩,
    ⟨S16384x256, norm2 (extractStridedSlice S16384x256 ![0, 2048] (prod a0 a1) slices_S16384x11368_S16384x256_0_2048) a4⟩,
    ⟨S16384x1024, mulf (norm8 (extractStridedSlice S16384x1024 ![0, 3608] (prod a0 a1) slices_S16384x11368_S16384x1024_0_3608) a5) (broadcastInDim S16384x1024 ![] bcast_S_S16384x1024 (constant S_ .f32 0x3DB504F3#32))⟩,
    ⟨S16384x256, norm2 (extractStridedSlice S16384x256 ![0, 4632] (prod a0 a1) slices_S16384x11368_S16384x256_0_4632) a6⟩] concatenates_S16384x1024_S16384x256_S16384x256_S16384x1024_S16384x256_S16384x2816_d1) bitsLt_bf16_f32

/-- It is what the reference returns. -/
theorem res_eq (m : (ℓ : Loc nD τ sig) → Buf (Elt Ideal) ℓ) (c : Dev nD) :
    Value.res_out0 m c = heads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := rfl

/-- The projection's column that result column `l` is made from. -/
def src (l : Fin 2816) : Fin 11368 :=
  ⟨if l.val < 1024 then l.val else if l.val < 1280 then 512 + l.val else if l.val < 1536 then 768 + l.val else 2072 + l.val, by
    have := l.isLt; split_ifs <;> omega⟩

/-- The gain of result column `l`, with the softmax scale for the queries. -/
def gain (a2 a3 a4 a5 a6 : FVec Ideal S128 .f32) (l : Fin 2816) : EReal :=
  if l.val < 1024 then a2 (ix1 ⟨l.val % 128, Nat.mod_lt _ (by decide)⟩) * Ideal.ofBits FTy.f32 0x3DB504F3#32
  else if l.val < 1280 then a3 (ix1 ⟨l.val % 128, Nat.mod_lt _ (by decide)⟩)
  else if l.val < 1536 then a4 (ix1 ⟨l.val % 128, Nat.mod_lt _ (by decide)⟩)
  else if l.val < 2560 then a5 (ix1 ⟨l.val % 128, Nat.mod_lt _ (by decide)⟩) * Ideal.ofBits FTy.f32 0x3DB504F3#32
  else a6 (ix1 ⟨l.val % 128, Nat.mod_lt _ (by decide)⟩)

/-- Entry `(R, L)` of the array of normed heads. -/
theorem heads_apply (a0 : FVec Ideal S16384x2048 .bf16) (a1 : FVec Ideal S2048x11368 .f32) (a2 a3 a4 a5 a6 : FVec Ideal S128 .f32) (R : Fin 16384) (L : Fin 2816) :
    heads a0 a1 a2 a3 a4 a5 a6 (ix2 R L)
      = normed (fun x => prod a0 a1 (ix2 R (src ⟨L.val / 128 * 128 + x.val, by have := L.isLt; have := x.isLt; omega⟩)))
          (prod a0 a1 (ix2 R (src L))) (gain a2 a3 a4 a5 a6 L) := by
  have hL := L.isLt
  pointwise [heads, norm8_apply, norm2_apply]
  unfold gain
  split_ifs with h1 h2 h3 h4
  all_goals try rw [normed_mul]
  all_goals
    refine normed_congr (fun x => congrArg (prod a0 a1) (congrArg (ix2 R) (Fin.ext ?_))) (congrArg (prod a0 a1) (congrArg (ix2 R) (Fin.ext ?_))) ?_
  all_goals first
    | (simp only [src]; split_ifs <;> omega)
    | (have := x.isLt; simp only [src]; split_ifs <;> omega)
    | skip
  all_goals repeat' split
  all_goals first
    | rfl
    | omega
    | exact congrArg a3 (congrArg ix1 (Fin.ext (by dsimp only; omega)))
    | exact congrArg a4 (congrArg ix1 (Fin.ext (by dsimp only; omega)))
    | exact congrArg a6 (congrArg ix1 (Fin.ext (by dsimp only; omega)))
    | exact congrArg (fun i => a2 (ix1 i) * Ideal.ofBits FTy.f32 0x3DB504F3#32) (Fin.ext (by dsimp only; omega))
    | exact congrArg (fun i => a5 (ix1 i) * Ideal.ofBits FTy.f32 0x3DB504F3#32) (Fin.ext (by dsimp only; omega))

end Cert.Reference5Ideal.HeadNorm

namespace Cert.Kernel5Ideal.HeadNorm

open Cert.Kernel5Ideal Cert.Kernel5Ideal.Gen
open Cert.Reference5Ideal.HeadNorm (normed normed_congr prod heads heads_apply src gain)

variable (m : (ℓ : Loc nD τ sig) → Buf (Elt Ideal) ℓ)

/-- Where each window's block sits at point `t`: the rows at `t / 2`, the columns at `t % 2`. -/
theorem idx : ∀ t : Fin cfg0.N, win0_0.index t = ![t.val / 2, 0] ∧ win0_1.index t = ![0, t.val % 2] ∧ win0_2.index t = ![0, t.val % 2]
    ∧ win0_3.index t = ![t.val / 2, t.val % 2] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)
/-- The gains of the branch's queries, of the selected and the windowed keys, of the other mixer's queries and keys. -/
abbrev G2 (c : Dev nD) : S128.Idx → EReal := m ((c : Thread nD τ).loc main_arg2)
@[inherit_doc G2] abbrev G3 (c : Dev nD) : S128.Idx → EReal := m ((c : Thread nD τ).loc main_arg3)
@[inherit_doc G2] abbrev G4 (c : Dev nD) : S128.Idx → EReal := m ((c : Thread nD τ).loc main_arg4)
@[inherit_doc G2] abbrev G5 (c : Dev nD) : S128.Idx → EReal := m ((c : Thread nD τ).loc main_arg5)
@[inherit_doc G2] abbrev G6 (c : Dev nD) : S128.Idx → EReal := m ((c : Thread nD τ).loc main_arg6)

/-- The five slices of the projection, side by side. -/
abbrev side (a1 : FVec Ideal S2048x11368 .f32) : FVec Ideal S2048x2816 .bf16 :=
  truncf .bf16 (concatenate S2048x2816 1 [⟨S2048x1024, extractStridedSlice S2048x1024 ![0, 0] a1 slices_S2048x11368_S2048x1024_0_0⟩,
    ⟨S2048x256, extractStridedSlice S2048x256 ![0, 1536] a1 slices_S2048x11368_S2048x256_0_1536⟩,
    ⟨S2048x256, extractStridedSlice S2048x256 ![0, 2048] a1 slices_S2048x11368_S2048x256_0_2048⟩,
    ⟨S2048x1024, extractStridedSlice S2048x1024 ![0, 3608] a1 slices_S2048x11368_S2048x1024_0_3608⟩,
    ⟨S2048x256, extractStridedSlice S2048x256 ![0, 4632] a1 slices_S2048x11368_S2048x256_0_4632⟩] concatenates_S2048x1024_S2048x256_S2048x256_S2048x1024_S2048x256_S2048x2816_d1) bitsLt_bf16_f32

/-- The gains repeated over their heads, side by side, the queries' times the scale. -/
abbrev gains (a2 a3 a4 a5 a6 : FVec Ideal S128 .f32) : FVec Ideal S1x2816 .f32 :=
  shapeCast S1x2816 (concatenate S2816 0 [⟨S1024, shapeCast S1024 (broadcastInDim S8x128 ![0, 1] bcast_S1x128_S8x128_0_1 (shapeCast S1x128 (mulf a2 (broadcastInDim S128 ![] bcast_S_S128 (constant S_ .f32 0x3DB504F3#32))) shapeCasts_S128_S1x128)) shapeCasts_S8x128_S1024⟩,
    ⟨S256, shapeCast S256 (broadcastInDim S2x128 ![0, 1] bcast_S1x128_S2x128_0_1 (shapeCast S1x128 a3 shapeCasts_S128_S1x128)) shapeCasts_S2x128_S256⟩,
    ⟨S256, shapeCast S256 (broadcastInDim S2x128 ![0, 1] bcast_S1x128_S2x128_0_1 (shapeCast S1x128 a4 shapeCasts_S128_S1x128)) shapeCasts_S2x128_S256⟩,
    ⟨S1024, shapeCast S1024 (broadcastInDim S8x128 ![0, 1] bcast_S1x128_S8x128_0_1 (shapeCast S1x128 (mulf a5 (broadcastInDim S128 ![] bcast_S_S128 (constant S_ .f32 0x3DB504F3#32))) shapeCasts_S128_S1x128)) shapeCasts_S8x128_S1024⟩,
    ⟨S256, shapeCast S256 (broadcastInDim S2x128 ![0, 1] bcast_S1x128_S2x128_0_1 (shapeCast S1x128 a6 shapeCasts_S128_S1x128)) shapeCasts_S2x128_S256⟩] concatenates_S1024_S256_S256_S1024_S256_S2816_d0) shapeCasts_S2816_S1x2816

set_option maxHeartbeats 4000000 in
/-- The slices are the weights the call stages. -/
theorem staged (c : Dev nD) : V m c main_v20 = side (m ((c : Thread nD τ).loc main_arg1)) := by
  unfold V hostOps0
  after_results
  rfl

set_option maxHeartbeats 4000000 in
/-- The repeated gains are the gains the call stages. -/
theorem staged_gains (c : Dev nD) : V m c main_v50 = gains (m ((c : Thread nD τ).loc main_arg2)) (m ((c : Thread nD τ).loc main_arg3))
    (m ((c : Thread nD τ).loc main_arg4)) (m ((c : Thread nD τ).loc main_arg5)) (m ((c : Thread nD τ).loc main_arg6)) := by
  unfold V hostOps0
  after_results
  rfl

/-- Column `l` of the weights is the projection's column `src l`. -/
theorem weights (c : Dev nD) (k : Fin 2048) (l : Fin 2816) :
    (V m c main_v20 : S2048x2816.Idx → EReal) (ix2 k l) = W m c (ix2 k (src l)) := by
  rw [staged m c]
  change side (W m c) (ix2 k l) = _
  generalize W m c = B
  pointwise
  repeat' split
  all_goals
    refine congrArg B (congrArg (ix2 k) (Fin.ext ?_))
    simp only [src]
    split_ifs <;> omega

/-- Column `l` of the gains. -/
theorem gains_apply (a2 a3 a4 a5 a6 : FVec Ideal S128 .f32) (l : Fin 2816) :
    gains a2 a3 a4 a5 a6 (ix2 0 l) = gain a2 a3 a4 a5 a6 l := by
  pointwise [gain]
  repeat' split
  all_goals first
    | rfl
    | omega
    | exact congrArg a3 (congrArg ix1 (Fin.ext (by dsimp only; omega)))
    | exact congrArg a4 (congrArg ix1 (Fin.ext (by dsimp only; omega)))
    | exact congrArg a6 (congrArg ix1 (Fin.ext (by dsimp only; omega)))
    | exact congrArg (fun i => a2 (ix1 i) * Ideal.ofBits FTy.f32 0x3DB504F3#32) (Fin.ext (by dsimp only; omega))
    | exact congrArg (fun i => a5 (ix1 i) * Ideal.ofBits FTy.f32 0x3DB504F3#32) (Fin.ext (by dsimp only; omega))

/-- Column `l` of the staged gains. -/
theorem gains_at (c : Dev nD) (l : Fin 2816) :
    (V m c main_v50 : S1x2816.Idx → EReal) (ix2 0 l) = gain (G2 m c) (G3 m c) (G4 m c) (G5 m c) (G6 m c) l := by
  rw [staged_gains m c]
  exact gains_apply (G2 m c) (G3 m c) (G4 m c) (G5 m c) (G6 m c) l

/-- Row `r` of the stream's block at point `t` is row `1024 (t / 2) + r` of the stream. -/
theorem rows (c : Dev nD) (t : Fin cfg0.N) (r : Fin 1024) (k : Fin 2048) (R : Fin 16384) (hR : (R : ℕ) = t.val / 2 * 1024 + r.val) :
    (iblk m c 0 t : S1024x2048.Idx → EReal) (ix2 r k) = H m c (ix2 R k) := by
  blk_point [iblk, V_main_arg0, idx t, hR]

/-- Column `l` of the weights' block at point `t` is the projection's column for result column `1408 (t % 2) + l`. -/
theorem cols (c : Dev nD) (t : Fin cfg0.N) (k : Fin 2048) (l : Fin 1408) (L : Fin 2816) (hL : (L : ℕ) = t.val % 2 * 1408 + l.val) :
    (iblk m c 1 t : S2048x1408.Idx → EReal) (ix2 k l) = W m c (ix2 k (src L)) := by
  rw [← weights m c k L]
  blk_point [iblk, idx t, hL]

/-- Column `l` of the gains' block at point `t` is the gain of result column `1408 (t % 2) + l`. -/
theorem gain_cols (c : Dev nD) (t : Fin cfg0.N) (l : Fin 1408) (L : Fin 2816) (hL : (L : ℕ) = t.val % 2 * 1408 + l.val) :
    (iblk m c 2 t : S1x1408.Idx → EReal) (ix2 0 l) = gain (G2 m c) (G3 m c) (G4 m c) (G5 m c) (G6 m c) L := by
  rw [← gains_at m c L]
  blk_point [iblk, idx t, hL]

/-- The blocks' product at `(r, l)` is the whole product at the array index that sits at. -/
theorem product (c : Dev nD) (t : Fin cfg0.N) (r : Fin 1024) (l : Fin 1408) (R : Fin 16384) (L : Fin 2816)
    (hR : (R : ℕ) = t.val / 2 * 1024 + r.val) (hL : (L : ℕ) = t.val % 2 * 1408 + l.val) :
    k0_pay3 (F := Ideal) (iblk m c 0 t) (iblk m c 1 t) (ix2 r l) = prod (H m c) (W m c) (ix2 R (src L)) := by
  have h0 := fun k => rows m c t r k R hR
  have h1 := fun k => cols m c t k l L hL
  generalize H m c = A at h0 ⊢
  generalize W m c = B at h1 ⊢
  generalize (iblk m c 0 t : S1024x2048.Idx → EReal) = x at h0 ⊢
  generalize (iblk m c 1 t : S2048x1408.Idx → EReal) = w at h1 ⊢
  pointwise [k0_pay3, prod, h0, h1]

/-- The normed entry the body leaves at row `r` and column `l` of the block. -/
def entry (x0 : Vec Ideal S1024x2048 .bf16) (x1 : Vec Ideal S2048x1408 .bf16) (x2 : Vec Ideal S1x1408 .f32) (r : Fin 1024) (l : Fin 1408) : EReal :=
  normed (fun x => k0_pay3 x0 x1 (ix2 r ⟨l.val / 128 * 128 + x.val, by have := l.isLt; have := x.isLt; omega⟩)) (k0_pay3 x0 x1 (ix2 r l)) (x2 (ix2 0 l))

/-- A load of 128 columns of the gains at column `o`. -/
theorem ld_gain (o : ℕ) (h : ∀ a, (![0, o] : Fin 2 → Nat) a + S1x128.size a ≤ S1x1408.size a) (x2 : Vec Ideal S1x1408 .f32) (d : Fin 128) (l : Fin 1408) (hl : (l : ℕ) = o + d.val) :
    View.ld x2 (Rect.unit (s := S1x1408) ![0, o] S1x128.size h) (ix2 0 d) = x2 (ix2 0 l) := by
  rw [View.ld_apply]
  refine congrArg x2 (funext fun a => Fin.ext ?_)
  match a with
  | ⟨0, _⟩ => rfl
  | ⟨1, _⟩ => show o + 1 * d.val = l.val; omega

/-- The first head's payload. -/
theorem piece0 (x0 : Vec Ideal S1024x2048 .bf16) (x1 : Vec Ideal S2048x1408 .bf16) (x2 : Vec Ideal S1x1408 .f32) (r : Fin 1024) (d : Fin 128) (l : Fin 1408) (hl : (l : ℕ) = d.val) :
    k0_pay4 x0 x1 (View.ld x2 r0_2) (ix2 r d) = entry x0 x1 x2 r l := by
  have hg := ld_gain 0 (by exact inb_S1x1408_S1x128_0_0) x2 d l (by omega)
  have hd := d.isLt
  generalize View.ld x2 r0_2 = g at hg ⊢
  unfold entry normed
  pointwise [k0_pay4]
  rw [hg]
  have e : l.val / 128 * 128 = 0 := by omega
  obtain rfl : l = ⟨d.val, Nat.lt_of_lt_of_le hd (by decide)⟩ := Fin.ext hl
  simp only [e, Nat.zero_add]

/-- The second head's payload. -/
theorem piece1 (x0 : Vec Ideal S1024x2048 .bf16) (x1 : Vec Ideal S2048x1408 .bf16) (x2 : Vec Ideal S1x1408 .f32) (r : Fin 1024) (d : Fin 128) (l : Fin 1408) (hl : (l : ℕ) = 128 + d.val) :
    k0_pay5 x0 x1 (View.ld x2 r0_4) (ix2 r d) = entry x0 x1 x2 r l := by
  have hg := ld_gain 128 (by exact inb_S1x1408_S1x128_0_128) x2 d l hl
  have hd := d.isLt
  generalize View.ld x2 r0_4 = g at hg ⊢
  unfold entry normed
  pointwise [k0_pay5]
  rw [hg]
  have e : l.val / 128 * 128 = 128 := by omega
  obtain rfl : l = ⟨128 + d.val, Nat.lt_of_lt_of_le (Nat.add_lt_add_left hd 128) (by decide)⟩ := Fin.ext hl
  simp only [e]

/-- The third head's payload. -/
theorem piece2 (x0 : Vec Ideal S1024x2048 .bf16) (x1 : Vec Ideal S2048x1408 .bf16) (x2 : Vec Ideal S1x1408 .f32) (r : Fin 1024) (d : Fin 128) (l : Fin 1408) (hl : (l : ℕ) = 256 + d.val) :
    k0_pay6 (k0_pay3 x0 x1) (View.ld x2 r0_6) (ix2 r d) = entry x0 x1 x2 r l := by
  have hg := ld_gain 256 (by exact inb_S1x1408_S1x128_0_256) x2 d l hl
  have hd := d.isLt
  generalize View.ld x2 r0_6 = g at hg ⊢
  unfold entry normed
  pointwise [k0_pay6]
  rw [hg]
  have e : l.val / 128 * 128 = 256 := by omega
  obtain rfl : l = ⟨256 + d.val, Nat.lt_of_lt_of_le (Nat.add_lt_add_left hd 256) (by decide)⟩ := Fin.ext hl
  simp only [e]

/-- The fourth head's payload. -/
theorem piece3 (x0 : Vec Ideal S1024x2048 .bf16) (x1 : Vec Ideal S2048x1408 .bf16) (x2 : Vec Ideal S1x1408 .f32) (r : Fin 1024) (d : Fin 128) (l : Fin 1408) (hl : (l : ℕ) = 384 + d.val) :
    k0_pay7 (k0_pay3 x0 x1) (View.ld x2 r0_8) (ix2 r d) = entry x0 x1 x2 r l := by
  have hg := ld_gain 384 (by exact inb_S1x1408_S1x128_0_384) x2 d l hl
  have hd := d.isLt
  generalize View.ld x2 r0_8 = g at hg ⊢
  unfold entry normed
  pointwise [k0_pay7]
  rw [hg]
  have e : l.val / 128 * 128 = 384 := by omega
  obtain rfl : l = ⟨384 + d.val, Nat.lt_of_lt_of_le (Nat.add_lt_add_left hd 384) (by decide)⟩ := Fin.ext hl
  simp only [e]

/-- The fifth head's payload. -/
theorem piece4 (x0 : Vec Ideal S1024x2048 .bf16) (x1 : Vec Ideal S2048x1408 .bf16) (x2 : Vec Ideal S1x1408 .f32) (r : Fin 1024) (d : Fin 128) (l : Fin 1408) (hl : (l : ℕ) = 512 + d.val) :
    k0_pay10 (k0_pay8 (k0_pay3 x0 x1)) (k0_pay9 (k0_pay3 x0 x1)) (Scalar.ofBits .f32 0x358637BD#32) (View.ld x2 r0_10) (ix2 r d) = entry x0 x1 x2 r l := by
  have hg := ld_gain 512 (by exact inb_S1x1408_S1x128_0_512) x2 d l hl
  have hd := d.isLt
  generalize View.ld x2 r0_10 = g at hg ⊢
  unfold entry normed
  pointwise [k0_pay10, k0_pay8, k0_pay9]
  rw [hg]
  have e : l.val / 128 * 128 = 512 := by omega
  obtain rfl : l = ⟨512 + d.val, Nat.lt_of_lt_of_le (Nat.add_lt_add_left hd 512) (by decide)⟩ := Fin.ext hl
  simp only [e]

/-- The sixth head's payload. -/
theorem piece5 (x0 : Vec Ideal S1024x2048 .bf16) (x1 : Vec Ideal S2048x1408 .bf16) (x2 : Vec Ideal S1x1408 .f32) (r : Fin 1024) (d : Fin 128) (l : Fin 1408) (hl : (l : ℕ) = 640 + d.val) :
    k0_pay11 (k0_pay3 x0 x1) (View.ld x2 r0_12) (ix2 r d) = entry x0 x1 x2 r l := by
  have hg := ld_gain 640 (by exact inb_S1x1408_S1x128_0_640) x2 d l hl
  have hd := d.isLt
  generalize View.ld x2 r0_12 = g at hg ⊢
  unfold entry normed
  pointwise [k0_pay11]
  rw [hg]
  have e : l.val / 128 * 128 = 640 := by omega
  obtain rfl : l = ⟨640 + d.val, Nat.lt_of_lt_of_le (Nat.add_lt_add_left hd 640) (by decide)⟩ := Fin.ext hl
  simp only [e]

/-- The seventh head's payload. -/
theorem piece6 (x0 : Vec Ideal S1024x2048 .bf16) (x1 : Vec Ideal S2048x1408 .bf16) (x2 : Vec Ideal S1x1408 .f32) (r : Fin 1024) (d : Fin 128) (l : Fin 1408) (hl : (l : ℕ) = 768 + d.val) :
    k0_pay14 (k0_pay12 (k0_pay3 x0 x1)) (k0_pay13 (View.ld x2 r0_14)) (ix2 r d) = entry x0 x1 x2 r l := by
  have hg := ld_gain 768 (by exact inb_S1x1408_S1x128_0_768) x2 d l hl
  have hd := d.isLt
  generalize View.ld x2 r0_14 = g at hg ⊢
  unfold entry normed
  pointwise [k0_pay14, k0_pay12, k0_pay13]
  rw [hg]
  have e : l.val / 128 * 128 = 768 := by omega
  obtain rfl : l = ⟨768 + d.val, Nat.lt_of_lt_of_le (Nat.add_lt_add_left hd 768) (by decide)⟩ := Fin.ext hl
  simp only [e]

/-- The eighth head's payload. -/
theorem piece7 (x0 : Vec Ideal S1024x2048 .bf16) (x1 : Vec Ideal S2048x1408 .bf16) (x2 : Vec Ideal S1x1408 .f32) (r : Fin 1024) (d : Fin 128) (l : Fin 1408) (hl : (l : ℕ) = 896 + d.val) :
    k0_pay15 (k0_pay3 x0 x1) (View.ld x2 r0_16) (ix2 r d) = entry x0 x1 x2 r l := by
  have hg := ld_gain 896 (by exact inb_S1x1408_S1x128_0_896) x2 d l hl
  have hd := d.isLt
  generalize View.ld x2 r0_16 = g at hg ⊢
  unfold entry normed
  pointwise [k0_pay15]
  rw [hg]
  have e : l.val / 128 * 128 = 896 := by omega
  obtain rfl : l = ⟨896 + d.val, Nat.lt_of_lt_of_le (Nat.add_lt_add_left hd 896) (by decide)⟩ := Fin.ext hl
  simp only [e]

/-- The ninth head's payload. -/
theorem piece8 (x0 : Vec Ideal S1024x2048 .bf16) (x1 : Vec Ideal S2048x1408 .bf16) (x2 : Vec Ideal S1x1408 .f32) (r : Fin 1024) (d : Fin 128) (l : Fin 1408) (hl : (l : ℕ) = 1024 + d.val) :
    k0_pay16 (k0_pay3 x0 x1) (View.ld x2 r0_18) (ix2 r d) = entry x0 x1 x2 r l := by
  have hg := ld_gain 1024 (by exact inb_S1x1408_S1x128_0_1024) x2 d l hl
  have hd := d.isLt
  generalize View.ld x2 r0_18 = g at hg ⊢
  unfold entry normed
  pointwise [k0_pay16]
  rw [hg]
  have e : l.val / 128 * 128 = 1024 := by omega
  obtain rfl : l = ⟨1024 + d.val, Nat.lt_of_lt_of_le (Nat.add_lt_add_left hd 1024) (by decide)⟩ := Fin.ext hl
  simp only [e]

/-- The tenth head's payload. -/
theorem piece9 (x0 : Vec Ideal S1024x2048 .bf16) (x1 : Vec Ideal S2048x1408 .bf16) (x2 : Vec Ideal S1x1408 .f32) (r : Fin 1024) (d : Fin 128) (l : Fin 1408) (hl : (l : ℕ) = 1152 + d.val) :
    k0_pay1 (k0_pay17 (k0_pay3 x0 x1)) (k0_pay18 (k0_pay3 x0 x1)) (View.ld x2 r0_20) (ix2 r d) = entry x0 x1 x2 r l := by
  have hg := ld_gain 1152 (by exact inb_S1x1408_S1x128_0_1152) x2 d l hl
  have hd := d.isLt
  generalize View.ld x2 r0_20 = g at hg ⊢
  unfold entry normed
  pointwise [k0_pay1, k0_pay17, k0_pay18]
  rw [hg]
  have e : l.val / 128 * 128 = 1152 := by omega
  obtain rfl : l = ⟨1152 + d.val, Nat.lt_of_lt_of_le (Nat.add_lt_add_left hd 1152) (by decide)⟩ := Fin.ext hl
  simp only [e]

/-- The eleventh head's payload. -/
theorem piece10 (x0 : Vec Ideal S1024x2048 .bf16) (x1 : Vec Ideal S2048x1408 .bf16) (x2 : Vec Ideal S1x1408 .f32) (r : Fin 1024) (d : Fin 128) (l : Fin 1408) (hl : (l : ℕ) = 1280 + d.val) :
    k0_pay2 (k0_pay3 x0 x1) (View.ld x2 r0_22) (ix2 r d) = entry x0 x1 x2 r l := by
  have hg := ld_gain 1280 (by exact inb_S1x1408_S1x128_0_1280) x2 d l hl
  have hd := d.isLt
  generalize View.ld x2 r0_22 = g at hg ⊢
  unfold entry normed
  pointwise [k0_pay2]
  rw [hg]
  have e : l.val / 128 * 128 = 1280 := by omega
  obtain rfl : l = ⟨1280 + d.val, Nat.lt_of_lt_of_le (Nat.add_lt_add_left hd 1280) (by decide)⟩ := Fin.ext hl
  simp only [e]

/-- Loading the stream's whole block is the block. -/
theorem ld_rows (x : Vec Ideal S1024x2048 .bf16) : View.ld x r0_0 = x :=
  View.ld_unit_zero (by funext a; fin_cases a <;> rfl) _ x

/-- Loading the weights' whole block is the block. -/
theorem ld_cols (x : Vec Ideal S2048x1408 .bf16) : View.ld x r0_1 = x :=
  View.ld_unit_zero (by funext a; fin_cases a <;> rfl) _ x

/-- What the body leaves in the block at `y`. -/
theorem left_at (x0 : Vec Ideal S1024x2048 .bf16) (x1 : Vec Ideal S2048x1408 .bf16) (x2 : Vec Ideal S1x1408 .f32) (y : S1024x1408.Idx) : out0_3 x0 x1 x2 y = entry x0 x1 x2 (y 0) (y 1) := by
  unfold_out out0_3
  rw [ld_rows, ld_cols]
  canon_tiles x h
  · exact (congrArg _ (eq_ix2 x)).trans ((piece10 x0 x1 x2 (x 0) (x 1) (y 1) h1).trans (congrArg (fun r => entry x0 x1 x2 r (y 1)) (Fin.ext h0.symm)))
  · exact (congrArg _ (eq_ix2 x)).trans ((piece9 x0 x1 x2 (x 0) (x 1) (y 1) h1).trans (congrArg (fun r => entry x0 x1 x2 r (y 1)) (Fin.ext h0.symm)))
  · exact (congrArg _ (eq_ix2 x)).trans ((piece8 x0 x1 x2 (x 0) (x 1) (y 1) h1).trans (congrArg (fun r => entry x0 x1 x2 r (y 1)) (Fin.ext h0.symm)))
  · exact (congrArg _ (eq_ix2 x)).trans ((piece7 x0 x1 x2 (x 0) (x 1) (y 1) h1).trans (congrArg (fun r => entry x0 x1 x2 r (y 1)) (Fin.ext h0.symm)))
  · exact (congrArg _ (eq_ix2 x)).trans ((piece6 x0 x1 x2 (x 0) (x 1) (y 1) h1).trans (congrArg (fun r => entry x0 x1 x2 r (y 1)) (Fin.ext h0.symm)))
  · exact (congrArg _ (eq_ix2 x)).trans ((piece5 x0 x1 x2 (x 0) (x 1) (y 1) h1).trans (congrArg (fun r => entry x0 x1 x2 r (y 1)) (Fin.ext h0.symm)))
  · exact (congrArg _ (eq_ix2 x)).trans ((piece4 x0 x1 x2 (x 0) (x 1) (y 1) h1).trans (congrArg (fun r => entry x0 x1 x2 r (y 1)) (Fin.ext h0.symm)))
  · exact (congrArg _ (eq_ix2 x)).trans ((piece3 x0 x1 x2 (x 0) (x 1) (y 1) h1).trans (congrArg (fun r => entry x0 x1 x2 r (y 1)) (Fin.ext h0.symm)))
  · exact (congrArg _ (eq_ix2 x)).trans ((piece2 x0 x1 x2 (x 0) (x 1) (y 1) h1).trans (congrArg (fun r => entry x0 x1 x2 r (y 1)) (Fin.ext h0.symm)))
  · exact (congrArg _ (eq_ix2 x)).trans ((piece1 x0 x1 x2 (x 0) (x 1) (y 1) h1).trans (congrArg (fun r => entry x0 x1 x2 r (y 1)) (Fin.ext h0.symm)))
  · exact (congrArg _ (eq_ix2 x)).trans ((piece0 x0 x1 x2 (x 0) (x 1) (y 1) h1).trans (congrArg (fun r => entry x0 x1 x2 r (y 1)) (Fin.ext h0.symm)))

/-- What the body leaves at `(r, l)` of point `t` is the array of normed heads at the index that sits at. -/
theorem point (c : Dev nD) (t : Fin cfg0.N) (r : Fin 1024) (l : Fin 1408) (R : Fin 16384) (L : Fin 2816)
    (hR : (R : ℕ) = t.val / 2 * 1024 + r.val) (hL : (L : ℕ) = t.val % 2 * 1408 + l.val) :
    entry (iblk m c 0 t) (iblk m c 1 t) (iblk m c 2 t) r l
      = heads (H m c) (W m c) (G2 m c) (G3 m c) (G4 m c) (G5 m c) (G6 m c) (ix2 R L) := by
  rw [heads_apply]
  have hl := l.isLt
  exact normed_congr (fun x => product m c t r _ R _ hR (by have := x.isLt; show (L : ℕ) / 128 * 128 + x.val = t.val % 2 * 1408 + (l.val / 128 * 128 + x.val); omega))
    (product m c t r l R L hR hL) (gain_cols m c t l L hL)

/-- The call's array after the run. -/
theorem final (c : Dev nD) : (dats m 0 c).arrAt 3 (cfgs 0).N = heads (H m c) (W m c) (G2 m c) (G3 m c) (G4 m c) (G5 m c) (G6 m c) := by
  refine (dats m 0 c).arrAt_eq_of_covers 3 _ (by decide +kernel) fun t _ y => ?_
  blk_simp
  rw [after0_3]
  have ht : t.val < 32 := lt_of_lt_of_eq t.isLt N_0
  have b0 : (y 0 : ℕ) < 1024 := (y 0).isLt
  have b1 : (y 1 : ℕ) < 1408 := (y 1).isLt
  have hi : ((cfg0.win 3).blk t).view.emb y
      = ix2 (⟨t.val / 2 * 1024 + (y 0 : ℕ), by omega⟩ : Fin 16384) (⟨t.val % 2 * 1408 + (y 1 : ℕ), by omega⟩ : Fin 2816) := by
    blk_ext [idx t]
  rw [hi]
  exact (left_at _ _ _ y).trans (point m c t (y 0) (y 1) _ _ rfl rfl)

end Cert.Kernel5Ideal.HeadNorm

end
-- ==== Proof.ValsValue.lean ====
/-
  THE VALUES' VALUE. At exact arithmetic the array the plain projection leaves is the product of the normed stream with the three
  slices of the projection that make the values — the selected branch's, the windowed branch's, the other mixer's —
  side by side. The kernel lays the slices side by side and then multiplies; the reference slices the whole product.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference6Ideal.Vals

open Cert.Reference6Ideal Cert.Reference6Ideal.Gen

/-- The product of the stream with the whole projection. -/
def prod (a0 : FVec Ideal S16384x2048 .bf16) (a1 : FVec Ideal S2048x11368 .f32) : FVec Ideal S16384x11368 .f32 :=
  Host.dotGeneral dot_S16384x2048_S2048x11368_S16384x11368_1_0_0_1_n_n none (extf .f32 a0 bitsLt_bf16_f32) a1

/-- The three slices of the product, side by side. -/
def vals (a0 : FVec Ideal S16384x2048 .bf16) (a1 : FVec Ideal S2048x11368 .f32) : FVec Ideal S16384x768 .bf16 :=
  truncf .bf16 (concatenate S16384x768 1 [⟨S16384x256, extractStridedSlice S16384x256 ![0, 1792] (prod a0 a1) slices_S16384x11368_S16384x256_0_1792⟩,
    ⟨S16384x256, extractStridedSlice S16384x256 ![0, 2304] (prod a0 a1) slices_S16384x11368_S16384x256_0_2304⟩,
    ⟨S16384x256, extractStridedSlice S16384x256 ![0, 4888] (prod a0 a1) slices_S16384x11368_S16384x256_0_4888⟩] concatenates_S16384x256_S16384x256_S16384x256_S16384x768_d1) bitsLt_bf16_f32

end Cert.Reference6Ideal.Vals

namespace Cert.Kernel6Ideal.Vals

open Cert.Kernel6Ideal Cert.Kernel6Ideal.Gen
open Cert.Reference6Ideal.Vals (prod vals)

variable (m : (ℓ : Loc nD τ sig) → Buf (Elt Ideal) ℓ)

/-- Where each window's block sits at point `t`: the rows at `t`, the weights whole. -/
theorem idx : ∀ t : Fin cfg0.N, win0_0.index t = ![t.val, 0] ∧ win0_1.index t = ![0, 0] ∧ win0_2.index t = ![t.val, 0] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)

/-- The projection's column that result column `l` is made from. -/
def src (l : Fin 768) : Fin 11368 :=
  ⟨if l.val < 256 then 1792 + l.val else if l.val < 512 then 2304 + (l.val - 256) else 4888 + (l.val - 512), by have := l.isLt; split_ifs <;> omega⟩

/-- The three slices of the projection, side by side. -/
abbrev side (a1 : FVec Ideal S2048x11368 .f32) : FVec Ideal S2048x768 .bf16 :=
  truncf .bf16 (concatenate S2048x768 1 [⟨S2048x256, extractStridedSlice S2048x256 ![0, 1792] a1 slices_S2048x11368_S2048x256_0_1792⟩,
    ⟨S2048x256, extractStridedSlice S2048x256 ![0, 2304] a1 slices_S2048x11368_S2048x256_0_2304⟩,
    ⟨S2048x256, extractStridedSlice S2048x256 ![0, 4888] a1 slices_S2048x11368_S2048x256_0_4888⟩] concatenates_S2048x256_S2048x256_S2048x256_S2048x768_d1) bitsLt_bf16_f32

set_option maxHeartbeats 2000000 in
/-- They are the weights the call stages. -/
theorem staged (c : Dev nD) : V m c main_v22 = side (m ((c : Thread nD τ).loc main_arg1)) := by
  unfold V hostOps0
  after_results
  rfl

/-- Column `l` of the weights is the projection's column `src l`. -/
theorem weights (c : Dev nD) (k : Fin 2048) (l : Fin 768) :
    (V m c main_v22 : S2048x768.Idx → EReal) (ix2 k l) = W m c (ix2 k (src l)) := by
  rw [staged m c]
  change side (W m c) (ix2 k l) = _
  generalize W m c = B
  pointwise
  split_ifs with h h'
  all_goals
    refine congrArg B (congrArg (ix2 k) (Fin.ext ?_))
    simp only [src]
    split_ifs <;> omega

/-- Row `r` of the stream's block at point `t` is row `1024 t + r` of the stream. -/
theorem rows (c : Dev nD) (t : Fin cfg0.N) (r : Fin 1024) (k : Fin 2048) (R : Fin 16384) (hR : (R : ℕ) = t.val * 1024 + r.val) :
    (iblk m c 0 t : S1024x2048.Idx → EReal) (ix2 r k) = H m c (ix2 R k) := by
  blk_point [iblk, V_main_arg0, idx t, hR]

/-- Column `l` of the weights' block is the projection's column for result column `l`. -/
theorem cols (c : Dev nD) (t : Fin cfg0.N) (k : Fin 2048) (l : Fin 768) :
    (iblk m c 1 t : S2048x768.Idx → EReal) (ix2 k l) = W m c (ix2 k (src l)) := by
  rw [← weights m c k l]
  blk_point [iblk, idx t]

/-- What the body stores at block index `(r, l)` of point `t` is the value at the array index that sits at. -/
theorem point (c : Dev nD) (t : Fin cfg0.N) (r : Fin 1024) (l : Fin 768) (R : Fin 16384) (hR : (R : ℕ) = t.val * 1024 + r.val) :
    k0_pay1 (F := Ideal) (iblk m c 0 t) (iblk m c 1 t) (ix2 r l) = vals (H m c) (W m c) (ix2 R l) := by
  have h0 := fun k => rows m c t r k R hR
  have h1 := fun k => cols m c t k l
  generalize H m c = A at h0 ⊢
  generalize W m c = B at h1 ⊢
  generalize (iblk m c 0 t : S1024x2048.Idx → EReal) = x at h0 ⊢
  generalize (iblk m c 1 t : S2048x768.Idx → EReal) = w at h1 ⊢
  pointwise [k0_pay1, vals, prod, h0, h1]
  split_ifs with h h'
  all_goals
    refine Finset.sum_congr rfl fun k _ => congrArg (A (ix2 R k) * ·) (congrArg B (congrArg (ix2 k) (Fin.ext ?_)))
    simp only [src]
    split_ifs <;> omega

/-- The call's array after the run. -/
theorem final (c : Dev nD) : (dats m 0 c).arrAt 2 (cfgs 0).N = vals (H m c) (W m c) := by
  refine (dats m 0 c).arrAt_eq_of_covers 2 _ (by decide +kernel) fun t _ y => ?_
  blk_simp
  rw [after0_2]; frame_out
  have ht : t.val < 16 := lt_of_lt_of_eq t.isLt N_0
  have b0 : (y 0 : ℕ) < 1024 := (y 0).isLt
  have hi : ((cfg0.win 2).blk t).view.emb y = ix2 (⟨t.val * 1024 + (y 0 : ℕ), by omega⟩ : Fin 16384) (y 1) := by
    blk_ext [idx t]
  rw [hi]
  exact (congrArg _ (eq_ix2 y)).trans (point m c t (y 0) (y 1) _ rfl)

end Cert.Kernel6Ideal.Vals

end
-- ==== Proof.HeadsValue.lean ====
/-
  THE INDEXER'S QUERIES' VALUE. At exact arithmetic the array the per-head projection leaves is the product of the normed stream
  with the slice of the projection that makes the indexer's queries, laid out head by head. The kernel stores each head's 64
  columns of a block of 1024 rows at the head's place; the reference reshapes the slice of the whole product and moves the axis.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal.Heads

open Cert.Reference7Ideal Cert.Reference7Ideal.Gen

/-- The product of the stream with the whole projection. -/
def prod (a0 : FVec Ideal S16384x2048 .bf16) (a1 : FVec Ideal S2048x11368 .f32) : FVec Ideal S16384x11368 .f32 :=
  Host.dotGeneral dot_S16384x2048_S2048x11368_S16384x11368_1_0_0_1_n_n none (extf .f32 a0 bitsLt_bf16_f32) a1

/-- The slice of the product, split into batch entries and heads, the heads moved before the positions. -/
def heads (a0 : FVec Ideal S16384x2048 .bf16) (a1 : FVec Ideal S2048x11368 .f32) : FVec Ideal S2x16x8192x64 .bf16 :=
  truncf .bf16 (transpose S2x16x8192x64 [0, 2, 1, 3] (shapeCast S2x8192x16x64 (extractStridedSlice S16384x1024 ![0, 5144] (prod a0 a1) slices_S16384x11368_S16384x1024_0_5144)
    shapeCasts_S16384x1024_S2x8192x16x64) transposes_S2x8192x16x64_S2x16x8192x64_0_2_1_3) bitsLt_bf16_f32

/-- Its entry: row `8192 b + s` of the stream against column `5144 + 64 n + d` of the projection. -/
theorem heads_apply (a0 : FVec Ideal S16384x2048 .bf16) (a1 : FVec Ideal S2048x11368 .f32) (b : Fin 2) (n : Fin 16) (s : Fin 8192) (d : Fin 64)
    (R : Fin 16384) (hR : (R : ℕ) = b.val * 8192 + s.val) (L : Fin 11368) (hL : (L : ℕ) = 5144 + (n.val * 64 + d.val)) :
    heads a0 a1 (ix4 b n s d) = ∑ k : Fin 2048, a0 (ix2 R k) * a1 (ix2 k L) := by
  pointwise [heads, prod]
  exact Finset.sum_congr rfl fun k _ => congrArg₂ (· * ·) (congrArg a0 (congrArg (fun x => ix2 x k) (Fin.ext hR.symm)))
    (congrArg a1 (congrArg (ix2 k) (Fin.ext hL.symm)))

end Cert.Reference7Ideal.Heads

namespace Cert.Kernel7Ideal.Heads

open Cert.Kernel7Ideal Cert.Kernel7Ideal.Gen
open Cert.Reference7Ideal.Heads (heads heads_apply)

variable (m : (ℓ : Loc nD τ sig) → Buf (Elt Ideal) ℓ)

/-- Where each window's block sits at point `t`: the rows at `t`, the weights whole. -/
theorem idx : ∀ t : Fin cfg0.N, win0_0.index t = ![t.val, 0] ∧ win0_1.index t = ![0, 0] ∧ win0_2.index t = ![t.val / 8, 0, t.val % 8, 0] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)

/-- The weights the call stages: the projection's columns from 5144 on. -/
theorem weights (c : Dev nD) (k : Fin 2048) (l : Fin 1024) (L : Fin 11368) (hL : (L : ℕ) = 5144 + l.val) :
    (V m c main_v23 : S2048x1024.Idx → EReal) (ix2 k l) = W m c (ix2 k L) := by
  entry_read
  pointwise
  exact congrArg (W m c) (congrArg (ix2 k) (Fin.ext hL.symm))

/-- Row `r` of the stream's block at point `t` is row `1024 t + r` of the stream. -/
theorem rows (c : Dev nD) (t : Fin cfg0.N) (r : Fin 1024) (k : Fin 2048) (R : Fin 16384) (hR : (R : ℕ) = t.val * 1024 + r.val) :
    (iblk m c 0 t : S1024x2048.Idx → EReal) (ix2 r k) = H m c (ix2 R k) := by
  blk_point [iblk, V_main_arg0, idx t, hR]

/-- Column `l` of the weights' block is column `5144 + l` of the projection. -/
theorem cols (c : Dev nD) (t : Fin cfg0.N) (k : Fin 2048) (l : Fin 1024) (L : Fin 11368) (hL : (L : ℕ) = 5144 + l.val) :
    (iblk m c 1 t : S2048x1024.Idx → EReal) (ix2 k l) = W m c (ix2 k L) := by
  rw [← weights m c k l L hL]
  blk_point [iblk, idx t]

/-- A block's product at `(r, l)`: row `1024 t + r` of the stream against column `5144 + l` of the projection. -/
theorem point (c : Dev nD) (t : Fin cfg0.N) (r l : Fin 1024) (R : Fin 16384) (hR : (R : ℕ) = t.val * 1024 + r.val)
    (L : Fin 11368) (hL : (L : ℕ) = 5144 + l.val) :
    k0_pay6 (F := Ideal) (iblk m c 0 t) (iblk m c 1 t) (ix2 r l) = ∑ k : Fin 2048, H m c (ix2 R k) * W m c (ix2 k L) := by
  have h0 := fun k => rows m c t r k R hR
  have h1 := fun k => cols m c t k l L hL
  generalize H m c = A at h0 ⊢
  generalize W m c = B at h1 ⊢
  generalize (iblk m c 0 t : S1024x2048.Idx → EReal) = x at h0 ⊢
  generalize (iblk m c 1 t : S2048x1024.Idx → EReal) = w at h1 ⊢
  pointwise [k0_pay6, h0, h1]

/-- Loading the stream's whole block is the block. -/
theorem ld_rows (x : Vec Ideal S1024x2048 .bf16) : View.ld x r0_0 = x :=
  View.ld_unit_zero (by funext a; fin_cases a <;> rfl) _ x

/-- Loading the weights' whole block is the block. -/
theorem ld_cols (x : Vec Ideal S2048x1024 .bf16) : View.ld x r0_1 = x :=
  View.ld_unit_zero (by funext a; fin_cases a <;> rfl) _ x

/-- What the body leaves in the block at `y` of point `t`: the block's product at row `y 2` and column `64 (y 1) + y 3`. -/
theorem left_at (x : Vec Ideal S1024x2048 .bf16) (w : Vec Ideal S2048x1024 .bf16) (y : S1x16x1024x64.Idx) (r l : Fin 1024)
    (hr : (r : ℕ) = (y 2 : ℕ)) (hl : (l : ℕ) = (y 1 : ℕ) * 64 + (y 3 : ℕ)) :
    out0_2 x w y = k0_pay6 (F := Ideal) x w (ix2 r l) := by
  refine (Value.canon2_eq (View.ld x r0_0) (View.ld w r0_1) y).trans ?_
  rw [ld_rows, ld_cols]
  refine congrArg (k0_pay6 (F := Ideal) x w) (funext fun a => ?_)
  match a with
  | ⟨0, _⟩ => exact Fin.ext hr.symm
  | ⟨1, _⟩ => exact Fin.ext hl.symm

/-- The call's array after the run. -/
theorem final (c : Dev nD) : (dats m 0 c).arrAt 2 (cfgs 0).N = heads (H m c) (W m c) := by
  refine (dats m 0 c).arrAt_eq_of_covers 2 _ (by decide +kernel) fun t _ y => ?_
  blk_simp
  rw [after0_2]
  have ht : t.val < 16 := lt_of_lt_of_eq t.isLt N_0
  have b0 : (y 0 : ℕ) < 1 := (y 0).isLt
  have b1 : (y 1 : ℕ) < 16 := (y 1).isLt
  have b2 : (y 2 : ℕ) < 1024 := (y 2).isLt
  have b3 : (y 3 : ℕ) < 64 := (y 3).isLt
  have hi : ((cfg0.win 2).blk t).view.emb y = ix4 (⟨t.val / 8, by omega⟩ : Fin 2) (⟨(y 1 : ℕ), b1⟩ : Fin 16) (⟨t.val % 8 * 1024 + (y 2 : ℕ), by omega⟩ : Fin 8192) (⟨(y 3 : ℕ), b3⟩ : Fin 64) := by
    blk_ext [idx t]
  rw [hi]
  refine Eq.trans ?_ (heads_apply (H m c) (W m c) _ _ _ _ (⟨t.val * 1024 + (y 2 : ℕ), by omega⟩ : Fin 16384) (by show t.val * 1024 + (y 2 : ℕ) = t.val / 8 * 8192 + (t.val % 8 * 1024 + (y 2 : ℕ)); omega)
    (⟨5144 + ((y 1 : ℕ) * 64 + (y 3 : ℕ)), by omega⟩ : Fin 11368) rfl).symm
  exact (left_at (iblk m c 0 t) (iblk m c 1 t) y ⟨(y 2 : ℕ), b2⟩ ⟨(y 1 : ℕ) * 64 + (y 3 : ℕ), by omega⟩ rfl rfl).trans
    (point m c t _ _ _ rfl _ rfl)

end Cert.Kernel7Ideal.Heads

end
-- ==== Proof.RawValue.lean ====
/-
  THE RAW SPLIT'S VALUE. At exact arithmetic the three arrays the split projection leaves are products of the normed stream with
  columns of the projection: the compressed branch's raw keys; its raw values; and the indexer's keys and head weights with the
  first mixer's branch gates beside them, filled up with zero columns. The kernel lays all these columns side by side, pads the
  projection with zero columns, multiplies once and stores three slices; the reference slices the whole product.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference8Ideal.Raw

open Cert.Reference8Ideal Cert.Reference8Ideal.Gen

/-- The product of the stream with the whole projection. -/
def prod (a0 : FVec Ideal S16384x2048 .bf16) (a1 : FVec Ideal S2048x11368 .f32) : FVec Ideal S16384x11368 .f32 :=
  Host.dotGeneral dot_S16384x2048_S2048x11368_S16384x11368_1_0_0_1_n_n none (extf .f32 a0 bitsLt_bf16_f32) a1

/-- The raw keys: 256 columns of the product. -/
def keys (a0 : FVec Ideal S16384x2048 .bf16) (a1 : FVec Ideal S2048x11368 .f32) : FVec Ideal S16384x256 .f32 :=
  extractStridedSlice S16384x256 ![0, 1024] (prod a0 a1) slices_S16384x11368_S16384x256_0_1024

/-- The raw values: the next 256 columns. -/
def vals (a0 : FVec Ideal S16384x2048 .bf16) (a1 : FVec Ideal S2048x11368 .f32) : FVec Ideal S16384x256 .f32 :=
  extractStridedSlice S16384x256 ![0, 1280] (prod a0 a1) slices_S16384x11368_S16384x256_0_1280

/-- The indexer's 80 columns, the branch gates' 24, and 24 columns of zeros. -/
def rest (a0 : FVec Ideal S16384x2048 .bf16) (a1 : FVec Ideal S2048x11368 .f32) : FVec Ideal S16384x128 .f32 :=
  concatenate S16384x128 1 [⟨S16384x80, extractStridedSlice S16384x80 ![0, 6168] (prod a0 a1) slices_S16384x11368_S16384x80_0_6168⟩,
    ⟨S16384x24, extractStridedSlice S16384x24 ![0, 2560] (prod a0 a1) slices_S16384x11368_S16384x24_0_2560⟩,
    ⟨S16384x24, broadcastInDim S16384x24 ![] bcast_S_S16384x24 (constant S_ .f32 0x00000000#32)⟩] concatenates_S16384x80_S16384x24_S16384x24_S16384x128_d1

end Cert.Reference8Ideal.Raw

namespace Cert.Kernel8Ideal.Raw

open Cert.Kernel8Ideal Cert.Kernel8Ideal.Gen
open Cert.Reference8Ideal.Raw (prod keys vals rest)

variable (m : (ℓ : Loc nD τ sig) → Buf (Elt Ideal) ℓ)

/-- Where each window's block sits at point `t`: the rows at `t`, the weights whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The stream the call is given. -/
abbrev H (c : Dev nD) : S16384x2048.Idx → EReal := m ((c : Thread nD τ).loc main_arg0)
/-- The whole projection. -/
abbrev W (c : Dev nD) : S2048x11368.Idx → EReal := m ((c : Thread nD τ).loc main_arg1)

/-- The slices of the projection side by side, 24 zero columns after them. -/
abbrev side (a1 : FVec Ideal S2048x11368 .f32) : FVec Ideal S2048x640 .bf16 :=
  truncf .bf16 (concatenate S2048x640 1 [⟨S2048x256, extractStridedSlice S2048x256 ![0, 1024] a1 slices_S2048x11368_S2048x256_0_1024⟩,
    ⟨S2048x256, extractStridedSlice S2048x256 ![0, 1280] a1 slices_S2048x11368_S2048x256_0_1280⟩,
    ⟨S2048x64, extractStridedSlice S2048x64 ![0, 6168] a1 slices_S2048x11368_S2048x64_0_6168⟩,
    ⟨S2048x16, extractStridedSlice S2048x16 ![0, 6232] a1 slices_S2048x11368_S2048x16_0_6232⟩,
    ⟨S2048x24, extractStridedSlice S2048x24 ![0, 2560] a1 slices_S2048x11368_S2048x24_0_2560⟩,
    ⟨S2048x24, broadcastInDim S2048x24 ![] bcast_S_S2048x24 (constant S_ .f32 0x00000000#32)⟩]
    concatenates_S2048x256_S2048x256_S2048x64_S2048x16_S2048x24_S2048x24_S2048x640_d1) bitsLt_bf16_f32

set_option maxHeartbeats 4000000 in
/-- They are the weights the call stages. -/
theorem staged (c : Dev nD) : V m c main_v25 = side (m ((c : Thread nD τ).loc main_arg1)) := by
  unfold V hostOps0
  after_results
  rfl

/-- Entry `(k, l)` of those weights, by where column `l` lies. -/
def entry (B : S2048x11368.Idx → EReal) (k : Fin 2048) (l : Fin 640) : EReal :=
  if h : l.val < 512 then B (ix2 k ⟨1024 + l.val, by omega⟩)
  else if h : l.val < 592 then B (ix2 k ⟨6168 + (l.val - 512), by omega⟩)
  else if h : l.val < 616 then B (ix2 k ⟨2560 + (l.val - 592), by omega⟩) else 0

/-- The weights' entries are these. -/
theorem weights (c : Dev nD) (k : Fin 2048) (l : Fin 640) :
    (V m c main_v25 : S2048x640.Idx → EReal) (ix2 k l) = entry (W m c) k l := by
  rw [staged m c]
  change side (W m c) (ix2 k l) = _
  generalize W m c = B
  have hl := l.isLt
  pointwise [entry]
  repeat' split
  all_goals first
    | rfl
    | (exfalso; omega)
    | (refine congrArg B (congrArg (ix2 k) (Fin.ext ?_)); dsimp only; omega)

/-- Row `r` of the stream's block at point `t` is row `1024 t + r` of the stream. -/
theorem rows (c : Dev nD) (t : Fin cfg0.N) (r : Fin 1024) (k : Fin 2048) (R : Fin 16384) (hR : (R : ℕ) = t.val * 1024 + r.val) :
    (iblk m c 0 t : S1024x2048.Idx → EReal) (ix2 r k) = H m c (ix2 R k) := by
  blk_point [iblk, V_main_arg0, idx t, hR]

/-- The weights' block is the weights. -/
theorem cols (c : Dev nD) (t : Fin cfg0.N) (k : Fin 2048) (l : Fin 640) :
    (iblk m c 1 t : S2048x640.Idx → EReal) (ix2 k l) = entry (W m c) k l := by
  rw [← weights m c k l]
  blk_point [iblk, idx t]

/-- A block's whole product, column by column. -/
theorem point (c : Dev nD) (t : Fin cfg0.N) (r : Fin 1024) (l : Fin 640) (R : Fin 16384) (hR : (R : ℕ) = t.val * 1024 + r.val) :
    k0_pay1 (F := Ideal) (iblk m c 0 t) (iblk m c 1 t) (ix2 r l) = ∑ k : Fin 2048, H m c (ix2 R k) * entry (W m c) k l := by
  have h0 := fun k => rows m c t r k R hR
  have h1 := fun k => cols m c t k l
  generalize H m c = A at h0 ⊢
  generalize W m c = B at h1 ⊢
  generalize (iblk m c 0 t : S1024x2048.Idx → EReal) = x at h0 ⊢
  generalize (iblk m c 1 t : S2048x640.Idx → EReal) = w at h1 ⊢
  pointwise [k0_pay1, h0, h1]

/-- What is stored for the raw keys at `(r, l)` of point `t`. -/
theorem keys_point (c : Dev nD) (t : Fin cfg0.N) (r : Fin 1024) (l : Fin 256) (R : Fin 16384) (hR : (R : ℕ) = t.val * 1024 + r.val) :
    k0_pay2 (F := Ideal) (iblk m c 0 t) (iblk m c 1 t) (ix2 r l) = keys (H m c) (W m c) (ix2 R l) := by
  have hl := l.isLt
  have e : k0_pay2 (F := Ideal) (iblk m c 0 t) (iblk m c 1 t) (ix2 r l) = k0_pay1 (F := Ideal) (iblk m c 0 t) (iblk m c 1 t) (ix2 r ⟨l.val, by omega⟩) := by
    unfold k0_pay2
    generalize k0_pay1 (F := Ideal) (iblk m c 0 t) (iblk m c 1 t) = y
    pointwise
  refine (e.trans (point m c t r _ R hR)).trans ?_
  generalize H m c = A
  generalize W m c = B
  pointwise [keys, prod]
  refine Finset.sum_congr rfl fun k _ => congrArg (A (ix2 R k) * ·) ?_
  unfold entry
  rw [dif_pos (by show l.val < 512; omega)]

/-- What is stored for the raw values at `(r, l)` of point `t`. -/
theorem vals_point (c : Dev nD) (t : Fin cfg0.N) (r : Fin 1024) (l : Fin 256) (R : Fin 16384) (hR : (R : ℕ) = t.val * 1024 + r.val) :
    k0_pay3 (F := Ideal) (iblk m c 0 t) (iblk m c 1 t) (ix2 r l) = vals (H m c) (W m c) (ix2 R l) := by
  have hl := l.isLt
  have e : k0_pay3 (F := Ideal) (iblk m c 0 t) (iblk m c 1 t) (ix2 r l) = k0_pay1 (F := Ideal) (iblk m c 0 t) (iblk m c 1 t) (ix2 r ⟨256 + l.val, by omega⟩) := by
    unfold k0_pay3
    generalize k0_pay1 (F := Ideal) (iblk m c 0 t) (iblk m c 1 t) = y
    pointwise
  refine (e.trans (point m c t r _ R hR)).trans ?_
  generalize H m c = A
  generalize W m c = B
  pointwise [vals, prod]
  refine Finset.sum_congr rfl fun k _ => congrArg (A (ix2 R k) * ·) ?_
  unfold entry
  rw [dif_pos (by show 256 + l.val < 512; omega)]
  exact congrArg B (congrArg (ix2 k) (Fin.ext (by show 1024 + (256 + l.val) = 1280 + l.val; omega)))

/-- What is stored for the third array at `(r, l)` of point `t`; a product with a zero column is zero. -/
theorem rest_point (c : Dev nD) (t : Fin cfg0.N) (r : Fin 1024) (l : Fin 128) (R : Fin 16384) (hR : (R : ℕ) = t.val * 1024 + r.val) :
    k0_pay4 (F := Ideal) (iblk m c 0 t) (iblk m c 1 t) (ix2 r l) = rest (H m c) (W m c) (ix2 R l) := by
  have hl := l.isLt
  have e : k0_pay4 (F := Ideal) (iblk m c 0 t) (iblk m c 1 t) (ix2 r l) = k0_pay1 (F := Ideal) (iblk m c 0 t) (iblk m c 1 t) (ix2 r ⟨512 + l.val, by omega⟩) := by
    unfold k0_pay4
    generalize k0_pay1 (F := Ideal) (iblk m c 0 t) (iblk m c 1 t) = y
    pointwise
  refine (e.trans (point m c t r _ R hR)).trans ?_
  generalize H m c = A
  generalize W m c = B
  pointwise [rest, prod]
  have e0 : ∀ k, entry B k ⟨512 + l.val, by omega⟩ = if h : l.val < 80 then B (ix2 k ⟨6168 + l.val, by omega⟩)
      else if h : l.val < 104 then B (ix2 k ⟨2560 + (l.val - 80), by omega⟩) else 0 := by
    intro k
    unfold entry
    split_ifs
    all_goals first
      | rfl
      | (exfalso; dsimp only at *; omega)
      | (refine congrArg B (congrArg (ix2 k) (Fin.ext ?_)); dsimp only; omega)
  simp only [e0]
  split_ifs
  all_goals first
    | rfl
    | (exfalso; omega)
    | simp

/-- The call's raw keys after the run. -/
theorem final2 (c : Dev nD) : (dats m 0 c).arrAt 2 (cfgs 0).N = keys (H m c) (W m c) := by
  refine (dats m 0 c).arrAt_eq_of_covers 2 _ (by decide +kernel) fun t _ y => ?_
  blk_simp
  rw [after0_2]; frame_out
  have ht : t.val < 16 := lt_of_lt_of_eq t.isLt N_0
  have b0 : (y 0 : ℕ) < 1024 := (y 0).isLt
  have hi : ((cfg0.win 2).blk t).view.emb y = ix2 (⟨t.val * 1024 + (y 0 : ℕ), by omega⟩ : Fin 16384) (y 1) := by
    blk_ext [idx t]
  rw [hi]
  exact (congrArg _ (eq_ix2 y)).trans (keys_point m c t (y 0) (y 1) _ rfl)

/-- The call's raw values after the run. -/
theorem final3 (c : Dev nD) : (dats m 0 c).arrAt 3 (cfgs 0).N = vals (H m c) (W m c) := by
  refine (dats m 0 c).arrAt_eq_of_covers 3 _ (by decide +kernel) fun t _ y => ?_
  blk_simp
  rw [after0_3]; frame_out
  have ht : t.val < 16 := lt_of_lt_of_eq t.isLt N_0
  have b0 : (y 0 : ℕ) < 1024 := (y 0).isLt
  have hi : ((cfg0.win 3).blk t).view.emb y = ix2 (⟨t.val * 1024 + (y 0 : ℕ), by omega⟩ : Fin 16384) (y 1) := by
    blk_ext [idx t]
  rw [hi]
  exact (congrArg _ (eq_ix2 y)).trans (vals_point m c t (y 0) (y 1) _ rfl)

/-- The call's third array after the run. -/
theorem final4 (c : Dev nD) : (dats m 0 c).arrAt 4 (cfgs 0).N = rest (H m c) (W m c) := by
  refine (dats m 0 c).arrAt_eq_of_covers 4 _ (by decide +kernel) fun t _ y => ?_
  blk_simp
  rw [after0_4]; frame_out
  have ht : t.val < 16 := lt_of_lt_of_eq t.isLt N_0
  have b0 : (y 0 : ℕ) < 1024 := (y 0).isLt
  have hi : ((cfg0.win 4).blk t).view.emb y = ix2 (⟨t.val * 1024 + (y 0 : ℕ), by omega⟩ : Fin 16384) (y 1) := by
    blk_ext [idx t]
  rw [hi]
  exact (congrArg _ (eq_ix2 y)).trans (rest_point m c t (y 0) (y 1) _ rfl)

end Cert.Kernel8Ideal.Raw

end
-- ==== Proof.NormValue.lean ====
/-
  THE FIRST NORM'S VALUE. At exact arithmetic the array the first norm leaves is the stream divided by its root mean square over the
  columns and multiplied by the gain, with the batch's sequences one after the other.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference9Ideal.Norm

open Cert.Reference9Ideal Cert.Reference9Ideal.Gen

/-- The stream divided by its root mean square over the columns, times the gain. -/
def rmsNormed (a0 : FVec Ideal S2x8192x2048 .f32) (a1 : FVec Ideal S2048 .f32) : FVec Ideal S16384x2048 .bf16 :=
  truncf .bf16 (shapeCast _ (mulf (mulf a0 (broadcastInDim S2x8192x2048 ![0, 1, 2] bcast_S2x8192x1_S2x8192x2048_0_1_2
    (Host.rsqrt (addf (Host.divf (broadcastInDim S2x8192x1 ![0, 1] bcast_S2x8192_S2x8192x1_0_1
      (Host.reduceAdd (mulf a0 a0) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 a1)))
    shapeCasts_S2x8192x2048_S16384x2048) bitsLt_bf16_f32

end Cert.Reference9Ideal.Norm

namespace Cert.Kernel9Ideal.Norm

open Cert.Kernel9Ideal Cert.Kernel9Ideal.Gen
open Cert.Reference9Ideal.Norm (rmsNormed)

variable (m : (ℓ : Loc nD τ sig) → Buf (Elt Ideal) ℓ)

/-- Where each window's block sits at point `t`: the rows at `t`, the gain whole. -/
theorem idx : ∀ t : Fin cfg0.N, win0_0.index t = ![t.val, 0] ∧ win0_1.index t = ![0, 0] ∧ win0_2.index t = ![t.val, 0] :=
  (by decide +kernel : ∀ t : Fin grid0.N, _)

/-- The stream the call is given. -/
abbrev X (c : Dev nD) : S2x8192x2048.Idx → EReal := m ((c : Thread nD τ).loc main_arg0)
/-- The gain. -/
abbrev G (c : Dev nD) : S2048.Idx → EReal := m ((c : Thread nD τ).loc main_arg1)

/-- The call stages the stream with its sequences one after the other. -/
theorem staged0 (c : Dev nD) : V m c main_v0 = shapeCast S16384x2048 (m ((c : Thread nD τ).loc main_arg0)) shapeCasts_S2x8192x2048_S16384x2048 := by
  unfold V hostOps0
  after_results
  rfl

/-- The call stages the gain as one row. -/
theorem staged1 (c : Dev nD) : V m c main_v1 = shapeCast S1x2048 (m ((c : Thread nD τ).loc main_arg1)) shapeCasts_S2048_S1x2048 := by
  unfold V hostOps0
  after_results
  rfl

/-- Row `r` of the stream's block at point `t` is row `512 t + r` of the staged stream. -/
theorem rows (c : Dev nD) (t : Fin cfg0.N) (r : Fin 512) (k : Fin 2048) (R : Fin 16384) (hR : (R : ℕ) = t.val * 512 + r.val) :
    (iblk m c 0 t : S512x2048.Idx → EReal) (ix2 r k) = X m c (ix3 ⟨R.val / 8192, by omega⟩ ⟨R.val % 8192, by omega⟩ k) := by
  refine Eq.trans (b := (V m c main_v0 : S16384x2048.Idx → EReal) (ix2 R k)) (by blk_point [iblk, idx t, hR]) ?_
  rw [staged0 m c]
  change shapeCast S16384x2048 (X m c) _ (ix2 R k) = _
  generalize X m c = A
  pointwise

/-- The gain's block is the gain. -/
theorem gain (c : Dev nD) (t : Fin cfg0.N) (k : Fin 2048) :
    (iblk m c 1 t : S1x2048.Idx → EReal) (ix2 0 k) = G m c (ix1 k) := by
  refine Eq.trans (b := (V m c main_v1 : S1x2048.Idx → EReal) (ix2 0 k)) (by blk_point [iblk, idx t]) ?_
  rw [staged1 m c]
  change shapeCast S1x2048 (G m c) _ (ix2 0 k) = _
  generalize G m c = A
  pointwise

/-- What the body stores at block index `(r, l)` of point `t` is the value at the array index that sits at. -/
theorem point (c : Dev nD) (t : Fin cfg0.N) (r : Fin 512) (l : Fin 2048) (R : Fin 16384) (hR : (R : ℕ) = t.val * 512 + r.val) :
    k0_pay1 (F := Ideal) (iblk m c 0 t) (iblk m c 1 t) (ix2 r l) = rmsNormed (X m c) (G m c) (ix2 R l) := by
  have h0 := fun k => rows m c t r k R hR
  have h1 := fun k => gain m c t k
  generalize X m c = A at h0 ⊢
  generalize G m c = B at h1 ⊢
  generalize (iblk m c 0 t : S512x2048.Idx → EReal) = x at h0 ⊢
  generalize (iblk m c 1 t : S1x2048.Idx → EReal) = w at h1 ⊢
  pointwise [k0_pay1, rmsNormed, h0, h1]

/-- The call's array after the run. -/
theorem final (c : Dev nD) : (dats m 0 c).arrAt 2 (cfgs 0).N = rmsNormed (X m c) (G m c) := by
  refine (dats m 0 c).arrAt_eq_of_covers 2 _ (by decide +kernel) fun t _ y => ?_
  blk_simp
  rw [after0_2]; frame_out
  have ht : t.val < 32 := lt_of_lt_of_eq t.isLt N_0
  have b0 : (y 0 : ℕ) < 512 := (y 0).isLt
  have hi : ((cfg0.win 2).blk t).view.emb y = ix2 (⟨t.val * 512 + (y 0 : ℕ), by omega⟩ : Fin 16384) (y 1) := by
    blk_ext [idx t]
  rw [hi]
  exact (congrArg _ (eq_ix2 y)).trans (point m c t (y 0) (y 1) _ rfl)

end Cert.Kernel9Ideal.Norm

end
-- ==== Proof.CompressSum.lean ====
/-
  THE COMPRESSION'S HIDDEN LAYER. A block of a head is 32 rows of 128 columns, two chunks of 16 rows; the hidden layer is the sum, over the
  block's 4096 entries, of the entry plus its position's embedding times the weight. The call forms it from one product for each of
  the two chunks, with both heads' columns in the sum and a zero weight at the columns of the other head.
-/
module

public import Idealize.ShloMosaic.Lib.Pointwise

@[expose] public section

noncomputable section

open Idealize.ShloMosaic

namespace Cert.Compress

/-- Row `l` of block `n`: chunk `n` and then the next chunk, after the last chunk the first. -/
def row (b : Fin 2) (n : Fin 512) (l : Fin 32) : Fin 16384 :=
  ⟨b.val * 8192 + (n.val + l.val / 16) % 512 * 16 + l.val % 16, by have := b.isLt; have := l.isLt; omega⟩

/-- Row `l` of chunk `n`. -/
def chunkRow (b : Fin 2) (n : Fin 512) (l : Fin 16) : Fin 16384 :=
  ⟨(b.val * 512 + n.val) * 16 + l.val, by have := b.isLt; have := n.isLt; have := l.isLt; omega⟩

/-- The next chunk, after the last chunk the first. -/
def next (n : Fin 512) : Fin 512 := ⟨(n.val + 1) % 512, by omega⟩

/-- Column `d` of head `g`. -/
def col (g : Fin 2) (d : Fin 128) : Fin 256 := ⟨g.val * 128 + d.val, by have := g.isLt; have := d.isLt; omega⟩

/-- Entry `j` of the hidden layer of head `g` of block `n`. -/
def hiddenAt (A : Fin 16384 → Fin 256 → EReal) (P : Fin 32 → Fin 128 → EReal) (W : Fin 4096 → Fin 256 → EReal)
    (b : Fin 2) (n : Fin 512) (g : Fin 2) (j : Fin 256) : EReal :=
  ∑ k : Fin 4096, (A (row b n ⟨k.val / 128, by omega⟩) (col g ⟨k.val % 128, by omega⟩) + P ⟨k.val / 128, by omega⟩ ⟨k.val % 128, by omega⟩) * W k j

/-- One where the two heads are the same, zero elsewhere. -/
def same (h g : Fin 2) : EReal := if h = g then 1 else 0

/-- Where entry `k` of a head's chunk sits among both heads' entries. -/
def spread (g : Fin 2) (k : Fin 2048) : Fin 4096 := ⟨k.val / 128 * 256 + g.val * 128 + k.val % 128, by have := g.isLt; omega⟩

theorem spread_injective (g : Fin 2) : Function.Injective (spread g) := fun k k' h => by
  have h' : k.val / 128 * 256 + g.val * 128 + k.val % 128 = k'.val / 128 * 256 + g.val * 128 + k'.val % 128 := congrArg Fin.val h
  exact Fin.ext (by omega)

/-- A sum over both heads' entries with the other head's weights zero is the sum over the head's entries. -/
theorem sum_same (g : Fin 2) (f w : Fin 4096 → EReal) :
    ∑ q : Fin 4096, f q * (same ⟨q.val / 128 % 2, by omega⟩ g * w q) = ∑ k : Fin 2048, f (spread g k) * w (spread g k) := by
  refine (Finset.sum_of_injOn (spread g) (spread_injective g).injOn (fun _ _ => Finset.mem_coe.2 (Finset.mem_univ _)) (fun q _ hq => ?_) (fun k _ => ?_)).symm
  · have hne : ¬(⟨q.val / 128 % 2, by omega⟩ : Fin 2) = g := fun h => hq ⟨⟨q.val / 256 * 128 + q.val % 128, by omega⟩, Finset.mem_coe.2 (Finset.mem_univ _), by
      have h' : q.val / 128 % 2 = g.val := congrArg Fin.val h
      exact Fin.ext (by simp only [spread]; omega)⟩
    rw [same, if_neg hne, zero_mul, mul_zero]
  · have he : (⟨(spread g k).val / 128 % 2, by omega⟩ : Fin 2) = g := Fin.ext (by simp only [spread]; omega)
    rw [same, if_pos he, one_mul]

/-- The two chunks' sums make the hidden layer. -/
theorem hidden_eq (A : Fin 16384 → Fin 256 → EReal) (P : Fin 32 → Fin 128 → EReal) (W : Fin 4096 → Fin 256 → EReal)
    (b : Fin 2) (n : Fin 512) (g : Fin 2) (j : Fin 256) :
    (∑ q : Fin 4096, (A (chunkRow b n ⟨q.val / 256, by omega⟩) ⟨q.val % 256, by omega⟩ + P ⟨q.val / 256, by omega⟩ ⟨q.val % 128, by omega⟩) *
        (same ⟨q.val / 128 % 2, by omega⟩ g * W ⟨q.val / 256 * 128 + q.val % 128, by omega⟩ j)) +
      (∑ q : Fin 4096, (A (chunkRow b (next n) ⟨q.val / 256, by omega⟩) ⟨q.val % 256, by omega⟩ + P ⟨16 + q.val / 256, by omega⟩ ⟨q.val % 128, by omega⟩) *
        (same ⟨q.val / 128 % 2, by omega⟩ g * W ⟨2048 + (q.val / 256 * 128 + q.val % 128), by omega⟩ j)) = hiddenAt A P W b n g j := by
  have hg := g.isLt
  rw [sum_same g (fun q => A (chunkRow b n ⟨q.val / 256, by omega⟩) ⟨q.val % 256, by omega⟩ + P ⟨q.val / 256, by omega⟩ ⟨q.val % 128, by omega⟩)
      (fun q => W ⟨q.val / 256 * 128 + q.val % 128, by omega⟩ j),
    sum_same g (fun q => A (chunkRow b (next n) ⟨q.val / 256, by omega⟩) ⟨q.val % 256, by omega⟩ + P ⟨16 + q.val / 256, by omega⟩ ⟨q.val % 128, by omega⟩)
      (fun q => W ⟨2048 + (q.val / 256 * 128 + q.val % 128), by omega⟩ j)]
  refine Eq.trans ?_ (Fin.sum_univ_add (a := 2048) (b := 2048) (fun k : Fin 4096 =>
    (A (row b n ⟨k.val / 128, by omega⟩) (col g ⟨k.val % 128, by omega⟩) + P ⟨k.val / 128, by omega⟩ ⟨k.val % 128, by omega⟩) * W k j)).symm
  refine congrArg₂ (· + ·) (Finset.sum_congr rfl fun k _ => ?_) (Finset.sum_congr rfl fun k _ => ?_)
  · have hk := k.isLt
    refine congrArg₂ (· * ·) (congrArg₂ (· + ·) (congrArg₂ A (Fin.ext ?_) (Fin.ext ?_)) (congrArg₂ P (Fin.ext ?_) (Fin.ext ?_))) (congrArg₂ W (Fin.ext ?_) rfl)
    all_goals simp only [spread, chunkRow, row, col, next, Fin.val_castAdd, Fin.val_natAdd]; omega
  · have hk := k.isLt
    refine congrArg₂ (· * ·) (congrArg₂ (· + ·) (congrArg₂ A (Fin.ext ?_) (Fin.ext ?_)) (congrArg₂ P (Fin.ext ?_) (Fin.ext ?_))) (congrArg₂ W (Fin.ext ?_) rfl)
    all_goals simp only [spread, chunkRow, row, col, next, Fin.val_castAdd, Fin.val_natAdd]; omega

/-- The SiLU of an extended real. -/
def silu (h : EReal) : EReal := h * Ideal.div (Ideal.ofBits .f32 0x3F800000#32) (Ideal.ofBits .f32 0x3F800000#32 + Ideal.exp (-h))

/-- Entry `d` of the perceptron's result for head `g` of block `n`. -/
def entry (A : Fin 16384 → Fin 256 → EReal) (P : Fin 32 → Fin 128 → EReal) (W : Fin 4096 → Fin 256 → EReal) (W2 : Fin 256 → Fin 128 → EReal)
    (b : Fin 2) (n : Fin 512) (g : Fin 2) (d : Fin 128) : EReal :=
  ∑ j : Fin 256, silu (hiddenAt A P W b n g j) * W2 j d

/-- Entry `d` of a row of 128 divided by its root mean square, times the gain. -/
def rms (y : Fin 128 → EReal) (G : Fin 128 → EReal) (d : Fin 128) : EReal :=
  y d * Ideal.rsqrt (Ideal.div (∑ e : Fin 128, y e * y e) (Ideal.ofBits .f32 0x43000000#32) + Ideal.ofBits .f32 0x358637BD#32) * G d

end Cert.Compress

end
-- ==== Proof.CmpKeysRef.lean ====
/-
  THE COMPRESSED KEYS, THE REFERENCE'S SIDE. The reference's array, entry by entry: the two-layer perceptron of every block of 32 rows of a
  head, the position embedding added first, divided by its root mean square, times the gain.
-/
module

public import proofs.«01_k».proof.Proof.Gen.Reference10Ideal.Run
public import proofs.«01_k».proof.Proof.CompressSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference10Ideal.Comp

open Cert.Reference10Ideal Cert.Reference10Ideal.Gen
open Cert.Compress

/-- The rows by chunks of 16 and by heads. -/
def chunks (a0 : FVec Ideal S16384x256 .f32) : FVec Ideal S2x512x16x2x128 .f32 := shapeCast _ a0 shapeCasts_S16384x256_S2x512x16x2x128

/-- The next chunk of every chunk, after the last the first. -/
def nexts (a0 : FVec Ideal S16384x256 .f32) : FVec Ideal S2x512x16x2x128 .f32 :=
  concatenate S2x512x16x2x128 1 [⟨S2x511x16x2x128, extractStridedSlice S2x511x16x2x128 ![0, 1, 0, 0, 0] (chunks a0) slices_S2x512x16x2x128_S2x511x16x2x128_0_1_0_0_0⟩,
    ⟨S2x1x16x2x128, extractStridedSlice S2x1x16x2x128 ![0, 0, 0, 0, 0] (chunks a0) slices_S2x512x16x2x128_S2x1x16x2x128_0_0_0_0_0⟩]
    concatenates_S2x511x16x2x128_S2x1x16x2x128_S2x512x16x2x128_d1

/-- The blocks of 32 rows of each head, the position embedding added. -/
def blocks (a0 : FVec Ideal S16384x256 .f32) (a1 : FVec Ideal S32x128 .f32) : FVec Ideal S2x512x2x4096 .f32 :=
  shapeCast _ (transpose S2x512x2x32x128 [0, 1, 3, 2, 4] (addf (concatenate S2x512x32x2x128 2 [⟨S2x512x16x2x128, chunks a0⟩, ⟨S2x512x16x2x128, nexts a0⟩]
    concatenates_S2x512x16x2x128_S2x512x16x2x128_S2x512x32x2x128_d2)
    (broadcastInDim S2x512x32x2x128 ![0, 1, 2, 3, 4] bcast_S1x1x32x1x128_S2x512x32x2x128_0_1_2_3_4 (broadcastInDim S1x1x32x1x128 ![2, 4] bcast_S32x128_S1x1x32x1x128_2_4 a1)))
    transposes_S2x512x32x2x128_S2x512x2x32x128_0_1_3_2_4) shapeCasts_S2x512x2x32x128_S2x512x2x4096

/-- The hidden layer before its SiLU. -/
def hid (a0 : FVec Ideal S16384x256 .f32) (a1 : FVec Ideal S32x128 .f32) (a2 : FVec Ideal S4096x256 .f32) : FVec Ideal S2x512x2x256 .f32 :=
  Host.dotGeneral dot_S2x512x2x4096_S4096x256_S2x512x2x256_3_0_012_1_n_n none (blocks a0 a1) a2

/-- The second layer on the SiLU of the hidden layer. -/
def layer2 (h : FVec Ideal S2x512x2x256 .f32) (a3 : FVec Ideal S256x128 .f32) : FVec Ideal S2x512x2x128 .f32 :=
  Host.dotGeneral dot_S2x512x2x256_S256x128_S2x512x2x128_3_0_012_1_n_n none (mulf h
    (Host.divf (broadcastInDim S2x512x2x256 ![] bcast_S_S2x512x2x256 (constant S_ .f32 0x3F800000#32))
      (addf (broadcastInDim S2x512x2x256 ![] bcast_S_S2x512x2x256 (constant S_ .f32 0x3F800000#32)) (Host.exp (Host.negf h))))) a3

/-- The perceptron's result for each head of each block. -/
def perceptron (a0 : FVec Ideal S16384x256 .f32) (a1 : FVec Ideal S32x128 .f32) (a2 : FVec Ideal S4096x256 .f32) (a3 : FVec Ideal S256x128 .f32) :
    FVec Ideal S2x512x2x128 .f32 := layer2 (hid a0 a1 a2) a3

/-- Each head's row divided by its root mean square, times the gain. -/
def rmsRows (y : FVec Ideal S2x512x2x128 .f32) (a4 : FVec Ideal S128 .f32) : FVec Ideal S2x512x2x128 .f32 :=
  mulf (mulf y (broadcastInDim S2x512x2x128 ![0, 1, 2, 3] bcast_S2x512x2x1_S2x512x2x128_0_1_2_3
    (Host.rsqrt (addf (Host.divf (broadcastInDim S2x512x2x1 ![0, 1, 2] bcast_S2x512x2_S2x512x2x1_0_1_2
      (Host.reduceAdd (mulf y y) (constant S_ .f32 0x00000000#32) reducesTo_S2x512x2x128_S2x512x2_d3 h_S_))
      (broadcastInDim S2x512x2x1 ![] bcast_S_S2x512x2x1 (constant S_ .f32 0x43000000#32)))
      (broadcastInDim S2x512x2x1 ![] bcast_S_S2x512x2x1 (constant S_ .f32 0x358637BD#32))))))
    (broadcastInDim S2x512x2x128 ![0, 1, 2, 3] bcast_S1x1x1x128_S2x512x2x128_0_1_2_3 (broadcastInDim S1x1x1x128 ![3] bcast_S128_S1x1x1x128_3 a4))

/-- The compressed keys. -/
def comp (a0 : FVec Ideal S16384x256 .f32) (a1 : FVec Ideal S32x128 .f32) (a2 : FVec Ideal S4096x256 .f32) (a3 : FVec Ideal S256x128 .f32) (a4 : FVec Ideal S128 .f32) :
    FVec Ideal S2x512x256 .bf16 :=
  truncf .bf16 (shapeCast _ (rmsRows (perceptron a0 a1 a2 a3) a4) shapeCasts_S2x512x2x128_S2x512x256) bitsLt_bf16_f32

/-- An entry of a chunk. -/
theorem chunks_apply (a0 : FVec Ideal S16384x256 .f32) (b : Fin 2) (n : Fin 512) (l : Fin 16) (g : Fin 2) (d : Fin 128) :
    chunks a0 (ix5 b n l g d) = a0 (ix2 (chunkRow b n l) (col g d)) := by
  have hb := b.isLt; have hn := n.isLt; have hl := l.isLt; have hg := g.isLt; have hd := d.isLt
  pointwise [chunks]
  refine congrArg₂ (fun x y => a0 (ix2 x y)) (Fin.ext ?_) (Fin.ext ?_) <;> simp only [chunkRow, col] <;> omega

/-- An entry of the next chunk. -/
theorem nexts_apply (a0 : FVec Ideal S16384x256 .f32) (b : Fin 2) (n : Fin 512) (l : Fin 16) (g : Fin 2) (d : Fin 128) :
    nexts a0 (ix5 b n l g d) = a0 (ix2 (chunkRow b (next n) l) (col g d)) := by
  have hn := n.isLt
  pointwise [nexts, chunks_apply]
  split_ifs with h
  all_goals
    refine congrArg (fun x => a0 (ix2 (chunkRow b x l) (col g d))) (Fin.ext ?_)
    simp only [next]; omega

/-- Entry `k` of block `n` of head `g`. -/
theorem blocks_apply (a0 : FVec Ideal S16384x256 .f32) (a1 : FVec Ideal S32x128 .f32) (b : Fin 2) (n : Fin 512) (g : Fin 2) (k : Fin 4096) :
    blocks a0 a1 (ix4 b n g k) = a0 (ix2 (row b n ⟨k.val / 128, by omega⟩) (col g ⟨k.val % 128, by omega⟩)) + a1 (ix2 ⟨k.val / 128, by omega⟩ ⟨k.val % 128, by omega⟩) := by
  have hb := b.isLt; have hn := n.isLt; have hk := k.isLt
  pointwise [blocks, chunks_apply, nexts_apply]
  split_ifs with h
  all_goals
    refine congrArg₂ (· + ·) (congrArg (fun x => a0 (ix2 x _)) (Fin.ext ?_)) rfl
    simp only [chunkRow, next, row]; omega

/-- The hidden layer's entries. -/
theorem hid_apply (a0 : FVec Ideal S16384x256 .f32) (a1 : FVec Ideal S32x128 .f32) (a2 : FVec Ideal S4096x256 .f32) (b : Fin 2) (n : Fin 512) (g : Fin 2) (j : Fin 256) :
    hid a0 a1 a2 (ix4 b n g j) = hiddenAt (fun r q => a0 (ix2 r q)) (fun l d => a1 (ix2 l d)) (fun k j => a2 (ix2 k j)) b n g j := by
  unfold hiddenAt
  pointwise [hid, blocks_apply]

/-- The second layer's entries. -/
theorem layer2_apply (h : FVec Ideal S2x512x2x256 .f32) (a3 : FVec Ideal S256x128 .f32) (b : Fin 2) (n : Fin 512) (g : Fin 2) (d : Fin 128) :
    layer2 h a3 (ix4 b n g d) = ∑ j : Fin 256, silu (h (ix4 b n g j)) * a3 (ix2 j d) := by
  unfold silu
  pointwise [layer2]

/-- The perceptron's entries. -/
theorem perceptron_apply (a0 : FVec Ideal S16384x256 .f32) (a1 : FVec Ideal S32x128 .f32) (a2 : FVec Ideal S4096x256 .f32) (a3 : FVec Ideal S256x128 .f32)
    (b : Fin 2) (n : Fin 512) (g : Fin 2) (d : Fin 128) :
    perceptron a0 a1 a2 a3 (ix4 b n g d) = entry (fun r q => a0 (ix2 r q)) (fun l d => a1 (ix2 l d)) (fun k j => a2 (ix2 k j)) (fun j d => a3 (ix2 j d)) b n g d := by
  rw [perceptron, layer2_apply, entry]
  exact Finset.sum_congr rfl fun j _ => by rw [hid_apply]

/-- The normed rows' entries. -/
theorem rmsRows_apply (y : FVec Ideal S2x512x2x128 .f32) (a4 : FVec Ideal S128 .f32) (b : Fin 2) (n : Fin 512) (g : Fin 2) (d : Fin 128) :
    rmsRows y a4 (ix4 b n g d) = rms (fun e => y (ix4 b n g e)) (fun e => a4 (ix1 e)) d := by
  unfold rms
  pointwise [rmsRows]

/-- The compressed keys' entries. -/
theorem comp_apply (a0 : FVec Ideal S16384x256 .f32) (a1 : FVec Ideal S32x128 .f32) (a2 : FVec Ideal S4096x256 .f32) (a3 : FVec Ideal S256x128 .f32) (a4 : FVec Ideal S128 .f32)
    (b : Fin 2) (n : Fin 512) (g : Fin 2) (d : Fin 128) (l : Fin 256) (hl : (l : ℕ) = g.val * 128 + d.val) :
    comp a0 a1 a2 a3 a4 (ix3 b n l) = rms (entry (fun r q => a0 (ix2 r q)) (fun l d => a1 (ix2 l d)) (fun k j => a2 (ix2 k j)) (fun j d => a3 (ix2 j d)) b n g) (fun e => a4 (ix1 e)) d := by
  have e : rmsRows (perceptron a0 a1 a2 a3) a4 (ix4 b n g d) = rms (entry (fun r q => a0 (ix2 r q)) (fun l d => a1 (ix2 l d)) (fun k j => a2 (ix2 k j)) (fun j d => a3 (ix2 j d)) b n g) (fun e => a4 (ix1 e)) d := by
    rw [rmsRows_apply]
    exact congrArg (fun y => rms y _ d) (funext fun e => perceptron_apply a0 a1 a2 a3 b n g e)
  rw [← e]
  unfold comp
  generalize rmsRows (perceptron a0 a1 a2 a3) a4 = y
  have hb := b.isLt; have hn := n.isLt; have hg := g.isLt; have hd := d.isLt
  have hlt : g.val * 128 + d.val < 256 := by omega
  obtain rfl : l = ⟨g.val * 128 + d.val, hlt⟩ := Fin.ext hl
  pointwise

/-- The reference's run leaves the compressed keys. -/
theorem res_eq (m : (ℓ : Loc nD τ sig) → Buf (Elt Ideal) ℓ) (c : Dev nD) : Cert.Reference10Ideal.Value.res_out0 m c
    = comp (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Reference10Ideal.Comp

end
-- ==== Proof.CmpKeysCall.lean ====
/-
  THE COMPRESSED KEYS, THE CALL'S SIDE. What one point's body forms: the hidden layer of both heads from two products over both heads'
  columns, one for each chunk of 16 rows, the second rolled up by one row; and each head's second layer.
-/
module

public import proofs.«01_k».proof.Proof.Gen.Kernel10Ideal.Frame
public import proofs.«01_k».proof.Proof.CompressSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Kernel10Ideal.Comp

open Cert.Kernel10Ideal Cert.Kernel10Ideal.Gen
open Cert.Compress

/-- The table of ones where the two heads are the same. -/
def eye : FVec Ideal S2x2 .f32 :=
  uitofp .f32 (cmpi .eq (addi (iotaInDim S2x2 32 0) (broadcastInDim S2x2 ![] bcast_S_S2x2 (constantI S_ 32 0#32))) (iotaInDim S2x2 32 1))

theorem eye_apply (h g : Fin 2) : eye (ix2 h g) = same h g := by
  unfold same
  pointwise [eye]
  fin_cases h <;> fin_cases g <;> simp [FloatOps.uitofp, IntOp.cmpi, IntOp.addi]

/-- A chunk's weights for both heads' columns, zero from a head's columns to the other head. -/
def expand (w : FVec Ideal S16x128x256 .f32) : FVec Ideal S4096x512 .bf16 :=
  truncf .bf16 (shapeCast S4096x512 (mulf (broadcastInDim S16x2x128x2x256 ![0, 1, 2, 3, 4] bcast_S16x1x128x1x256_S16x2x128x2x256_0_1_2_3_4
      (broadcastInDim S16x1x128x1x256 ![0, 2, 4] bcast_S16x128x256_S16x1x128x1x256_0_2_4 w))
    (broadcastInDim S16x2x128x2x256 ![0, 1, 2, 3, 4] bcast_S1x2x1x2x1_S16x2x128x2x256_0_1_2_3_4 (broadcastInDim S1x2x1x2x1 ![1, 3] bcast_S2x2_S1x2x1x2x1_1_3 eye)))
    shapeCasts_S16x2x128x2x256_S4096x512) bitsLt_bf16_f32

theorem expand_apply (w : FVec Ideal S16x128x256 .f32) (q : Fin 4096) (g : Fin 2) (j : Fin 256) (c : Fin 512) (hc : (c : ℕ) = g.val * 256 + j.val) :
    expand w (ix2 q c) = same ⟨q.val / 128 % 2, by omega⟩ g * w (ix3 ⟨q.val / 256, by omega⟩ ⟨q.val % 128, by omega⟩ j) := by
  have hq := q.isLt; have hj := j.isLt; have hg := g.isLt
  have hlt : g.val * 256 + j.val < 512 := by omega
  obtain rfl : c = ⟨g.val * 256 + j.val, hlt⟩ := Fin.ext hc
  refine Eq.trans ?_ (mul_comm _ _)
  pointwise [expand, eye_apply]

/-- A chunk's position embedding for both heads' columns. -/
def spreadPe (p : FVec Ideal S16x128 .f32) : FVec Ideal S1x4096 .f32 :=
  shapeCast S1x4096 (broadcastInDim S16x2x128 ![0, 1, 2] bcast_S16x1x128_S16x2x128_0_1_2 (broadcastInDim S16x1x128 ![0, 2] bcast_S16x128_S16x1x128_0_2 p)) shapeCasts_S16x2x128_S1x4096

theorem spreadPe_apply (p : FVec Ideal S16x128 .f32) (q : Fin 4096) :
    spreadPe p (ix2 0 q) = p (ix2 ⟨q.val / 256, by omega⟩ ⟨q.val % 128, by omega⟩) := by
  have hq := q.isLt
  pointwise [spreadPe]

/-- The hidden layer as the call forms it, before its SiLU. -/
def pre (x0 : Vec Ideal S512x4096 .f32) (x1 : Vec Ideal S1x4096 .f32) (x3 : Vec Ideal S4096x512 .bf16) (x2 : Vec Ideal S1x4096 .f32) (x4 : Vec Ideal S4096x512 .bf16) : FVec Ideal S512x512 .f32 :=
  addf (matmul (φ₁ := .bf16) (φ₂ := .bf16) dot_S512x4096_S4096x512_S512x512_1_0_0_1_n_n none (truncf .bf16 (addf (φ := .f32) (shapeCast S512x4096 x0 shapeCasts_S512x4096_S512x4096)
      (broadcastTo S512x4096 (shapeCast S1x4096 x1 shapeCasts_S1x4096_S1x4096) broadcasts_S1x4096_S512x4096)) bitsLt_bf16_f32)
      (shapeCast S4096x512 x3 shapeCasts_S4096x512_S4096x512) (constant S512x512 .f32 0x00000000#32))
    (dynamicRotate 0 511#32 none (matmul (φ₁ := .bf16) (φ₂ := .bf16) dot_S512x4096_S4096x512_S512x512_1_0_0_1_n_n none (truncf .bf16 (addf (φ := .f32) (shapeCast S512x4096 x0 shapeCasts_S512x4096_S512x4096)
      (broadcastTo S512x4096 (shapeCast S1x4096 x2 shapeCasts_S1x4096_S1x4096) broadcasts_S1x4096_S512x4096)) bitsLt_bf16_f32)
      (shapeCast S4096x512 x4 shapeCasts_S4096x512_S4096x512) (constant S512x512 .f32 0x00000000#32)) rotates_S512x512_d0)

/-- Its entry for head `g` is the hidden layer's. -/
theorem pre_apply (A : Fin 16384 → Fin 256 → EReal) (P : Fin 32 → Fin 128 → EReal) (W : Fin 4096 → Fin 256 → EReal) (b : Fin 2)
    (x0 : Vec Ideal S512x4096 .f32) (x1 : Vec Ideal S1x4096 .f32) (x3 : Vec Ideal S4096x512 .bf16) (x2 : Vec Ideal S1x4096 .f32) (x4 : Vec Ideal S4096x512 .bf16)
    (h0 : ∀ (n : Fin 512) (q : Fin 4096), x0 (ix2 n q) = A (chunkRow b n ⟨q.val / 256, by omega⟩) ⟨q.val % 256, by omega⟩)
    (h1 : ∀ q : Fin 4096, x1 (ix2 0 q) = P ⟨q.val / 256, by omega⟩ ⟨q.val % 128, by omega⟩)
    (h2 : ∀ q : Fin 4096, x2 (ix2 0 q) = P ⟨16 + q.val / 256, by omega⟩ ⟨q.val % 128, by omega⟩)
    (h3 : ∀ (q : Fin 4096) (g : Fin 2) (j : Fin 256) (c : Fin 512), (c : ℕ) = g.val * 256 + j.val →
      x3 (ix2 q c) = same ⟨q.val / 128 % 2, by omega⟩ g * W ⟨q.val / 256 * 128 + q.val % 128, by omega⟩ j)
    (h4 : ∀ (q : Fin 4096) (g : Fin 2) (j : Fin 256) (c : Fin 512), (c : ℕ) = g.val * 256 + j.val →
      x4 (ix2 q c) = same ⟨q.val / 128 % 2, by omega⟩ g * W ⟨2048 + (q.val / 256 * 128 + q.val % 128), by omega⟩ j)
    (n : Fin 512) (g : Fin 2) (j : Fin 256) (c : Fin 512) (hc : (c : ℕ) = g.val * 256 + j.val) :
    pre x0 x1 x3 x2 x4 (ix2 n c) = hiddenAt A P W b n g j := by
  have e3 := fun q => h3 q g j c hc
  have e4 := fun q => h4 q g j c hc
  rw [← hidden_eq]
  pointwise [pre, h0, h1, h2, e3, e4]
  have hn := n.isLt
  have e : (⟨(n.val + 512 - 511) % 512, Nat.mod_lt _ (by decide)⟩ : Fin 512) = next n := Fin.ext (by simp only [next]; omega)
  simp only [e]

/-- The SiLU of a block. -/
def act (h : FVec Ideal S512x512 .f32) : FVec Ideal S512x512 .bf16 :=
  truncf .bf16 (mulf h (divf (broadcast S512x512 (Scalar.ofBits (F := Ideal) .f32 0x3F800000#32)) (addf (broadcast S512x512 (Scalar.ofBits (F := Ideal) .f32 0x3F800000#32))
    (exp (subf (broadcast S512x512 (Scalar.ofBits (F := Ideal) .f32 0x00000000#32)) h))))) bitsLt_bf16_f32

theorem act_apply (h : FVec Ideal S512x512 .f32) (n c : Fin 512) : act h (ix2 n c) = silu (h (ix2 n c)) := by
  unfold silu
  pointwise [act]
  rw [sub_eq_add_neg, zero_add]

/-- The SiLU's entries as the call forms them. -/
theorem silu_apply (A : Fin 16384 → Fin 256 → EReal) (P : Fin 32 → Fin 128 → EReal) (W : Fin 4096 → Fin 256 → EReal) (b : Fin 2)
    (x0 : Vec Ideal S512x4096 .f32) (x1 : Vec Ideal S1x4096 .f32) (x3 : Vec Ideal S4096x512 .bf16) (x2 : Vec Ideal S1x4096 .f32) (x4 : Vec Ideal S4096x512 .bf16)
    (h0 : ∀ (n : Fin 512) (q : Fin 4096), x0 (ix2 n q) = A (chunkRow b n ⟨q.val / 256, by omega⟩) ⟨q.val % 256, by omega⟩)
    (h1 : ∀ q : Fin 4096, x1 (ix2 0 q) = P ⟨q.val / 256, by omega⟩ ⟨q.val % 128, by omega⟩)
    (h2 : ∀ q : Fin 4096, x2 (ix2 0 q) = P ⟨16 + q.val / 256, by omega⟩ ⟨q.val % 128, by omega⟩)
    (h3 : ∀ (q : Fin 4096) (g : Fin 2) (j : Fin 256) (c : Fin 512), (c : ℕ) = g.val * 256 + j.val →
      x3 (ix2 q c) = same ⟨q.val / 128 % 2, by omega⟩ g * W ⟨q.val / 256 * 128 + q.val % 128, by omega⟩ j)
    (h4 : ∀ (q : Fin 4096) (g : Fin 2) (j : Fin 256) (c : Fin 512), (c : ℕ) = g.val * 256 + j.val →
      x4 (ix2 q c) = same ⟨q.val / 128 % 2, by omega⟩ g * W ⟨2048 + (q.val / 256 * 128 + q.val % 128), by omega⟩ j)
    (n : Fin 512) (g : Fin 2) (j : Fin 256) (c : Fin 512) (hc : (c : ℕ) = g.val * 256 + j.val) :
    k0_pay3 x0 x1 x3 x2 x4 (ix2 n c) = silu (hiddenAt A P W b n g j) := by
  rw [show k0_pay3 x0 x1 x3 x2 x4 = act (pre x0 x1 x3 x2 x4) from rfl, act_apply, pre_apply A P W b x0 x1 x3 x2 x4 h0 h1 h2 h3 h4 n g j c hc]

/-- The first head's second layer as the call forms it. -/
def lowDot (a : FVec Ideal S512x512 .bf16) (w : Vec Ideal S256x128 .bf16) : FVec Ideal S512x128 .f32 :=
  matmul dot_S512x256_S256x128_S512x128_1_0_0_1_n_n none (extractStridedSlice S512x256 ![0, 0] a slices_S512x512_o0_0_S512x256)
    (shapeCast S256x128 w shapeCasts_S256x128_S256x128 : FVec Ideal S256x128 .bf16) (constant S512x128 .f32 0x00000000#32)

theorem lowDot_apply (a : FVec Ideal S512x512 .bf16) (w : Vec Ideal S256x128 .bf16) (n : Fin 512) (d : Fin 128) :
    lowDot a w (ix2 n d) = ∑ j : Fin 256, a (ix2 n ⟨j.val, by omega⟩) * w (ix2 j d) := by
  pointwise [lowDot]

/-- The mean of a row's squares. -/
def meanSq (y : FVec Ideal S512x128 .f32) : FVec Ideal S512x1 .f32 :=
  divf (shapeCast S512x1 (multiReduction .add [1] S512 (mulf y y) 0x00000000#32 reduces_S512x128_S512 (.inl rfl) rfl) shapeCasts_S512_S512x1)
    (broadcast S512x1 (Scalar.ofBits (F := Ideal) .f32 0x43000000#32))

theorem low_apply (y : FVec Ideal S512x128 .f32) (g : Vec Ideal S1x128 .f32) (n : Fin 512) (d : Fin 128) :
    k0_pay1 y (meanSq y) g (ix3 0 n d) = rms (fun e => y (ix2 n e)) (fun e => g (ix2 0 e)) d := by
  unfold rms
  pointwise [k0_pay1, meanSq]

theorem high_apply (a : FVec Ideal S512x512 .bf16) (w : Vec Ideal S256x128 .bf16) (g : Vec Ideal S1x128 .f32) (n : Fin 512) (d : Fin 128) :
    k0_pay2 a w g (ix3 0 n d) = rms (fun e => ∑ j : Fin 256, a (ix2 n ⟨256 + j.val, by omega⟩) * w (ix2 j e)) (fun e => g (ix2 0 e)) d := by
  unfold rms
  pointwise [k0_pay2]

end Cert.Kernel10Ideal.Comp

end
-- ==== Proof.CmpKeysValue.lean ====
/-
  THE COMPRESSED KEYS' VALUE. At exact arithmetic the array the call leaves is the reference's: the two-layer perceptron of every block of
  32 rows of a head, the position embedding added first, divided by its root mean square, times the gain.
-/
module

public import proofs.«01_k».proof.Proof.Gen.Kernel10Ideal.Value
public import proofs.«01_k».proof.Proof.CmpKeysRef
public import proofs.«01_k».proof.Proof.CmpKeysCall
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Kernel10Ideal.Comp

open Cert.Kernel10Ideal Cert.Kernel10Ideal.Gen
open Cert.Compress
open Cert.Reference10Ideal.Comp (comp comp_apply)

variable (m : (ℓ : Loc nD τ sig) → Buf (Elt Ideal) ℓ)

/-- Where each window's block sits at point `t`: the rows and the result at `t`, the embeddings, weights and gain whole. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] :=
  (by decide +kernel : ∀ t : Fin grid0.N, _)

/-- The rows the call is given. -/
abbrev X (c : Dev nD) : S16384x256.Idx → EReal := m ((c : Thread nD τ).loc main_arg0)
/-- The position embedding. -/
abbrev E (c : Dev nD) : S32x128.Idx → EReal := m ((c : Thread nD τ).loc main_arg1)
/-- The first layer's weights. -/
abbrev W (c : Dev nD) : S4096x256.Idx → EReal := m ((c : Thread nD τ).loc main_arg2)
/-- The second layer's weights. -/
abbrev W2 (c : Dev nD) : S256x128.Idx → EReal := m ((c : Thread nD τ).loc main_arg3)
/-- The gain. -/
abbrev G (c : Dev nD) : S128.Idx → EReal := m ((c : Thread nD τ).loc main_arg4)

/-- The call stages each chunk of 16 rows as one row. -/
theorem staged0 (c : Dev nD) : V m c main_v0 = shapeCast S1024x4096 (m ((c : Thread nD τ).loc main_arg0)) shapeCasts_S16384x256_S1024x4096 := by
  unfold V hostOps0
  after_results
  rfl

set_option maxHeartbeats 2000000 in
/-- The call stages the first chunk's position embedding for both heads. -/
theorem staged1 (c : Dev nD) : V m c main_v11 = spreadPe (extractStridedSlice S16x128 ![0, 0] (m ((c : Thread nD τ).loc main_arg1)) slices_S32x128_S16x128_0_0) := by
  unfold V hostOps0
  after_results
  rfl

set_option maxHeartbeats 2000000 in
/-- The call stages the second chunk's position embedding for both heads. -/
theorem staged2 (c : Dev nD) : V m c main_v15 = spreadPe (extractStridedSlice S16x128 ![16, 0] (m ((c : Thread nD τ).loc main_arg1)) slices_S32x128_S16x128_16_0) := by
  unfold V hostOps0
  after_results
  rfl

set_option maxHeartbeats 2000000 in
/-- The call stages the first chunk's weights for both heads. -/
theorem staged3 (c : Dev nD) : V m c main_v23 = expand (extractStridedSlice S16x128x256 ![0, 0, 0] (shapeCast S32x128x256 (m ((c : Thread nD τ).loc main_arg2)) shapeCasts_S4096x256_S32x128x256) slices_S32x128x256_S16x128x256_0_0_0) := by
  unfold V hostOps0
  after_results
  rfl

set_option maxHeartbeats 2000000 in
/-- The call stages the second chunk's weights for both heads. -/
theorem staged4 (c : Dev nD) : V m c main_v31 = expand (extractStridedSlice S16x128x256 ![16, 0, 0] (shapeCast S32x128x256 (m ((c : Thread nD τ).loc main_arg2)) shapeCasts_S4096x256_S32x128x256) slices_S32x128x256_S16x128x256_16_0_0) := by
  unfold V hostOps0
  after_results
  rfl

set_option maxHeartbeats 2000000 in
/-- The call stages the second layer's weights. -/
theorem staged5 (c : Dev nD) : V m c main_v33 = (truncf .bf16 (m ((c : Thread nD τ).loc main_arg3) : FVec Ideal S256x128 .f32) bitsLt_bf16_f32 : FVec Ideal S256x128 .bf16) := by
  unfold V hostOps0
  after_results

set_option maxHeartbeats 2000000 in
/-- The call stages the gain as one row. -/
theorem staged6 (c : Dev nD) : V m c main_v32 = shapeCast S1x128 (m ((c : Thread nD τ).loc main_arg4)) shapeCasts_S128_S1x128 := by
  unfold V hostOps0
  after_results
  rfl

/-- The rows' block: one sequence's chunks. -/
theorem rows (c : Dev nD) (t : Fin cfg0.N) (b : Fin 2) (hb : b.val = t.val) (n : Fin 512) (q : Fin 4096) :
    (iblk m c 0 t : S512x4096.Idx → EReal) (ix2 n q) = X m c (ix2 (chunkRow b n ⟨q.val / 256, by omega⟩) ⟨q.val % 256, by omega⟩) := by
  have hb' := b.isLt; have hn := n.isLt; have hq := q.isLt
  have hR : ((⟨b.val * 512 + n.val, by omega⟩ : Fin 1024) : ℕ) = t.val * 512 + n.val := by rw [← hb]
  refine Eq.trans (b := (V m c main_v0 : S1024x4096.Idx → EReal) (ix2 ⟨b.val * 512 + n.val, by omega⟩ q)) (by blk_point [iblk, idx t, hR, hb]) ?_
  rw [staged0 m c]
  change shapeCast S1024x4096 (X m c) _ (ix2 _ q) = _
  generalize X m c = A
  pointwise
  refine congrArg₂ (fun x y => A (ix2 x y)) (Fin.ext ?_) (Fin.ext ?_) <;> simp only [chunkRow] <;> omega

/-- The first chunk's position embedding. -/
theorem emb1 (c : Dev nD) (t : Fin cfg0.N) (q : Fin 4096) :
    (iblk m c 1 t : S1x4096.Idx → EReal) (ix2 0 q) = E m c (ix2 ⟨q.val / 256, by omega⟩ ⟨q.val % 128, by omega⟩) := by
  have hq := q.isLt
  refine Eq.trans (b := (V m c main_v11 : S1x4096.Idx → EReal) (ix2 0 q)) (by blk_point [iblk, idx t]) ?_
  rw [staged1 m c]
  change spreadPe (extractStridedSlice S16x128 ![0, 0] (E m c) _) (ix2 0 q) = _
  generalize E m c = A
  rw [spreadPe_apply]
  pointwise

/-- The second chunk's position embedding. -/
theorem emb2 (c : Dev nD) (t : Fin cfg0.N) (q : Fin 4096) :
    (iblk m c 2 t : S1x4096.Idx → EReal) (ix2 0 q) = E m c (ix2 ⟨16 + q.val / 256, by omega⟩ ⟨q.val % 128, by omega⟩) := by
  have hq := q.isLt
  refine Eq.trans (b := (V m c main_v15 : S1x4096.Idx → EReal) (ix2 0 q)) (by blk_point [iblk, idx t]) ?_
  rw [staged2 m c]
  change spreadPe (extractStridedSlice S16x128 ![16, 0] (E m c) _) (ix2 0 q) = _
  generalize E m c = A
  rw [spreadPe_apply]
  pointwise

/-- The first chunk's weights. -/
theorem weights3 (c : Dev nD) (t : Fin cfg0.N) (q : Fin 4096) (g : Fin 2) (j : Fin 256) (k : Fin 512) (hk : (k : ℕ) = g.val * 256 + j.val) :
    (iblk m c 3 t : S4096x512.Idx → EReal) (ix2 q k) = same ⟨q.val / 128 % 2, by omega⟩ g * W m c (ix2 ⟨q.val / 256 * 128 + q.val % 128, by omega⟩ j) := by
  have hq := q.isLt
  refine Eq.trans (b := (V m c main_v23 : S4096x512.Idx → EReal) (ix2 q k)) (by blk_point [iblk, idx t]) ?_
  rw [staged3 m c]
  change expand (extractStridedSlice S16x128x256 ![0, 0, 0] (shapeCast S32x128x256 (W m c) _) _) (ix2 q k) = _
  generalize W m c = A
  rw [expand_apply _ q g j k hk]
  refine congrArg₂ (· * ·) rfl ?_
  pointwise

/-- The second chunk's weights. -/
theorem weights4 (c : Dev nD) (t : Fin cfg0.N) (q : Fin 4096) (g : Fin 2) (j : Fin 256) (k : Fin 512) (hk : (k : ℕ) = g.val * 256 + j.val) :
    (iblk m c 4 t : S4096x512.Idx → EReal) (ix2 q k) = same ⟨q.val / 128 % 2, by omega⟩ g * W m c (ix2 ⟨2048 + (q.val / 256 * 128 + q.val % 128), by omega⟩ j) := by
  have hq := q.isLt
  refine Eq.trans (b := (V m c main_v31 : S4096x512.Idx → EReal) (ix2 q k)) (by blk_point [iblk, idx t]) ?_
  rw [staged4 m c]
  change expand (extractStridedSlice S16x128x256 ![16, 0, 0] (shapeCast S32x128x256 (W m c) _) _) (ix2 q k) = _
  generalize W m c = A
  rw [expand_apply _ q g j k hk]
  refine congrArg₂ (· * ·) rfl ?_
  pointwise
  refine congrArg (fun x => A (ix2 x j)) (Fin.ext ?_)
  simp only []; omega

/-- The second layer's weights. -/
theorem weights5 (c : Dev nD) (t : Fin cfg0.N) (j : Fin 256) (d : Fin 128) :
    (iblk m c 5 t : S256x128.Idx → EReal) (ix2 j d) = W2 m c (ix2 j d) := by
  refine Eq.trans (b := (V m c main_v33 : S256x128.Idx → EReal) (ix2 j d)) (by blk_point [iblk, idx t]) ?_
  rw [staged5 m c]
  rfl

/-- The gain's block is the gain. -/
theorem gain (c : Dev nD) (t : Fin cfg0.N) (k : Fin 128) :
    (iblk m c 6 t : S1x128.Idx → EReal) (ix2 0 k) = G m c (ix1 k) := by
  refine Eq.trans (b := (V m c main_v32 : S1x128.Idx → EReal) (ix2 0 k)) (by blk_point [iblk, idx t]) ?_
  rw [staged6 m c]
  change shapeCast S1x128 (G m c) _ (ix2 0 k) = _
  generalize G m c = A
  pointwise

/-- Loading a whole block is the block. -/
theorem ld0 (x : Vec Ideal S512x4096 .f32) : View.ld x r0_0 = x := View.ld_unit_zero (by funext a; fin_cases a <;> rfl) _ x
theorem ld1 (x : Vec Ideal S1x4096 .f32) : View.ld x r0_1 = x := View.ld_unit_zero (by funext a; fin_cases a <;> rfl) _ x
theorem ld2 (x : Vec Ideal S4096x512 .bf16) : View.ld x r0_2 = x := View.ld_unit_zero (by funext a; fin_cases a <;> rfl) _ x
theorem ld3 (x : Vec Ideal S256x128 .bf16) : View.ld x r0_3 = x := View.ld_unit_zero (by funext a; fin_cases a <;> rfl) _ x
theorem ld4 (x : Vec Ideal S1x128 .f32) : View.ld x r0_4 = x := View.ld_unit_zero (by funext a; fin_cases a <;> rfl) _ x
/-- The first head's payload. -/
theorem piece0 (c : Dev nD) (t : Fin cfg0.N) (b : Fin 2) (hb : b.val = t.val) (n : Fin 512) (d : Fin 128) :
    k0_pay1 (F := Ideal) (k0_pay4 (iblk m c 0 t) (iblk m c 1 t) (iblk m c 3 t) (iblk m c 2 t) (iblk m c 4 t) (iblk m c 5 t))
      (k0_pay5 (iblk m c 0 t) (iblk m c 1 t) (iblk m c 3 t) (iblk m c 2 t) (iblk m c 4 t) (iblk m c 5 t)) (iblk m c 6 t) (ix3 0 n d)
      = rms (entry (fun r q => X m c (ix2 r q)) (fun l d => E m c (ix2 l d)) (fun k j => W m c (ix2 k j)) (fun j d => W2 m c (ix2 j d)) b n 0) (fun e => G m c (ix1 e)) d := by
  refine (low_apply (lowDot (k0_pay3 (F := Ideal) (iblk m c 0 t) (iblk m c 1 t) (iblk m c 3 t) (iblk m c 2 t) (iblk m c 4 t)) (iblk m c 5 t)) (iblk m c 6 t) n d).trans ?_
  refine congrArg₂ (fun y g => rms y g d) (funext fun e => ?_) (funext fun e => gain m c t e)
  rw [lowDot_apply, entry]
  refine Finset.sum_congr rfl fun j _ => congrArg₂ (· * ·) ?_ (weights5 m c t j e)
  exact silu_apply (fun r q => X m c (ix2 r q)) (fun l d => E m c (ix2 l d)) (fun k j => W m c (ix2 k j)) b _ _ _ _ _ (rows m c t b hb) (emb1 m c t) (emb2 m c t) (weights3 m c t) (weights4 m c t) n 0 j _ (by simp)

/-- The second head's payload. -/
theorem piece1 (c : Dev nD) (t : Fin cfg0.N) (b : Fin 2) (hb : b.val = t.val) (n : Fin 512) (d : Fin 128) :
    k0_pay2 (F := Ideal) (k0_pay3 (F := Ideal) (iblk m c 0 t) (iblk m c 1 t) (iblk m c 3 t) (iblk m c 2 t) (iblk m c 4 t)) (iblk m c 5 t) (iblk m c 6 t) (ix3 0 n d) = rms (entry (fun r q => X m c (ix2 r q)) (fun l d => E m c (ix2 l d)) (fun k j => W m c (ix2 k j)) (fun j d => W2 m c (ix2 j d)) b n 1) (fun e => G m c (ix1 e)) d := by
  refine (high_apply (k0_pay3 (F := Ideal) (iblk m c 0 t) (iblk m c 1 t) (iblk m c 3 t) (iblk m c 2 t) (iblk m c 4 t)) (iblk m c 5 t) (iblk m c 6 t) n d).trans ?_
  refine congrArg₂ (fun y g => rms y g d) (funext fun e => ?_) (funext fun e => gain m c t e)
  rw [entry]
  refine Finset.sum_congr rfl fun j _ => congrArg₂ (· * ·) ?_ (weights5 m c t j e)
  exact silu_apply (fun r q => X m c (ix2 r q)) (fun l d => E m c (ix2 l d)) (fun k j => W m c (ix2 k j)) b _ _ _ _ _ (rows m c t b hb) (emb1 m c t) (emb2 m c t) (weights3 m c t) (weights4 m c t) n 1 j _ (by simp)

/-- What the body leaves at `y` of point `t`. -/
theorem left_at (c : Dev nD) (t : Fin cfg0.N) (b : Fin 2) (hb : b.val = t.val) (y : S1x512x256.Idx) :
    out0_7 (iblk m c 0 t) (iblk m c 1 t) (iblk m c 2 t) (iblk m c 3 t) (iblk m c 4 t) (iblk m c 5 t) (iblk m c 6 t) y
      = comp (X m c) (E m c) (W m c) (W2 m c) (G m c) (ix3 b (y 1) (y 2)) := by
  unfold out0_7
  rw [ld0, ld1, ld1, ld2, ld2, ld3, ld4]
  canon_tiles x h
  · have e : x = ix3 (0 : Fin 1) (x 1) (x 2) := (eq_ix3 x).trans (congrArg (fun i : Fin 1 => ix3 i (x 1) (x 2)) (Subsingleton.elim (α := Fin 1) _ _))
    have e1 : (x 1 : Fin 512) = y 1 := Fin.ext h1.symm
    exact (congrArg _ e).trans ((piece1 m c t b hb (x 1) (x 2)).trans ((congrArg (fun n : Fin 512 => rms (entry (fun r q => X m c (ix2 r q)) (fun l d => E m c (ix2 l d)) (fun k j => W m c (ix2 k j)) (fun j d => W2 m c (ix2 j d)) b n 1) (fun e => G m c (ix1 e)) (x 2)) e1).trans
      (comp_apply (X m c) (E m c) (W m c) (W2 m c) (G m c) b (y 1) 1 (x 2) (y 2) (h2.trans (by show _ = 1 * 128 + _; omega))).symm))
  · have e : x = ix3 (0 : Fin 1) (x 1) (x 2) := (eq_ix3 x).trans (congrArg (fun i : Fin 1 => ix3 i (x 1) (x 2)) (Subsingleton.elim (α := Fin 1) _ _))
    have e1 : (x 1 : Fin 512) = y 1 := Fin.ext h1.symm
    exact (congrArg _ e).trans ((piece0 m c t b hb (x 1) (x 2)).trans ((congrArg (fun n : Fin 512 => rms (entry (fun r q => X m c (ix2 r q)) (fun l d => E m c (ix2 l d)) (fun k j => W m c (ix2 k j)) (fun j d => W2 m c (ix2 j d)) b n 0) (fun e => G m c (ix1 e)) (x 2)) e1).trans
      (comp_apply (X m c) (E m c) (W m c) (W2 m c) (G m c) b (y 1) 0 (x 2) (y 2) (h2.trans (by show _ = 0 * 128 + _; omega))).symm))

/-- The call's array after the run. -/
theorem final (c : Dev nD) : (dats m 0 c).arrAt 7 (cfgs 0).N = comp (X m c) (E m c) (W m c) (W2 m c) (G m c) := by
  refine (dats m 0 c).arrAt_eq_of_covers 7 _ (by decide +kernel) fun t _ y => ?_
  blk_simp
  rw [after0_7]
  have ht : t.val < 2 := lt_of_lt_of_eq t.isLt N_0
  have b0 : (y 0 : ℕ) < 1 := (y 0).isLt
  have hi : ((cfg0.win 7).blk t).view.emb y = ix3 (⟨t.val, ht⟩ : Fin 2) (y 1) (y 2) := by
    blk_ext [idx t]
  rw [hi]
  exact left_at m c t ⟨t.val, ht⟩ rfl y

end Cert.Kernel10Ideal.Comp

end
-- ==== Proof.CmpValsRef.lean ====
/-
  THE COMPRESSED VALUES, THE REFERENCE'S SIDE. The reference's array, entry by entry: the two-layer perceptron of every block of 32 rows of a
  head, the position embedding added first.
-/
module

public import proofs.«01_k».proof.Proof.Gen.Reference11Ideal.Run
public import proofs.«01_k».proof.Proof.CompressSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference11Ideal.Comp

open Cert.Reference11Ideal Cert.Reference11Ideal.Gen
open Cert.Compress

/-- The rows by chunks of 16 and by heads. -/
def chunks (a0 : FVec Ideal S16384x256 .f32) : FVec Ideal S2x512x16x2x128 .f32 := shapeCast _ a0 shapeCasts_S16384x256_S2x512x16x2x128

/-- The next chunk of every chunk, after the last the first. -/
def nexts (a0 : FVec Ideal S16384x256 .f32) : FVec Ideal S2x512x16x2x128 .f32 :=
  concatenate S2x512x16x2x128 1 [⟨S2x511x16x2x128, extractStridedSlice S2x511x16x2x128 ![0, 1, 0, 0, 0] (chunks a0) slices_S2x512x16x2x128_S2x511x16x2x128_0_1_0_0_0⟩,
    ⟨S2x1x16x2x128, extractStridedSlice S2x1x16x2x128 ![0, 0, 0, 0, 0] (chunks a0) slices_S2x512x16x2x128_S2x1x16x2x128_0_0_0_0_0⟩]
    concatenates_S2x511x16x2x128_S2x1x16x2x128_S2x512x16x2x128_d1

/-- The blocks of 32 rows of each head, the position embedding added. -/
def blocks (a0 : FVec Ideal S16384x256 .f32) (a1 : FVec Ideal S32x128 .f32) : FVec Ideal S2x512x2x4096 .f32 :=
  shapeCast _ (transpose S2x512x2x32x128 [0, 1, 3, 2, 4] (addf (concatenate S2x512x32x2x128 2 [⟨S2x512x16x2x128, chunks a0⟩, ⟨S2x512x16x2x128, nexts a0⟩]
    concatenates_S2x512x16x2x128_S2x512x16x2x128_S2x512x32x2x128_d2)
    (broadcastInDim S2x512x32x2x128 ![0, 1, 2, 3, 4] bcast_S1x1x32x1x128_S2x512x32x2x128_0_1_2_3_4 (broadcastInDim S1x1x32x1x128 ![2, 4] bcast_S32x128_S1x1x32x1x128_2_4 a1)))
    transposes_S2x512x32x2x128_S2x512x2x32x128_0_1_3_2_4) shapeCasts_S2x512x2x32x128_S2x512x2x4096

/-- The hidden layer before its SiLU. -/
def hid (a0 : FVec Ideal S16384x256 .f32) (a1 : FVec Ideal S32x128 .f32) (a2 : FVec Ideal S4096x256 .f32) : FVec Ideal S2x512x2x256 .f32 :=
  Host.dotGeneral dot_S2x512x2x4096_S4096x256_S2x512x2x256_3_0_012_1_n_n none (blocks a0 a1) a2

/-- The second layer on the SiLU of the hidden layer. -/
def layer2 (h : FVec Ideal S2x512x2x256 .f32) (a3 : FVec Ideal S256x128 .f32) : FVec Ideal S2x512x2x128 .f32 :=
  Host.dotGeneral dot_S2x512x2x256_S256x128_S2x512x2x128_3_0_012_1_n_n none (mulf h
    (Host.divf (broadcastInDim S2x512x2x256 ![] bcast_S_S2x512x2x256 (constant S_ .f32 0x3F800000#32))
      (addf (broadcastInDim S2x512x2x256 ![] bcast_S_S2x512x2x256 (constant S_ .f32 0x3F800000#32)) (Host.exp (Host.negf h))))) a3

/-- The perceptron's result for each head of each block. -/
def perceptron (a0 : FVec Ideal S16384x256 .f32) (a1 : FVec Ideal S32x128 .f32) (a2 : FVec Ideal S4096x256 .f32) (a3 : FVec Ideal S256x128 .f32) :
    FVec Ideal S2x512x2x128 .f32 := layer2 (hid a0 a1 a2) a3

/-- The compressed values. -/
def comp (a0 : FVec Ideal S16384x256 .f32) (a1 : FVec Ideal S32x128 .f32) (a2 : FVec Ideal S4096x256 .f32) (a3 : FVec Ideal S256x128 .f32) : FVec Ideal S2x512x256 .bf16 :=
  truncf .bf16 (shapeCast _ (perceptron a0 a1 a2 a3) shapeCasts_S2x512x2x128_S2x512x256) bitsLt_bf16_f32

/-- An entry of a chunk. -/
theorem chunks_apply (a0 : FVec Ideal S16384x256 .f32) (b : Fin 2) (n : Fin 512) (l : Fin 16) (g : Fin 2) (d : Fin 128) :
    chunks a0 (ix5 b n l g d) = a0 (ix2 (chunkRow b n l) (col g d)) := by
  have hb := b.isLt; have hn := n.isLt; have hl := l.isLt; have hg := g.isLt; have hd := d.isLt
  pointwise [chunks]
  refine congrArg₂ (fun x y => a0 (ix2 x y)) (Fin.ext ?_) (Fin.ext ?_) <;> simp only [chunkRow, col] <;> omega

/-- An entry of the next chunk. -/
theorem nexts_apply (a0 : FVec Ideal S16384x256 .f32) (b : Fin 2) (n : Fin 512) (l : Fin 16) (g : Fin 2) (d : Fin 128) :
    nexts a0 (ix5 b n l g d) = a0 (ix2 (chunkRow b (next n) l) (col g d)) := by
  have hn := n.isLt
  pointwise [nexts, chunks_apply]
  split_ifs with h
  all_goals
    refine congrArg (fun x => a0 (ix2 (chunkRow b x l) (col g d))) (Fin.ext ?_)
    simp only [next]; omega

/-- Entry `k` of block `n` of head `g`. -/
theorem blocks_apply (a0 : FVec Ideal S16384x256 .f32) (a1 : FVec Ideal S32x128 .f32) (b : Fin 2) (n : Fin 512) (g : Fin 2) (k : Fin 4096) :
    blocks a0 a1 (ix4 b n g k) = a0 (ix2 (row b n ⟨k.val / 128, by omega⟩) (col g ⟨k.val % 128, by omega⟩)) + a1 (ix2 ⟨k.val / 128, by omega⟩ ⟨k.val % 128, by omega⟩) := by
  have hb := b.isLt; have hn := n.isLt; have hk := k.isLt
  pointwise [blocks, chunks_apply, nexts_apply]
  split_ifs with h
  all_goals
    refine congrArg₂ (· + ·) (congrArg (fun x => a0 (ix2 x _)) (Fin.ext ?_)) rfl
    simp only [chunkRow, next, row]; omega

/-- The hidden layer's entries. -/
theorem hid_apply (a0 : FVec Ideal S16384x256 .f32) (a1 : FVec Ideal S32x128 .f32) (a2 : FVec Ideal S4096x256 .f32) (b : Fin 2) (n : Fin 512) (g : Fin 2) (j : Fin 256) :
    hid a0 a1 a2 (ix4 b n g j) = hiddenAt (fun r q => a0 (ix2 r q)) (fun l d => a1 (ix2 l d)) (fun k j => a2 (ix2 k j)) b n g j := by
  unfold hiddenAt
  pointwise [hid, blocks_apply]

/-- The second layer's entries. -/
theorem layer2_apply (h : FVec Ideal S2x512x2x256 .f32) (a3 : FVec Ideal S256x128 .f32) (b : Fin 2) (n : Fin 512) (g : Fin 2) (d : Fin 128) :
    layer2 h a3 (ix4 b n g d) = ∑ j : Fin 256, silu (h (ix4 b n g j)) * a3 (ix2 j d) := by
  unfold silu
  pointwise [layer2]

/-- The perceptron's entries. -/
theorem perceptron_apply (a0 : FVec Ideal S16384x256 .f32) (a1 : FVec Ideal S32x128 .f32) (a2 : FVec Ideal S4096x256 .f32) (a3 : FVec Ideal S256x128 .f32)
    (b : Fin 2) (n : Fin 512) (g : Fin 2) (d : Fin 128) :
    perceptron a0 a1 a2 a3 (ix4 b n g d) = entry (fun r q => a0 (ix2 r q)) (fun l d => a1 (ix2 l d)) (fun k j => a2 (ix2 k j)) (fun j d => a3 (ix2 j d)) b n g d := by
  rw [perceptron, layer2_apply, entry]
  exact Finset.sum_congr rfl fun j _ => by rw [hid_apply]

/-- The compressed values' entries. -/
theorem comp_apply (a0 : FVec Ideal S16384x256 .f32) (a1 : FVec Ideal S32x128 .f32) (a2 : FVec Ideal S4096x256 .f32) (a3 : FVec Ideal S256x128 .f32)
    (b : Fin 2) (n : Fin 512) (g : Fin 2) (d : Fin 128) (l : Fin 256) (hl : (l : ℕ) = g.val * 128 + d.val) :
    comp a0 a1 a2 a3 (ix3 b n l) = entry (fun r q => a0 (ix2 r q)) (fun l d => a1 (ix2 l d)) (fun k j => a2 (ix2 k j)) (fun j d => a3 (ix2 j d)) b n g d := by
  rw [← perceptron_apply]
  unfold comp
  generalize perceptron a0 a1 a2 a3 = y
  have hb := b.isLt; have hn := n.isLt; have hg := g.isLt; have hd := d.isLt
  have hlt : g.val * 128 + d.val < 256 := by omega
  obtain rfl : l = ⟨g.val * 128 + d.val, hlt⟩ := Fin.ext hl
  pointwise

end Cert.Reference11Ideal.Comp

end
-- ==== Proof.CmpValsCall.lean ====
/-
  THE COMPRESSED VALUES, THE CALL'S SIDE. What one point's body forms: the hidden layer of both heads from two products over both heads'
  columns, one for each chunk of 16 rows, the second rolled up by one row; and each head's second layer.
-/
module

public import proofs.«01_k».proof.Proof.Gen.Kernel11Ideal.Frame
public import proofs.«01_k».proof.Proof.CompressSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Kernel11Ideal.Comp

open Cert.Kernel11Ideal Cert.Kernel11Ideal.Gen
open Cert.Compress

/-- The table of ones where the two heads are the same. -/
def eye : FVec Ideal S2x2 .f32 :=
  uitofp .f32 (cmpi .eq (addi (iotaInDim S2x2 32 0) (broadcastInDim S2x2 ![] bcast_S_S2x2 (constantI S_ 32 0#32))) (iotaInDim S2x2 32 1))

theorem eye_apply (h g : Fin 2) : eye (ix2 h g) = same h g := by
  unfold same
  pointwise [eye]
  fin_cases h <;> fin_cases g <;> simp [FloatOps.uitofp, IntOp.cmpi, IntOp.addi]

/-- A chunk's weights for both heads' columns, zero from a head's columns to the other head. -/
def expand (w : FVec Ideal S16x128x256 .f32) : FVec Ideal S4096x512 .bf16 :=
  truncf .bf16 (shapeCast S4096x512 (mulf (broadcastInDim S16x2x128x2x256 ![0, 1, 2, 3, 4] bcast_S16x1x128x1x256_S16x2x128x2x256_0_1_2_3_4
      (broadcastInDim S16x1x128x1x256 ![0, 2, 4] bcast_S16x128x256_S16x1x128x1x256_0_2_4 w))
    (broadcastInDim S16x2x128x2x256 ![0, 1, 2, 3, 4] bcast_S1x2x1x2x1_S16x2x128x2x256_0_1_2_3_4 (broadcastInDim S1x2x1x2x1 ![1, 3] bcast_S2x2_S1x2x1x2x1_1_3 eye)))
    shapeCasts_S16x2x128x2x256_S4096x512) bitsLt_bf16_f32

theorem expand_apply (w : FVec Ideal S16x128x256 .f32) (q : Fin 4096) (g : Fin 2) (j : Fin 256) (c : Fin 512) (hc : (c : ℕ) = g.val * 256 + j.val) :
    expand w (ix2 q c) = same ⟨q.val / 128 % 2, by omega⟩ g * w (ix3 ⟨q.val / 256, by omega⟩ ⟨q.val % 128, by omega⟩ j) := by
  have hq := q.isLt; have hj := j.isLt; have hg := g.isLt
  have hlt : g.val * 256 + j.val < 512 := by omega
  obtain rfl : c = ⟨g.val * 256 + j.val, hlt⟩ := Fin.ext hc
  refine Eq.trans ?_ (mul_comm _ _)
  pointwise [expand, eye_apply]

/-- A chunk's position embedding for both heads' columns. -/
def spreadPe (p : FVec Ideal S16x128 .f32) : FVec Ideal S1x4096 .f32 :=
  shapeCast S1x4096 (broadcastInDim S16x2x128 ![0, 1, 2] bcast_S16x1x128_S16x2x128_0_1_2 (broadcastInDim S16x1x128 ![0, 2] bcast_S16x128_S16x1x128_0_2 p)) shapeCasts_S16x2x128_S1x4096

theorem spreadPe_apply (p : FVec Ideal S16x128 .f32) (q : Fin 4096) :
    spreadPe p (ix2 0 q) = p (ix2 ⟨q.val / 256, by omega⟩ ⟨q.val % 128, by omega⟩) := by
  have hq := q.isLt
  pointwise [spreadPe]

/-- The hidden layer as the call forms it, before its SiLU. -/
def pre (x0 : Vec Ideal S512x4096 .f32) (x1 : Vec Ideal S1x4096 .f32) (x3 : Vec Ideal S4096x512 .bf16) (x2 : Vec Ideal S1x4096 .f32) (x4 : Vec Ideal S4096x512 .bf16) : FVec Ideal S512x512 .f32 :=
  addf (matmul (φ₁ := .bf16) (φ₂ := .bf16) dot_S512x4096_S4096x512_S512x512_1_0_0_1_n_n none (truncf .bf16 (addf (φ := .f32) (shapeCast S512x4096 x0 shapeCasts_S512x4096_S512x4096)
      (broadcastTo S512x4096 (shapeCast S1x4096 x1 shapeCasts_S1x4096_S1x4096) broadcasts_S1x4096_S512x4096)) bitsLt_bf16_f32)
      (shapeCast S4096x512 x3 shapeCasts_S4096x512_S4096x512) (constant S512x512 .f32 0x00000000#32))
    (dynamicRotate 0 511#32 none (matmul (φ₁ := .bf16) (φ₂ := .bf16) dot_S512x4096_S4096x512_S512x512_1_0_0_1_n_n none (truncf .bf16 (addf (φ := .f32) (shapeCast S512x4096 x0 shapeCasts_S512x4096_S512x4096)
      (broadcastTo S512x4096 (shapeCast S1x4096 x2 shapeCasts_S1x4096_S1x4096) broadcasts_S1x4096_S512x4096)) bitsLt_bf16_f32)
      (shapeCast S4096x512 x4 shapeCasts_S4096x512_S4096x512) (constant S512x512 .f32 0x00000000#32)) rotates_S512x512_d0)

/-- Its entry for head `g` is the hidden layer's. -/
theorem pre_apply (A : Fin 16384 → Fin 256 → EReal) (P : Fin 32 → Fin 128 → EReal) (W : Fin 4096 → Fin 256 → EReal) (b : Fin 2)
    (x0 : Vec Ideal S512x4096 .f32) (x1 : Vec Ideal S1x4096 .f32) (x3 : Vec Ideal S4096x512 .bf16) (x2 : Vec Ideal S1x4096 .f32) (x4 : Vec Ideal S4096x512 .bf16)
    (h0 : ∀ (n : Fin 512) (q : Fin 4096), x0 (ix2 n q) = A (chunkRow b n ⟨q.val / 256, by omega⟩) ⟨q.val % 256, by omega⟩)
    (h1 : ∀ q : Fin 4096, x1 (ix2 0 q) = P ⟨q.val / 256, by omega⟩ ⟨q.val % 128, by omega⟩)
    (h2 : ∀ q : Fin 4096, x2 (ix2 0 q) = P ⟨16 + q.val / 256, by omega⟩ ⟨q.val % 128, by omega⟩)
    (h3 : ∀ (q : Fin 4096) (g : Fin 2) (j : Fin 256) (c : Fin 512), (c : ℕ) = g.val * 256 + j.val →
      x3 (ix2 q c) = same ⟨q.val / 128 % 2, by omega⟩ g * W ⟨q.val / 256 * 128 + q.val % 128, by omega⟩ j)
    (h4 : ∀ (q : Fin 4096) (g : Fin 2) (j : Fin 256) (c : Fin 512), (c : ℕ) = g.val * 256 + j.val →
      x4 (ix2 q c) = same ⟨q.val / 128 % 2, by omega⟩ g * W ⟨2048 + (q.val / 256 * 128 + q.val % 128), by omega⟩ j)
    (n : Fin 512) (g : Fin 2) (j : Fin 256) (c : Fin 512) (hc : (c : ℕ) = g.val * 256 + j.val) :
    pre x0 x1 x3 x2 x4 (ix2 n c) = hiddenAt A P W b n g j := by
  have e3 := fun q => h3 q g j c hc
  have e4 := fun q => h4 q g j c hc
  rw [← hidden_eq]
  pointwise [pre, h0, h1, h2, e3, e4]
  have hn := n.isLt
  have e : (⟨(n.val + 512 - 511) % 512, Nat.mod_lt _ (by decide)⟩ : Fin 512) = next n := Fin.ext (by simp only [next]; omega)
  simp only [e]

/-- The SiLU of a block. -/
def act (h : FVec Ideal S512x512 .f32) : FVec Ideal S512x512 .bf16 :=
  truncf .bf16 (mulf h (divf (broadcast S512x512 (Scalar.ofBits (F := Ideal) .f32 0x3F800000#32)) (addf (broadcast S512x512 (Scalar.ofBits (F := Ideal) .f32 0x3F800000#32))
    (exp (subf (broadcast S512x512 (Scalar.ofBits (F := Ideal) .f32 0x00000000#32)) h))))) bitsLt_bf16_f32

theorem act_apply (h : FVec Ideal S512x512 .f32) (n c : Fin 512) : act h (ix2 n c) = silu (h (ix2 n c)) := by
  unfold silu
  pointwise [act]
  rw [sub_eq_add_neg, zero_add]

/-- The SiLU's entries as the call forms them. -/
theorem silu_apply (A : Fin 16384 → Fin 256 → EReal) (P : Fin 32 → Fin 128 → EReal) (W : Fin 4096 → Fin 256 → EReal) (b : Fin 2)
    (x0 : Vec Ideal S512x4096 .f32) (x1 : Vec Ideal S1x4096 .f32) (x3 : Vec Ideal S4096x512 .bf16) (x2 : Vec Ideal S1x4096 .f32) (x4 : Vec Ideal S4096x512 .bf16)
    (h0 : ∀ (n : Fin 512) (q : Fin 4096), x0 (ix2 n q) = A (chunkRow b n ⟨q.val / 256, by omega⟩) ⟨q.val % 256, by omega⟩)
    (h1 : ∀ q : Fin 4096, x1 (ix2 0 q) = P ⟨q.val / 256, by omega⟩ ⟨q.val % 128, by omega⟩)
    (h2 : ∀ q : Fin 4096, x2 (ix2 0 q) = P ⟨16 + q.val / 256, by omega⟩ ⟨q.val % 128, by omega⟩)
    (h3 : ∀ (q : Fin 4096) (g : Fin 2) (j : Fin 256) (c : Fin 512), (c : ℕ) = g.val * 256 + j.val →
      x3 (ix2 q c) = same ⟨q.val / 128 % 2, by omega⟩ g * W ⟨q.val / 256 * 128 + q.val % 128, by omega⟩ j)
    (h4 : ∀ (q : Fin 4096) (g : Fin 2) (j : Fin 256) (c : Fin 512), (c : ℕ) = g.val * 256 + j.val →
      x4 (ix2 q c) = same ⟨q.val / 128 % 2, by omega⟩ g * W ⟨2048 + (q.val / 256 * 128 + q.val % 128), by omega⟩ j)
    (n : Fin 512) (g : Fin 2) (j : Fin 256) (c : Fin 512) (hc : (c : ℕ) = g.val * 256 + j.val) :
    k0_pay2 x0 x1 x3 x2 x4 (ix2 n c) = silu (hiddenAt A P W b n g j) := by
  rw [show k0_pay2 x0 x1 x3 x2 x4 = act (pre x0 x1 x3 x2 x4) from rfl, act_apply, pre_apply A P W b x0 x1 x3 x2 x4 h0 h1 h2 h3 h4 n g j c hc]

/-- The first head's second layer as the call forms it. -/
def low (a : FVec Ideal S512x512 .bf16) (w : Vec Ideal S256x128 .bf16) : FVec Ideal S1x512x128 .bf16 :=
  shapeCast S1x512x128 (truncf .bf16 (matmul dot_S512x256_S256x128_S512x128_1_0_0_1_n_n none (extractStridedSlice S512x256 ![0, 0] a slices_S512x512_o0_0_S512x256)
    (shapeCast S256x128 w shapeCasts_S256x128_S256x128 : FVec Ideal S256x128 .bf16) (constant S512x128 .f32 0x00000000#32)) bitsLt_bf16_f32) shapeCasts_S512x128_S1x512x128

theorem low_apply (a : FVec Ideal S512x512 .bf16) (w : Vec Ideal S256x128 .bf16) (n : Fin 512) (d : Fin 128) :
    low a w (ix3 0 n d) = ∑ j : Fin 256, a (ix2 n ⟨j.val, by omega⟩) * w (ix2 j d) := by
  pointwise [low]

theorem high_apply (a : FVec Ideal S512x512 .bf16) (w : Vec Ideal S256x128 .bf16) (n : Fin 512) (d : Fin 128) :
    k0_pay1 a w (ix3 0 n d) = ∑ j : Fin 256, a (ix2 n ⟨256 + j.val, by omega⟩) * w (ix2 j d) := by
  pointwise [k0_pay1]

end Cert.Kernel11Ideal.Comp

end
-- ==== Proof.CmpValsValue.lean ====
/-
  THE COMPRESSED VALUES' VALUE. At exact arithmetic the array the call leaves is the reference's: the two-layer perceptron of every block of
  32 rows of a head, the position embedding added first.
-/
module

public import proofs.«01_k».proof.Proof.Gen.Kernel11Ideal.Value
public import proofs.«01_k».proof.Proof.CmpValsRef
public import proofs.«01_k».proof.Proof.CmpValsCall
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Kernel11Ideal.Comp

open Cert.Kernel11Ideal Cert.Kernel11Ideal.Gen
open Cert.Compress
open Cert.Reference11Ideal.Comp (comp comp_apply)

variable (m : (ℓ : Loc nD τ sig) → Buf (Elt Ideal) ℓ)

/-- Where each window's block sits at point `t`: the rows and the result at `t`, the embeddings, weights and gain whole. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] :=
  (by decide +kernel : ∀ t : Fin grid0.N, _)

/-- The rows the call is given. -/
abbrev X (c : Dev nD) : S16384x256.Idx → EReal := m ((c : Thread nD τ).loc main_arg0)
/-- The position embedding. -/
abbrev E (c : Dev nD) : S32x128.Idx → EReal := m ((c : Thread nD τ).loc main_arg1)
/-- The first layer's weights. -/
abbrev W (c : Dev nD) : S4096x256.Idx → EReal := m ((c : Thread nD τ).loc main_arg2)
/-- The second layer's weights. -/
abbrev W2 (c : Dev nD) : S256x128.Idx → EReal := m ((c : Thread nD τ).loc main_arg3)

/-- The call stages each chunk of 16 rows as one row. -/
theorem staged0 (c : Dev nD) : V m c main_v0 = shapeCast S1024x4096 (m ((c : Thread nD τ).loc main_arg0)) shapeCasts_S16384x256_S1024x4096 := by
  unfold V hostOps0
  after_results
  rfl

set_option maxHeartbeats 2000000 in
/-- The call stages the first chunk's position embedding for both heads. -/
theorem staged1 (c : Dev nD) : V m c main_v11 = spreadPe (extractStridedSlice S16x128 ![0, 0] (m ((c : Thread nD τ).loc main_arg1)) slices_S32x128_S16x128_0_0) := by
  unfold V hostOps0
  after_results
  rfl

set_option maxHeartbeats 2000000 in
/-- The call stages the second chunk's position embedding for both heads. -/
theorem staged2 (c : Dev nD) : V m c main_v15 = spreadPe (extractStridedSlice S16x128 ![16, 0] (m ((c : Thread nD τ).loc main_arg1)) slices_S32x128_S16x128_16_0) := by
  unfold V hostOps0
  after_results
  rfl

set_option maxHeartbeats 2000000 in
/-- The call stages the first chunk's weights for both heads. -/
theorem staged3 (c : Dev nD) : V m c main_v23 = expand (extractStridedSlice S16x128x256 ![0, 0, 0] (shapeCast S32x128x256 (m ((c : Thread nD τ).loc main_arg2)) shapeCasts_S4096x256_S32x128x256) slices_S32x128x256_S16x128x256_0_0_0) := by
  unfold V hostOps0
  after_results
  rfl

set_option maxHeartbeats 2000000 in
/-- The call stages the second chunk's weights for both heads. -/
theorem staged4 (c : Dev nD) : V m c main_v31 = expand (extractStridedSlice S16x128x256 ![16, 0, 0] (shapeCast S32x128x256 (m ((c : Thread nD τ).loc main_arg2)) shapeCasts_S4096x256_S32x128x256) slices_S32x128x256_S16x128x256_16_0_0) := by
  unfold V hostOps0
  after_results
  rfl

set_option maxHeartbeats 2000000 in
/-- The call stages the second layer's weights. -/
theorem staged5 (c : Dev nD) : V m c main_v34 = (truncf .bf16 (m ((c : Thread nD τ).loc main_arg3) : FVec Ideal S256x128 .f32) bitsLt_bf16_f32 : FVec Ideal S256x128 .bf16) := by
  unfold V hostOps0
  after_results

/-- The rows' block: one sequence's chunks. -/
theorem rows (c : Dev nD) (t : Fin cfg0.N) (b : Fin 2) (hb : b.val = t.val) (n : Fin 512) (q : Fin 4096) :
    (iblk m c 0 t : S512x4096.Idx → EReal) (ix2 n q) = X m c (ix2 (chunkRow b n ⟨q.val / 256, by omega⟩) ⟨q.val % 256, by omega⟩) := by
  have hb' := b.isLt; have hn := n.isLt; have hq := q.isLt
  have hR : ((⟨b.val * 512 + n.val, by omega⟩ : Fin 1024) : ℕ) = t.val * 512 + n.val := by rw [← hb]
  refine Eq.trans (b := (V m c main_v0 : S1024x4096.Idx → EReal) (ix2 ⟨b.val * 512 + n.val, by omega⟩ q)) (by blk_point [iblk, idx t, hR, hb]) ?_
  rw [staged0 m c]
  change shapeCast S1024x4096 (X m c) _ (ix2 _ q) = _
  generalize X m c = A
  pointwise
  refine congrArg₂ (fun x y => A (ix2 x y)) (Fin.ext ?_) (Fin.ext ?_) <;> simp only [chunkRow] <;> omega

/-- The first chunk's position embedding. -/
theorem emb1 (c : Dev nD) (t : Fin cfg0.N) (q : Fin 4096) :
    (iblk m c 1 t : S1x4096.Idx → EReal) (ix2 0 q) = E m c (ix2 ⟨q.val / 256, by omega⟩ ⟨q.val % 128, by omega⟩) := by
  have hq := q.isLt
  refine Eq.trans (b := (V m c main_v11 : S1x4096.Idx → EReal) (ix2 0 q)) (by blk_point [iblk, idx t]) ?_
  rw [staged1 m c]
  change spreadPe (extractStridedSlice S16x128 ![0, 0] (E m c) _) (ix2 0 q) = _
  generalize E m c = A
  rw [spreadPe_apply]
  pointwise

/-- The second chunk's position embedding. -/
theorem emb2 (c : Dev nD) (t : Fin cfg0.N) (q : Fin 4096) :
    (iblk m c 2 t : S1x4096.Idx → EReal) (ix2 0 q) = E m c (ix2 ⟨16 + q.val / 256, by omega⟩ ⟨q.val % 128, by omega⟩) := by
  have hq := q.isLt
  refine Eq.trans (b := (V m c main_v15 : S1x4096.Idx → EReal) (ix2 0 q)) (by blk_point [iblk, idx t]) ?_
  rw [staged2 m c]
  change spreadPe (extractStridedSlice S16x128 ![16, 0] (E m c) _) (ix2 0 q) = _
  generalize E m c = A
  rw [spreadPe_apply]
  pointwise

/-- The first chunk's weights. -/
theorem weights3 (c : Dev nD) (t : Fin cfg0.N) (q : Fin 4096) (g : Fin 2) (j : Fin 256) (k : Fin 512) (hk : (k : ℕ) = g.val * 256 + j.val) :
    (iblk m c 3 t : S4096x512.Idx → EReal) (ix2 q k) = same ⟨q.val / 128 % 2, by omega⟩ g * W m c (ix2 ⟨q.val / 256 * 128 + q.val % 128, by omega⟩ j) := by
  have hq := q.isLt
  refine Eq.trans (b := (V m c main_v23 : S4096x512.Idx → EReal) (ix2 q k)) (by blk_point [iblk, idx t]) ?_
  rw [staged3 m c]
  change expand (extractStridedSlice S16x128x256 ![0, 0, 0] (shapeCast S32x128x256 (W m c) _) _) (ix2 q k) = _
  generalize W m c = A
  rw [expand_apply _ q g j k hk]
  refine congrArg₂ (· * ·) rfl ?_
  pointwise

/-- The second chunk's weights. -/
theorem weights4 (c : Dev nD) (t : Fin cfg0.N) (q : Fin 4096) (g : Fin 2) (j : Fin 256) (k : Fin 512) (hk : (k : ℕ) = g.val * 256 + j.val) :
    (iblk m c 4 t : S4096x512.Idx → EReal) (ix2 q k) = same ⟨q.val / 128 % 2, by omega⟩ g * W m c (ix2 ⟨2048 + (q.val / 256 * 128 + q.val % 128), by omega⟩ j) := by
  have hq := q.isLt
  refine Eq.trans (b := (V m c main_v31 : S4096x512.Idx → EReal) (ix2 q k)) (by blk_point [iblk, idx t]) ?_
  rw [staged4 m c]
  change expand (extractStridedSlice S16x128x256 ![16, 0, 0] (shapeCast S32x128x256 (W m c) _) _) (ix2 q k) = _
  generalize W m c = A
  rw [expand_apply _ q g j k hk]
  refine congrArg₂ (· * ·) rfl ?_
  pointwise
  refine congrArg (fun x => A (ix2 x j)) (Fin.ext ?_)
  simp only []; omega

/-- The second layer's weights. -/
theorem weights5 (c : Dev nD) (t : Fin cfg0.N) (j : Fin 256) (d : Fin 128) :
    (iblk m c 5 t : S256x128.Idx → EReal) (ix2 j d) = W2 m c (ix2 j d) := by
  refine Eq.trans (b := (V m c main_v34 : S256x128.Idx → EReal) (ix2 j d)) (by blk_point [iblk, idx t]) ?_
  rw [staged5 m c]
  rfl

/-- Loading a whole block is the block. -/
theorem ld0 (x : Vec Ideal S512x4096 .f32) : View.ld x r0_0 = x := View.ld_unit_zero (by funext a; fin_cases a <;> rfl) _ x
theorem ld1 (x : Vec Ideal S1x4096 .f32) : View.ld x r0_1 = x := View.ld_unit_zero (by funext a; fin_cases a <;> rfl) _ x
theorem ld2 (x : Vec Ideal S4096x512 .bf16) : View.ld x r0_2 = x := View.ld_unit_zero (by funext a; fin_cases a <;> rfl) _ x
theorem ld3 (x : Vec Ideal S256x128 .bf16) : View.ld x r0_3 = x := View.ld_unit_zero (by funext a; fin_cases a <;> rfl) _ x

/-- The first head's payload. -/
theorem piece0 (c : Dev nD) (t : Fin cfg0.N) (b : Fin 2) (hb : b.val = t.val) (n : Fin 512) (d : Fin 128) :
    k0_pay3 (F := Ideal) (iblk m c 0 t) (iblk m c 1 t) (iblk m c 3 t) (iblk m c 2 t) (iblk m c 4 t) (iblk m c 5 t) (ix3 0 n d) = entry (fun r q => X m c (ix2 r q)) (fun l d => E m c (ix2 l d)) (fun k j => W m c (ix2 k j)) (fun j d => W2 m c (ix2 j d)) b n 0 d := by
  refine (low_apply (k0_pay2 (F := Ideal) (iblk m c 0 t) (iblk m c 1 t) (iblk m c 3 t) (iblk m c 2 t) (iblk m c 4 t)) (iblk m c 5 t) n d).trans ?_
  rw [entry]
  refine Finset.sum_congr rfl fun j _ => congrArg₂ (· * ·) ?_ (weights5 m c t j d)
  exact silu_apply (fun r q => X m c (ix2 r q)) (fun l d => E m c (ix2 l d)) (fun k j => W m c (ix2 k j)) b _ _ _ _ _ (rows m c t b hb) (emb1 m c t) (emb2 m c t) (weights3 m c t) (weights4 m c t) n 0 j _ (by simp)

/-- The second head's payload. -/
theorem piece1 (c : Dev nD) (t : Fin cfg0.N) (b : Fin 2) (hb : b.val = t.val) (n : Fin 512) (d : Fin 128) :
    k0_pay1 (F := Ideal) (k0_pay2 (F := Ideal) (iblk m c 0 t) (iblk m c 1 t) (iblk m c 3 t) (iblk m c 2 t) (iblk m c 4 t)) (iblk m c 5 t) (ix3 0 n d) = entry (fun r q => X m c (ix2 r q)) (fun l d => E m c (ix2 l d)) (fun k j => W m c (ix2 k j)) (fun j d => W2 m c (ix2 j d)) b n 1 d := by
  refine (high_apply (k0_pay2 (F := Ideal) (iblk m c 0 t) (iblk m c 1 t) (iblk m c 3 t) (iblk m c 2 t) (iblk m c 4 t)) (iblk m c 5 t) n d).trans ?_
  rw [entry]
  refine Finset.sum_congr rfl fun j _ => congrArg₂ (· * ·) ?_ (weights5 m c t j d)
  exact silu_apply (fun r q => X m c (ix2 r q)) (fun l d => E m c (ix2 l d)) (fun k j => W m c (ix2 k j)) b _ _ _ _ _ (rows m c t b hb) (emb1 m c t) (emb2 m c t) (weights3 m c t) (weights4 m c t) n 1 j _ (by simp)

/-- What the body leaves at `y` of point `t`. -/
theorem left_at (c : Dev nD) (t : Fin cfg0.N) (b : Fin 2) (hb : b.val = t.val) (y : S1x512x256.Idx) :
    out0_7 (iblk m c 0 t) (iblk m c 1 t) (iblk m c 2 t) (iblk m c 3 t) (iblk m c 4 t) (iblk m c 5 t) (iblk m c 6 t) y
      = comp (X m c) (E m c) (W m c) (W2 m c) (ix3 b (y 1) (y 2)) := by
  unfold out0_7
  rw [ld0, ld1, ld1, ld2, ld2, ld3]
  canon_tiles x h
  · have e : x = ix3 (0 : Fin 1) (x 1) (x 2) := (eq_ix3 x).trans (congrArg (fun i : Fin 1 => ix3 i (x 1) (x 2)) (Subsingleton.elim (α := Fin 1) _ _))
    have e1 : (x 1 : Fin 512) = y 1 := Fin.ext h1.symm
    exact (congrArg _ e).trans ((piece1 m c t b hb (x 1) (x 2)).trans ((congrArg (fun n : Fin 512 => entry (fun r q => X m c (ix2 r q)) (fun l d => E m c (ix2 l d)) (fun k j => W m c (ix2 k j)) (fun j d => W2 m c (ix2 j d)) b n 1 (x 2)) e1).trans
      (comp_apply (X m c) (E m c) (W m c) (W2 m c) b (y 1) 1 (x 2) (y 2) (h2.trans (by show _ = 1 * 128 + _; omega))).symm))
  · have e : x = ix3 (0 : Fin 1) (x 1) (x 2) := (eq_ix3 x).trans (congrArg (fun i : Fin 1 => ix3 i (x 1) (x 2)) (Subsingleton.elim (α := Fin 1) _ _))
    have e1 : (x 1 : Fin 512) = y 1 := Fin.ext h1.symm
    exact (congrArg _ e).trans ((piece0 m c t b hb (x 1) (x 2)).trans ((congrArg (fun n : Fin 512 => entry (fun r q => X m c (ix2 r q)) (fun l d => E m c (ix2 l d)) (fun k j => W m c (ix2 k j)) (fun j d => W2 m c (ix2 j d)) b n 0 (x 2)) e1).trans
      (comp_apply (X m c) (E m c) (W m c) (W2 m c) b (y 1) 0 (x 2) (y 2) (h2.trans (by show _ = 0 * 128 + _; omega))).symm))

/-- The call's array after the run. -/
theorem final (c : Dev nD) : (dats m 0 c).arrAt 7 (cfgs 0).N = comp (X m c) (E m c) (W m c) (W2 m c) := by
  refine (dats m 0 c).arrAt_eq_of_covers 7 _ (by decide +kernel) fun t _ y => ?_
  blk_simp
  rw [after0_7]
  have ht : t.val < 2 := lt_of_lt_of_eq t.isLt N_0
  have b0 : (y 0 : ℕ) < 1 := (y 0).isLt
  have hi : ((cfg0.win 7).blk t).view.emb y = ix3 (⟨t.val, ht⟩ : Fin 2) (y 1) (y 2) := by
    blk_ext [idx t]
  rw [hi]
  exact left_at m c t ⟨t.val, ht⟩ rfl y

end Cert.Kernel11Ideal.Comp

end
-- ==== Proof.lean ====
/-
  THE CERTIFICATE. The compressed attention's call of the sparse-attention branch (a `lax.switch` over the width of visible keys) and the
  call that merges the branches and adds the per-layer embedding, and the calls of the first norm, of the input projection and of the compression before them: each runs
  without fault, leaves its arguments and its semaphores as they were, and computes what the plain reference computes over the
  extended reals.
-/
module

public import proofs.«01_k».proof.Defs
public import proofs.«01_k».proof.Proof.CmpRun
public import proofs.«01_k».proof.Proof.CmpRunIdeal
public import proofs.«01_k».proof.Proof.CmpValue
public import proofs.«01_k».proof.Proof.MergeValue
public import proofs.«01_k».proof.Proof.GateValue
public import proofs.«01_k».proof.Proof.SiluValue
public import proofs.«01_k».proof.Proof.HeadNormValue
public import proofs.«01_k».proof.Proof.ValsValue
public import proofs.«01_k».proof.Proof.HeadsValue
public import proofs.«01_k».proof.Proof.RawValue
public import proofs.«01_k».proof.Proof.NormValue
public import proofs.«01_k».proof.Proof.CmpKeysValue
public import proofs.«01_k».proof.Proof.CmpValsValue
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The compressed attention's reference leaves its arguments alone, and has no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The merge call's reference leaves its arguments alone, and has no semaphore. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The merge call and its reference end with the same array. -/
theorem merge_value : Cert.algebraic_Kernel2Ideal_Reference2Ideal (hKernel2Ideal := Cert.Kernel2Ideal.Gen.facts) (hReference2Ideal := Cert.Reference2Ideal.Gen.facts) := by
  intro m g m' g' hpre hagree
  refine ⟨fun c => (Cert.Kernel2Ideal.Gen.dats m 0 c).arrAt 12 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7, h8, h9, h10⟩ := hagree c
  refine ((Cert.Reference2Ideal.Merge.res_eq m' c).trans ?_).trans (Cert.Kernel2Ideal.Merge.final m c).symm
  rw [h0, h1, h2, h3, h4, h5, h6, h7, h8, h9, h10]

/-- The compressed attention's call and its reference end with the same array, when the queries and the keys are finite. -/
theorem cmp_value : Cert.algebraic_KernelIdeal_ReferenceIdeal_pre_finite_qk (hKernelIdeal := Cert.KernelIdeal.Gen.facts)
    (hReferenceIdeal := Cert.ReferenceIdeal.Gen.facts) (hPre_finite_qk := Cert.KernelIdeal.Cmp.pre_facts) := by
  intro m g m' g' hpre hagree
  refine ⟨fun c => (Cert.KernelIdeal.Cmp.dats m 0 c).arrAt 6 (Cert.KernelIdeal.cfgs 0).N, ?_, ?_⟩
  · have both := θ_run_and (Cert.KernelIdeal.Cmp.run_main m g) (Cert.KernelIdeal.Cmp.frame m g)
    exact (θ_run _ _ _).mono (fun r h c => ⟨(h.1 c).1 6, h.2.1 c⟩) both
  · refine (θ_run _ _ _).mono (fun r h c => ⟨(h c).1.trans ?_, (h c).2⟩) (Cert.ReferenceIdeal.Value.run m' g')
    obtain ⟨h0, h1, h2⟩ := hagree c
    refine ((Cert.ReferenceIdeal.Cmp.res_eq m' c).trans ?_).trans (Cert.KernelIdeal.Cmp.final m c (Cert.KernelIdeal.Cmp.finite_of_pre m hpre c)).symm
    rw [h0, h1, h2]

/-- The merge gates' call: the reference leaves its arguments alone, and has no semaphore. -/
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The merge gates' call and its reference end with the same array. -/
theorem value3 : Cert.algebraic_Kernel3Ideal_Reference3Ideal (hKernel3Ideal := Cert.Kernel3Ideal.Gen.facts) (hReference3Ideal := Cert.Reference3Ideal.Gen.facts) := by
  intro m g m' g' hpre hagree
  refine ⟨fun c => (Cert.Kernel3Ideal.Gen.dats m 0 c).arrAt 2 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1⟩ := hagree c
  refine Eq.trans ?_ (Cert.Kernel3Ideal.Gate.final m c).symm
  rw [h0, h1]; rfl

/-- The mixers' gates' call: the reference leaves its arguments alone, and has no semaphore. -/
theorem reference4_frame : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The mixers' gates' call and its reference end with the same array. -/
theorem value4 : Cert.algebraic_Kernel4Ideal_Reference4Ideal (hKernel4Ideal := Cert.Kernel4Ideal.Gen.facts) (hReference4Ideal := Cert.Reference4Ideal.Gen.facts) := by
  intro m g m' g' hpre hagree
  refine ⟨fun c => (Cert.Kernel4Ideal.Gen.dats m 0 c).arrAt 2 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨h0, h1⟩ := hagree c
  refine Eq.trans ?_ (Cert.Kernel4Ideal.Silu.final m c).symm
  rw [h0, h1]; rfl

/-- The queries' and keys' call: the reference leaves its arguments alone, and has no semaphore. -/
theorem reference5_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The queries' and keys' call and its reference end with the same array. -/
theorem value5 : Cert.algebraic_Kernel5Ideal_Reference5Ideal (hKernel5Ideal := Cert.Kernel5Ideal.Gen.facts) (hReference5Ideal := Cert.Reference5Ideal.Gen.facts) := by
  intro m g m' g' hpre hagree
  refine ⟨fun c => (Cert.Kernel5Ideal.Gen.dats m 0 c).arrAt 3 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨h0, h1, h2, h3, h4, h5, h6⟩ := hagree c
  refine ((Cert.Reference5Ideal.HeadNorm.res_eq m' c).trans ?_).trans (Cert.Kernel5Ideal.HeadNorm.final m c).symm
  rw [h0, h1, h2, h3, h4, h5, h6]

/-- The values' call: the reference leaves its arguments alone, and has no semaphore. -/
theorem reference6_frame : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The values' call and its reference end with the same array. -/
theorem value6 : Cert.algebraic_Kernel6Ideal_Reference6Ideal (hKernel6Ideal := Cert.Kernel6Ideal.Gen.facts) (hReference6Ideal := Cert.Reference6Ideal.Gen.facts) := by
  intro m g m' g' hpre hagree
  refine ⟨fun c => (Cert.Kernel6Ideal.Gen.dats m 0 c).arrAt 2 Cert.Kernel6Ideal.cfg0.N, Cert.Kernel6Ideal.Value.run_blocks m g, ?_⟩
  refine (θ_run _ _ _).mono (fun r h c => ⟨(h c).1.trans ?_, (h c).2⟩) (Cert.Reference6Ideal.Value.run m' g')
  obtain ⟨h0, h1⟩ := hagree c
  refine Eq.trans ?_ (Cert.Kernel6Ideal.Vals.final m c).symm
  rw [h0, h1]; rfl

/-- The indexer queries' call: the reference leaves its arguments alone, and has no semaphore. -/
theorem reference7_frame : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

/-- The indexer queries' call and its reference end with the same array. -/
theorem value7 : Cert.algebraic_Kernel7Ideal_Reference7Ideal (hKernel7Ideal := Cert.Kernel7Ideal.Gen.facts) (hReference7Ideal := Cert.Reference7Ideal.Gen.facts) := by
  intro m g m' g' hpre hagree
  refine ⟨fun c => (Cert.Kernel7Ideal.Gen.dats m 0 c).arrAt 2 Cert.Kernel7Ideal.cfg0.N, Cert.Kernel7Ideal.Value.run_blocks m g, ?_⟩
  refine (θ_run _ _ _).mono (fun r h c => ⟨(h c).1.trans ?_, (h c).2⟩) (Cert.Reference7Ideal.Value.run m' g')
  obtain ⟨h0, h1⟩ := hagree c
  refine Eq.trans ?_ (Cert.Kernel7Ideal.Heads.final m c).symm
  rw [h0, h1]; rfl

/-- The raw split's call: the reference leaves its arguments alone, and has no semaphore. -/
theorem reference8_frame : Cert.quiescent_Reference8Ideal (hReference8Ideal := Cert.Reference8Ideal.Gen.facts) := fun m ρ _ =>
  (θ_run _ _ _).mono (fun r h => ⟨fun c => (h c).2.2.2, sem_eq_zero_of_no_sems (by decide) r.2⟩) (Cert.Reference8Ideal.Value.run m ρ)

/-- The raw split's call and its reference end with the same three arrays. -/
theorem value8 : Cert.algebraic_Kernel8Ideal_Reference8Ideal (hKernel8Ideal := Cert.Kernel8Ideal.Gen.facts) (hReference8Ideal := Cert.Reference8Ideal.Gen.facts) := by
  intro m g m' g' hpre hagree
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N,
    fun c => (Cert.Kernel8Ideal.Gen.dats m 0 c).arrAt 4 Cert.Kernel8Ideal.cfg0.N, Cert.Kernel8Ideal.Value.run_blocks m g, ?_⟩
  refine (θ_run _ _ _).mono (fun r h c => ⟨(h c).1.trans ?_, (h c).2.1.trans ?_, (h c).2.2.1.trans ?_, (h c).2.2.2⟩) (Cert.Reference8Ideal.Value.run m' g')
  all_goals obtain ⟨h0, h1⟩ := hagree c
  · refine Eq.trans ?_ (Cert.Kernel8Ideal.Raw.final2 m c).symm
    rw [h0, h1]; rfl
  · refine Eq.trans ?_ (Cert.Kernel8Ideal.Raw.final3 m c).symm
    rw [h0, h1]; rfl
  · refine Eq.trans ?_ (Cert.Kernel8Ideal.Raw.final4 m c).symm
    rw [h0, h1]; rfl

/-- The first norm's call: the reference leaves its arguments alone, and has no semaphore. -/
theorem reference9_frame : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)

/-- The first norm's call and its reference end with the same array. -/
theorem value9 : Cert.algebraic_Kernel9Ideal_Reference9Ideal (hKernel9Ideal := Cert.Kernel9Ideal.Gen.facts) (hReference9Ideal := Cert.Reference9Ideal.Gen.facts) := by
  intro m g m' g' hpre hagree
  refine ⟨fun c => (Cert.Kernel9Ideal.Gen.dats m 0 c).arrAt 2 Cert.Kernel9Ideal.cfg0.N, Cert.Kernel9Ideal.Value.run_blocks m g, ?_⟩
  refine (θ_run _ _ _).mono (fun r h c => ⟨(h c).1.trans ?_, (h c).2⟩) (Cert.Reference9Ideal.Value.run m' g')
  obtain ⟨h0, h1⟩ := hagree c
  refine Eq.trans ?_ (Cert.Kernel9Ideal.Norm.final m c).symm
  rw [h0, h1]; rfl

/-- The keys' compression: the reference leaves its arguments alone, and has no semaphore. -/
theorem reference10_frame : Cert.quiescent_Reference10Ideal (hReference10Ideal := Cert.Reference10Ideal.Gen.facts) := fun m ρ _ =>
  (θ_run _ _ _).mono (fun r h => ⟨fun c => (h c).2, sem_eq_zero_of_no_sems (by decide) r.2⟩) (Cert.Reference10Ideal.Value.run m ρ)

/-- The keys' compression and its reference end with the same array. -/
theorem value10 : Cert.algebraic_Kernel10Ideal_Reference10Ideal (hKernel10Ideal := Cert.Kernel10Ideal.Gen.facts) (hReference10Ideal := Cert.Reference10Ideal.Gen.facts) := by
  intro m g m' g' hpre hagree
  refine ⟨fun c => (Cert.Kernel10Ideal.Gen.dats m 0 c).arrAt 7 Cert.Kernel10Ideal.cfg0.N, Cert.Kernel10Ideal.Value.run_blocks m g, ?_⟩
  refine (θ_run _ _ _).mono (fun r h c => ⟨(h c).1.trans ?_, (h c).2⟩) (Cert.Reference10Ideal.Value.run m' g')
  obtain ⟨h0, h1, h2, h3, h4⟩ := hagree c
  refine ((Cert.Reference10Ideal.Comp.res_eq m' c).trans ?_).trans (Cert.Kernel10Ideal.Comp.final m c).symm
  rw [h0, h1, h2, h3, h4]

/-- The values' compression: the reference leaves its arguments alone, and has no semaphore. -/
theorem reference11_frame : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run m ρ)

/-- The values' compression and its reference end with the same array. -/
theorem value11 : Cert.algebraic_Kernel11Ideal_Reference11Ideal (hKernel11Ideal := Cert.Kernel11Ideal.Gen.facts) (hReference11Ideal := Cert.Reference11Ideal.Gen.facts) := by
  intro m g m' g' hpre hagree
  refine ⟨fun c => (Cert.Kernel11Ideal.Gen.dats m 0 c).arrAt 7 Cert.Kernel11Ideal.cfg0.N, Cert.Kernel11Ideal.Value.run_blocks m g, ?_⟩
  refine (θ_run _ _ _).mono (fun r h c => ⟨(h c).1.trans ?_, (h c).2⟩) (Cert.Reference11Ideal.Value.run m' g')
  obtain ⟨h0, h1, h2, h3⟩ := hagree c
  refine Eq.trans ?_ (Cert.Kernel11Ideal.Comp.final m c).symm
  rw [h0, h1, h2, h3]; rfl

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.KernelIdeal.Cmp.pre_facts,
  fun m ρ _ => Cert.Kernel.Cmp.frame m ρ,
  fun m ρ _ => Cert.KernelIdeal.Cmp.frame m ρ,
  fun m ρ _ => Cert.KernelIdeal.Cmp.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  IdealRules.named_const.statement Cert.KernelIdeal.κ "mask" .f32 0xF149F2CA#32 ⊥ rfl,
  cmp_value,
  trivial,
  merge_value,
  trivial, value3,
  trivial, value4,
  trivial, value5,
  trivial, value6,
  trivial, value7,
  trivial, value8,
  trivial, value9,
  trivial, value10,
  trivial, value11⟩

end Cert.Proof

end
